-- ==== Defs.lean ====
def Pre_AttnA (m : (ℓ : Loc Cert.AttnA.nD Cert.AttnA.τ Cert.AttnA.sig) → Buf (Elt Bits) ℓ) : Prop :=
  True

def Pre_AttnAIdeal (m : (ℓ : Loc Cert.AttnAIdeal.nD Cert.AttnAIdeal.τ Cert.AttnAIdeal.sig) → Buf (Elt Ideal) ℓ) : Prop :=
  True

def Pre_AttnAIdeal_finite [hPre_finite : Cert.Pre_finite.Facts] (m : (ℓ : Loc Cert.AttnAIdeal.nD Cert.AttnAIdeal.τ Cert.AttnAIdeal.sig) → Buf (Elt Ideal) ℓ) : Prop :=
  ∀ c : Dev Cert.AttnAIdeal.nD,
    (Cert.Pre_finite.fn (F := Ideal) (m ((c.tc : Thread Cert.AttnAIdeal.nD Cert.AttnAIdeal.τ).loc Cert.AttnAIdeal.main_arg0)) (m ((c.tc : Thread Cert.AttnAIdeal.nD Cert.AttnAIdeal.τ).loc Cert.AttnAIdeal.main_arg1)) (m ((c.tc : Thread Cert.AttnAIdeal.nD Cert.AttnAIdeal.τ).loc Cert.AttnAIdeal.main_arg2)) (m ((c.tc : Thread Cert.AttnAIdeal.nD Cert.AttnAIdeal.τ).loc Cert.AttnAIdeal.main_arg3))) = (fun _ => 1#1)

def Pre_AttnARefIdeal (m : (ℓ : Loc Cert.AttnARefIdeal.nD Cert.AttnARefIdeal.τ Cert.AttnARefIdeal.sig) → Buf (Elt Ideal) ℓ) : Prop :=
  True

def Pre_AttnARefIdeal_finite [hPre_finite : Cert.Pre_finite.Facts] (m : (ℓ : Loc Cert.AttnARefIdeal.nD Cert.AttnARefIdeal.τ Cert.AttnARefIdeal.sig) → Buf (Elt Ideal) ℓ) : Prop :=
  ∀ c : Dev Cert.AttnARefIdeal.nD,
    (Cert.Pre_finite.fn (F := Ideal) (m ((c.tc : Thread Cert.AttnARefIdeal.nD Cert.AttnARefIdeal.τ).loc Cert.AttnARefIdeal.main_arg0)) (m ((c.tc : Thread Cert.AttnARefIdeal.nD Cert.AttnARefIdeal.τ).loc Cert.AttnARefIdeal.main_arg1)) (m ((c.tc : Thread Cert.AttnARefIdeal.nD Cert.AttnARefIdeal.τ).loc Cert.AttnARefIdeal.main_arg2)) (m ((c.tc : Thread Cert.AttnARefIdeal.nD Cert.AttnARefIdeal.τ).loc Cert.AttnARefIdeal.main_arg3))) = (fun _ => 1#1)

def Pre_Expert [hPre_tables : Cert.Pre_tables.Facts] (m : (ℓ : Loc Cert.Expert.nD Cert.Expert.τ Cert.Expert.sig) → Buf (Elt Bits) ℓ) : Prop :=
  ∀ c : Dev Cert.Expert.nD,
    (Cert.Pre_tables.fn (F := Bits) (m ((c.tc : Thread Cert.Expert.nD Cert.Expert.τ).loc Cert.Expert.main_arg0)) (m ((c.tc : Thread Cert.Expert.nD Cert.Expert.τ).loc Cert.Expert.main_arg1)) (m ((c.tc : Thread Cert.Expert.nD Cert.Expert.τ).loc Cert.Expert.main_arg2)) (m ((c.tc : Thread Cert.Expert.nD Cert.Expert.τ).loc Cert.Expert.main_arg3)) (m ((c.tc : Thread Cert.Expert.nD Cert.Expert.τ).loc Cert.Expert.main_arg4)) (m ((c.tc : Thread Cert.Expert.nD Cert.Expert.τ).loc Cert.Expert.main_arg5)) (m ((c.tc : Thread Cert.Expert.nD Cert.Expert.τ).loc Cert.Expert.main_arg6))) = (fun _ => 1#1)

def Pre_ExpertIdeal [hPre_tables : Cert.Pre_tables.Facts] (m : (ℓ : Loc Cert.ExpertIdeal.nD Cert.ExpertIdeal.τ Cert.ExpertIdeal.sig) → Buf (Elt Ideal) ℓ) : Prop :=
  ∀ c : Dev Cert.ExpertIdeal.nD,
    (Cert.Pre_tables.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) = (fun _ => 1#1)

def Pre_ExpertRefIdeal (m : (ℓ : Loc Cert.ExpertRefIdeal.nD Cert.ExpertRefIdeal.τ Cert.ExpertRefIdeal.sig) → Buf (Elt Ideal) ℓ) : Prop :=
  True

def Pre_ExpertRefIdeal_tables [hPre_tables : Cert.Pre_tables.Facts] (m : (ℓ : Loc Cert.ExpertRefIdeal.nD Cert.ExpertRefIdeal.τ Cert.ExpertRefIdeal.sig) → Buf (Elt Ideal) ℓ) : Prop :=
  ∀ c : Dev Cert.ExpertRefIdeal.nD,
    (Cert.Pre_tables.fn (F := Ideal) (m ((c.tc : Thread Cert.ExpertRefIdeal.nD Cert.ExpertRefIdeal.τ).loc Cert.ExpertRefIdeal.main_arg0)) (m ((c.tc : Thread Cert.ExpertRefIdeal.nD Cert.ExpertRefIdeal.τ).loc Cert.ExpertRefIdeal.main_arg1)) (m ((c.tc : Thread Cert.ExpertRefIdeal.nD Cert.ExpertRefIdeal.τ).loc Cert.ExpertRefIdeal.main_arg2)) (m ((c.tc : Thread Cert.ExpertRefIdeal.nD Cert.ExpertRefIdeal.τ).loc Cert.ExpertRefIdeal.main_arg3)) (m ((c.tc : Thread Cert.ExpertRefIdeal.nD Cert.ExpertRefIdeal.τ).loc Cert.ExpertRefIdeal.main_arg4)) (m ((c.tc : Thread Cert.ExpertRefIdeal.nD Cert.ExpertRefIdeal.τ).loc Cert.ExpertRefIdeal.main_arg5)) (m ((c.tc : Thread Cert.ExpertRefIdeal.nD Cert.ExpertRefIdeal.τ).loc Cert.ExpertRefIdeal.main_arg6))) = (fun _ => 1#1)

def Pre_PrepC (m : (ℓ : Loc Cert.PrepC.nD Cert.PrepC.τ Cert.PrepC.sig) → Buf (Elt Bits) ℓ) : Prop :=
  True

def Pre_PrepCIdeal (m : (ℓ : Loc Cert.PrepCIdeal.nD Cert.PrepCIdeal.τ Cert.PrepCIdeal.sig) → Buf (Elt Ideal) ℓ) : Prop :=
  True

def Pre_PrepCRefIdeal (m : (ℓ : Loc Cert.PrepCRefIdeal.nD Cert.PrepCRefIdeal.τ Cert.PrepCRefIdeal.sig) → Buf (Elt Ideal) ℓ) : Prop :=
  True

def Pre_PostAB (m : (ℓ : Loc Cert.PostAB.nD Cert.PostAB.τ Cert.PostAB.sig) → Buf (Elt Bits) ℓ) : Prop :=
  True

def Pre_PostABIdeal (m : (ℓ : Loc Cert.PostABIdeal.nD Cert.PostABIdeal.τ Cert.PostABIdeal.sig) → Buf (Elt Ideal) ℓ) : Prop :=
  True

def Pre_PostABRefIdeal (m : (ℓ : Loc Cert.PostABRefIdeal.nD Cert.PostABRefIdeal.τ Cert.PostABRefIdeal.sig) → Buf (Elt Ideal) ℓ) : Prop :=
  True

def Pre_PostC (m : (ℓ : Loc Cert.PostC.nD Cert.PostC.τ Cert.PostC.sig) → Buf (Elt Bits) ℓ) : Prop :=
  True

def Pre_PostCIdeal (m : (ℓ : Loc Cert.PostCIdeal.nD Cert.PostCIdeal.τ Cert.PostCIdeal.sig) → Buf (Elt Ideal) ℓ) : Prop :=
  True

def Pre_PostCRefIdeal (m : (ℓ : Loc Cert.PostCRefIdeal.nD Cert.PostCRefIdeal.τ Cert.PostCRefIdeal.sig) → Buf (Elt Ideal) ℓ) : Prop :=
  True

def Pre_PrepAB (m : (ℓ : Loc Cert.PrepAB.nD Cert.PrepAB.τ Cert.PrepAB.sig) → Buf (Elt Bits) ℓ) : Prop :=
  True

def Pre_PrepABIdeal (m : (ℓ : Loc Cert.PrepABIdeal.nD Cert.PrepABIdeal.τ Cert.PrepABIdeal.sig) → Buf (Elt Ideal) ℓ) : Prop :=
  True

def Pre_PrepABIdeal_finite_projections [hPre_finite_projections : Cert.Pre_finite_projections.Facts] (m : (ℓ : Loc Cert.PrepABIdeal.nD Cert.PrepABIdeal.τ Cert.PrepABIdeal.sig) → Buf (Elt Ideal) ℓ) : Prop :=
  ∀ c : Dev Cert.PrepABIdeal.nD,
    (Cert.Pre_finite_projections.fn (F := Ideal) (m ((c.tc : Thread Cert.PrepABIdeal.nD Cert.PrepABIdeal.τ).loc Cert.PrepABIdeal.main_arg0)) (m ((c.tc : Thread Cert.PrepABIdeal.nD Cert.PrepABIdeal.τ).loc Cert.PrepABIdeal.main_arg1)) (m ((c.tc : Thread Cert.PrepABIdeal.nD Cert.PrepABIdeal.τ).loc Cert.PrepABIdeal.main_arg2)) (m ((c.tc : Thread Cert.PrepABIdeal.nD Cert.PrepABIdeal.τ).loc Cert.PrepABIdeal.main_arg3)) (m ((c.tc : Thread Cert.PrepABIdeal.nD Cert.PrepABIdeal.τ).loc Cert.PrepABIdeal.main_arg4)) (m ((c.tc : Thread Cert.PrepABIdeal.nD Cert.PrepABIdeal.τ).loc Cert.PrepABIdeal.main_arg5))) = (fun _ => 1#1)

def Pre_PrepABRefIdeal (m : (ℓ : Loc Cert.PrepABRefIdeal.nD Cert.PrepABRefIdeal.τ Cert.PrepABRefIdeal.sig) → Buf (Elt Ideal) ℓ) : Prop :=
  True

def Pre_PrepABRefIdeal_finite_projections [hPre_finite_projections : Cert.Pre_finite_projections.Facts] (m : (ℓ : Loc Cert.PrepABRefIdeal.nD Cert.PrepABRefIdeal.τ Cert.PrepABRefIdeal.sig) → Buf (Elt Ideal) ℓ) : Prop :=
  ∀ c : Dev Cert.PrepABRefIdeal.nD,
    (Cert.Pre_finite_projections.fn (F := Ideal) (m ((c.tc : Thread Cert.PrepABRefIdeal.nD Cert.PrepABRefIdeal.τ).loc Cert.PrepABRefIdeal.main_arg0)) (m ((c.tc : Thread Cert.PrepABRefIdeal.nD Cert.PrepABRefIdeal.τ).loc Cert.PrepABRefIdeal.main_arg1)) (m ((c.tc : Thread Cert.PrepABRefIdeal.nD Cert.PrepABRefIdeal.τ).loc Cert.PrepABRefIdeal.main_arg2)) (m ((c.tc : Thread Cert.PrepABRefIdeal.nD Cert.PrepABRefIdeal.τ).loc Cert.PrepABRefIdeal.main_arg3)) (m ((c.tc : Thread Cert.PrepABRefIdeal.nD Cert.PrepABRefIdeal.τ).loc Cert.PrepABRefIdeal.main_arg4)) (m ((c.tc : Thread Cert.PrepABRefIdeal.nD Cert.PrepABRefIdeal.τ).loc Cert.PrepABRefIdeal.main_arg5))) = (fun _ => 1#1)

def quiescent_AttnA [hAttnA : Cert.AttnA.Facts] : Prop :=
  ∀ (m : (ℓ : Loc Cert.AttnA.nD Cert.AttnA.τ Cert.AttnA.sig) → Buf (Elt Bits) ℓ) (g : Dev Cert.AttnA.nD → PrngReg), Pre_AttnA m →
    θ_run (Cert.AttnA.defs (F := Bits)) (onTc (τ := Cert.AttnA.τ) (Cert.AttnA.main (F := Bits))) ⟨m, fun _ => 0, g⟩ (fun r => (∀ c : Dev Cert.AttnA.nD,
      r.2.mem ((c.tc : Thread Cert.AttnA.nD Cert.AttnA.τ).loc Cert.AttnA.main_arg0) = m ((c.tc : Thread Cert.AttnA.nD Cert.AttnA.τ).loc Cert.AttnA.main_arg0)
      ∧ r.2.mem ((c.tc : Thread Cert.AttnA.nD Cert.AttnA.τ).loc Cert.AttnA.main_arg1) = m ((c.tc : Thread Cert.AttnA.nD Cert.AttnA.τ).loc Cert.AttnA.main_arg1)
      ∧ r.2.mem ((c.tc : Thread Cert.AttnA.nD Cert.AttnA.τ).loc Cert.AttnA.main_arg2) = m ((c.tc : Thread Cert.AttnA.nD Cert.AttnA.τ).loc Cert.AttnA.main_arg2)
      ∧ r.2.mem ((c.tc : Thread Cert.AttnA.nD Cert.AttnA.τ).loc Cert.AttnA.main_arg3) = m ((c.tc : Thread Cert.AttnA.nD Cert.AttnA.τ).loc Cert.AttnA.main_arg3))
      ∧ r.2.sem = fun _ => 0)

def quiescent_AttnAIdeal [hAttnAIdeal : Cert.AttnAIdeal.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ r.2.sem = fun _ => 0)

def quiescent_AttnAIdeal_pre_finite [hAttnAIdeal : Cert.AttnAIdeal.Facts] [hPre_finite : Cert.Pre_finite.Facts] : Prop :=
  ∀ (m : (ℓ : Loc Cert.AttnAIdeal.nD Cert.AttnAIdeal.τ Cert.AttnAIdeal.sig) → Buf (Elt Ideal) ℓ) (g : Dev Cert.AttnAIdeal.nD → PrngReg), Pre_AttnAIdeal_finite m →
    θ_run (Cert.AttnAIdeal.defs (F := Ideal)) (onTc (τ := Cert.AttnAIdeal.τ) (Cert.AttnAIdeal.main (F := Ideal))) ⟨m, fun _ => 0, g⟩ (fun r => (∀ c : Dev Cert.AttnAIdeal.nD,
      r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
      ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
      ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
      ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ r.2.sem = fun _ => 0)

def quiescent_AttnARefIdeal [hAttnARefIdeal : Cert.AttnARefIdeal.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
      ∧ r.2.sem = fun _ => 0)

def quiescent_AttnARefIdeal_pre_finite [hAttnARefIdeal : Cert.AttnARefIdeal.Facts] [hPre_finite : Cert.Pre_finite.Facts] : Prop :=
  ∀ (m : (ℓ : Loc Cert.AttnARefIdeal.nD Cert.AttnARefIdeal.τ Cert.AttnARefIdeal.sig) → Buf (Elt Ideal) ℓ) (g : Dev Cert.AttnARefIdeal.nD → PrngReg), Pre_AttnARefIdeal_finite m →
    θ_run (Cert.AttnARefIdeal.defs (F := Ideal)) (onTc (τ := Cert.AttnARefIdeal.τ) (Cert.AttnARefIdeal.main (F := Ideal))) ⟨m, fun _ => 0, g⟩ (fun r => (∀ c : Dev Cert.AttnARefIdeal.nD,
      r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
      ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
      ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
      ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
      ∧ r.2.sem = fun _ => 0)

def quiescent_Expert [hExpert : Cert.Expert.Facts] [hPre_tables : Cert.Pre_tables.Facts] : Prop :=
  ∀ (m : (ℓ : Loc Cert.Expert.nD Cert.Expert.τ Cert.Expert.sig) → Buf (Elt Bits) ℓ) (g : Dev Cert.Expert.nD → PrngReg), Pre_Expert m →
    θ_run (Cert.Expert.defs (F := Bits)) (onTc (τ := Cert.Expert.τ) (Cert.Expert.main (F := Bits))) ⟨m, fun _ => 0, g⟩ (fun r => (∀ c : Dev Cert.Expert.nD,
      r.2.mem ((c.tc : Thread Cert.Expert.nD Cert.Expert.τ).loc Cert.Expert.main_arg0) = m ((c.tc : Thread Cert.Expert.nD Cert.Expert.τ).loc Cert.Expert.main_arg0)
      ∧ r.2.mem ((c.tc : Thread Cert.Expert.nD Cert.Expert.τ).loc Cert.Expert.main_arg1) = m ((c.tc : Thread Cert.Expert.nD Cert.Expert.τ).loc Cert.Expert.main_arg1)
      ∧ r.2.mem ((c.tc : Thread Cert.Expert.nD Cert.Expert.τ).loc Cert.Expert.main_arg2) = m ((c.tc : Thread Cert.Expert.nD Cert.Expert.τ).loc Cert.Expert.main_arg2)
      ∧ r.2.mem ((c.tc : Thread Cert.Expert.nD Cert.Expert.τ).loc Cert.Expert.main_arg3) = m ((c.tc : Thread Cert.Expert.nD Cert.Expert.τ).loc Cert.Expert.main_arg3)
      ∧ r.2.mem ((c.tc : Thread Cert.Expert.nD Cert.Expert.τ).loc Cert.Expert.main_arg4) = m ((c.tc : Thread Cert.Expert.nD Cert.Expert.τ).loc Cert.Expert.main_arg4)
      ∧ r.2.mem ((c.tc : Thread Cert.Expert.nD Cert.Expert.τ).loc Cert.Expert.main_arg5) = m ((c.tc : Thread Cert.Expert.nD Cert.Expert.τ).loc Cert.Expert.main_arg5)
      ∧ r.2.mem ((c.tc : Thread Cert.Expert.nD Cert.Expert.τ).loc Cert.Expert.main_arg6) = m ((c.tc : Thread Cert.Expert.nD Cert.Expert.τ).loc Cert.Expert.main_arg6))
      ∧ r.2.sem = fun _ => 0)

def quiescent_ExpertIdeal [hExpertIdeal : Cert.ExpertIdeal.Facts] [hPre_tables : Cert.Pre_tables.Facts] : Prop :=
  ∀ (m : (ℓ : Loc Cert.ExpertIdeal.nD Cert.ExpertIdeal.τ Cert.ExpertIdeal.sig) → Buf (Elt Ideal) ℓ) (g : Dev Cert.ExpertIdeal.nD → PrngReg), Pre_ExpertIdeal m →
    θ_run (Cert.ExpertIdeal.defs (F := Ideal)) (onTc (τ := Cert.ExpertIdeal.τ) (Cert.ExpertIdeal.main (F := Ideal))) ⟨m, fun _ => 0, g⟩ (fun r => (∀ c : Dev Cert.ExpertIdeal.nD,
      r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
      ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
      ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
      ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
      ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
      ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
      ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ r.2.sem = fun _ => 0)

def quiescent_ExpertRefIdeal [hExpertRefIdeal : Cert.ExpertRefIdeal.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6))
      ∧ r.2.sem = fun _ => 0)

def quiescent_ExpertRefIdeal_pre_tables [hExpertRefIdeal : Cert.ExpertRefIdeal.Facts] [hPre_tables : Cert.Pre_tables.Facts] : Prop :=
  ∀ (m : (ℓ : Loc Cert.ExpertRefIdeal.nD Cert.ExpertRefIdeal.τ Cert.ExpertRefIdeal.sig) → Buf (Elt Ideal) ℓ) (g : Dev Cert.ExpertRefIdeal.nD → PrngReg), Pre_ExpertRefIdeal_tables m →
    θ_run (Cert.ExpertRefIdeal.defs (F := Ideal)) (onTc (τ := Cert.ExpertRefIdeal.τ) (Cert.ExpertRefIdeal.main (F := Ideal))) ⟨m, fun _ => 0, g⟩ (fun r => (∀ c : Dev Cert.ExpertRefIdeal.nD,
      r.2.mem ((c.tc : Thread Cert.ExpertRefIdeal.nD Cert.ExpertRefIdeal.τ).loc Cert.ExpertRefIdeal.main_arg0) = m ((c.tc : Thread Cert.ExpertRefIdeal.nD Cert.ExpertRefIdeal.τ).loc Cert.ExpertRefIdeal.main_arg0)
      ∧ r.2.mem ((c.tc : Thread Cert.ExpertRefIdeal.nD Cert.ExpertRefIdeal.τ).loc Cert.ExpertRefIdeal.main_arg1) = m ((c.tc : Thread Cert.ExpertRefIdeal.nD Cert.ExpertRefIdeal.τ).loc Cert.ExpertRefIdeal.main_arg1)
      ∧ r.2.mem ((c.tc : Thread Cert.ExpertRefIdeal.nD Cert.ExpertRefIdeal.τ).loc Cert.ExpertRefIdeal.main_arg2) = m ((c.tc : Thread Cert.ExpertRefIdeal.nD Cert.ExpertRefIdeal.τ).loc Cert.ExpertRefIdeal.main_arg2)
      ∧ r.2.mem ((c.tc : Thread Cert.ExpertRefIdeal.nD Cert.ExpertRefIdeal.τ).loc Cert.ExpertRefIdeal.main_arg3) = m ((c.tc : Thread Cert.ExpertRefIdeal.nD Cert.ExpertRefIdeal.τ).loc Cert.ExpertRefIdeal.main_arg3)
      ∧ r.2.mem ((c.tc : Thread Cert.ExpertRefIdeal.nD Cert.ExpertRefIdeal.τ).loc Cert.ExpertRefIdeal.main_arg4) = m ((c.tc : Thread Cert.ExpertRefIdeal.nD Cert.ExpertRefIdeal.τ).loc Cert.ExpertRefIdeal.main_arg4)
      ∧ r.2.mem ((c.tc : Thread Cert.ExpertRefIdeal.nD Cert.ExpertRefIdeal.τ).loc Cert.ExpertRefIdeal.main_arg5) = m ((c.tc : Thread Cert.ExpertRefIdeal.nD Cert.ExpertRefIdeal.τ).loc Cert.ExpertRefIdeal.main_arg5)
      ∧ r.2.mem ((c.tc : Thread Cert.ExpertRefIdeal.nD Cert.ExpertRefIdeal.τ).loc Cert.ExpertRefIdeal.main_arg6) = m ((c.tc : Thread Cert.ExpertRefIdeal.nD Cert.ExpertRefIdeal.τ).loc Cert.ExpertRefIdeal.main_arg6))
      ∧ r.2.sem = fun _ => 0)

def quiescent_PrepC [hPrepC : Cert.PrepC.Facts] : Prop :=
  ∀ (m : (ℓ : Loc Cert.PrepC.nD Cert.PrepC.τ Cert.PrepC.sig) → Buf (Elt Bits) ℓ) (g : Dev Cert.PrepC.nD → PrngReg), Pre_PrepC m →
    θ_run (Cert.PrepC.defs (F := Bits)) (onTc (τ := Cert.PrepC.τ) (Cert.PrepC.main (F := Bits))) ⟨m, fun _ => 0, g⟩ (fun r => (∀ c : Dev Cert.PrepC.nD,
      r.2.mem ((c.tc : Thread Cert.PrepC.nD Cert.PrepC.τ).loc Cert.PrepC.main_arg0) = m ((c.tc : Thread Cert.PrepC.nD Cert.PrepC.τ).loc Cert.PrepC.main_arg0)
      ∧ r.2.mem ((c.tc : Thread Cert.PrepC.nD Cert.PrepC.τ).loc Cert.PrepC.main_arg1) = m ((c.tc : Thread Cert.PrepC.nD Cert.PrepC.τ).loc Cert.PrepC.main_arg1))
      ∧ r.2.sem = fun _ => 0)

def quiescent_PrepCIdeal [hPrepCIdeal : Cert.PrepCIdeal.Facts] : Prop :=
  ∀ (m : (ℓ : Loc Cert.PrepCIdeal.nD Cert.PrepCIdeal.τ Cert.PrepCIdeal.sig) → Buf (Elt Ideal) ℓ) (g : Dev Cert.PrepCIdeal.nD → PrngReg), Pre_PrepCIdeal m →
    θ_run (Cert.PrepCIdeal.defs (F := Ideal)) (onTc (τ := Cert.PrepCIdeal.τ) (Cert.PrepCIdeal.main (F := Ideal))) ⟨m, fun _ => 0, g⟩ (fun r => (∀ c : Dev Cert.PrepCIdeal.nD,
      r.2.mem ((c.tc : Thread Cert.PrepCIdeal.nD Cert.PrepCIdeal.τ).loc Cert.PrepCIdeal.main_arg0) = m ((c.tc : Thread Cert.PrepCIdeal.nD Cert.PrepCIdeal.τ).loc Cert.PrepCIdeal.main_arg0)
      ∧ r.2.mem ((c.tc : Thread Cert.PrepCIdeal.nD Cert.PrepCIdeal.τ).loc Cert.PrepCIdeal.main_arg1) = m ((c.tc : Thread Cert.PrepCIdeal.nD Cert.PrepCIdeal.τ).loc Cert.PrepCIdeal.main_arg1))
      ∧ r.2.sem = fun _ => 0)

def quiescent_PrepCRefIdeal [hPrepCRefIdeal : Cert.PrepCRefIdeal.Facts] : Prop :=
  ∀ (m : (ℓ : Loc Cert.PrepCRefIdeal.nD Cert.PrepCRefIdeal.τ Cert.PrepCRefIdeal.sig) → Buf (Elt Ideal) ℓ) (g : Dev Cert.PrepCRefIdeal.nD → PrngReg), Pre_PrepCRefIdeal m →
    θ_run (Cert.PrepCRefIdeal.defs (F := Ideal)) (onTc (τ := Cert.PrepCRefIdeal.τ) (Cert.PrepCRefIdeal.main (F := Ideal))) ⟨m, fun _ => 0, g⟩ (fun r => (∀ c : Dev Cert.PrepCRefIdeal.nD,
      r.2.mem ((c.tc : Thread Cert.PrepCRefIdeal.nD Cert.PrepCRefIdeal.τ).loc Cert.PrepCRefIdeal.main_arg0) = m ((c.tc : Thread Cert.PrepCRefIdeal.nD Cert.PrepCRefIdeal.τ).loc Cert.PrepCRefIdeal.main_arg0)
      ∧ r.2.mem ((c.tc : Thread Cert.PrepCRefIdeal.nD Cert.PrepCRefIdeal.τ).loc Cert.PrepCRefIdeal.main_arg1) = m ((c.tc : Thread Cert.PrepCRefIdeal.nD Cert.PrepCRefIdeal.τ).loc Cert.PrepCRefIdeal.main_arg1))
      ∧ r.2.sem = fun _ => 0)

def quiescent_PostAB [hPostAB : Cert.PostAB.Facts] : Prop :=
  ∀ (m : (ℓ : Loc Cert.PostAB.nD Cert.PostAB.τ Cert.PostAB.sig) → Buf (Elt Bits) ℓ) (g : Dev Cert.PostAB.nD → PrngReg), Pre_PostAB m →
    θ_run (Cert.PostAB.defs (F := Bits)) (onTc (τ := Cert.PostAB.τ) (Cert.PostAB.main (F := Bits))) ⟨m, fun _ => 0, g⟩ (fun r => (∀ c : Dev Cert.PostAB.nD,
      r.2.mem ((c.tc : Thread Cert.PostAB.nD Cert.PostAB.τ).loc Cert.PostAB.main_arg0) = m ((c.tc : Thread Cert.PostAB.nD Cert.PostAB.τ).loc Cert.PostAB.main_arg0)
      ∧ r.2.mem ((c.tc : Thread Cert.PostAB.nD Cert.PostAB.τ).loc Cert.PostAB.main_arg1) = m ((c.tc : Thread Cert.PostAB.nD Cert.PostAB.τ).loc Cert.PostAB.main_arg1)
      ∧ r.2.mem ((c.tc : Thread Cert.PostAB.nD Cert.PostAB.τ).loc Cert.PostAB.main_arg2) = m ((c.tc : Thread Cert.PostAB.nD Cert.PostAB.τ).loc Cert.PostAB.main_arg2)
      ∧ r.2.mem ((c.tc : Thread Cert.PostAB.nD Cert.PostAB.τ).loc Cert.PostAB.main_arg3) = m ((c.tc : Thread Cert.PostAB.nD Cert.PostAB.τ).loc Cert.PostAB.main_arg3)
      ∧ r.2.mem ((c.tc : Thread Cert.PostAB.nD Cert.PostAB.τ).loc Cert.PostAB.main_arg4) = m ((c.tc : Thread Cert.PostAB.nD Cert.PostAB.τ).loc Cert.PostAB.main_arg4)
      ∧ r.2.mem ((c.tc : Thread Cert.PostAB.nD Cert.PostAB.τ).loc Cert.PostAB.main_arg5) = m ((c.tc : Thread Cert.PostAB.nD Cert.PostAB.τ).loc Cert.PostAB.main_arg5))
      ∧ r.2.sem = fun _ => 0)

def quiescent_PostABIdeal [hPostABIdeal : Cert.PostABIdeal.Facts] : Prop :=
  ∀ (m : (ℓ : Loc Cert.PostABIdeal.nD Cert.PostABIdeal.τ Cert.PostABIdeal.sig) → Buf (Elt Ideal) ℓ) (g : Dev Cert.PostABIdeal.nD → PrngReg), Pre_PostABIdeal m →
    θ_run (Cert.PostABIdeal.defs (F := Ideal)) (onTc (τ := Cert.PostABIdeal.τ) (Cert.PostABIdeal.main (F := Ideal))) ⟨m, fun _ => 0, g⟩ (fun r => (∀ c : Dev Cert.PostABIdeal.nD,
      r.2.mem ((c.tc : Thread Cert.PostABIdeal.nD Cert.PostABIdeal.τ).loc Cert.PostABIdeal.main_arg0) = m ((c.tc : Thread Cert.PostABIdeal.nD Cert.PostABIdeal.τ).loc Cert.PostABIdeal.main_arg0)
      ∧ r.2.mem ((c.tc : Thread Cert.PostABIdeal.nD Cert.PostABIdeal.τ).loc Cert.PostABIdeal.main_arg1) = m ((c.tc : Thread Cert.PostABIdeal.nD Cert.PostABIdeal.τ).loc Cert.PostABIdeal.main_arg1)
      ∧ r.2.mem ((c.tc : Thread Cert.PostABIdeal.nD Cert.PostABIdeal.τ).loc Cert.PostABIdeal.main_arg2) = m ((c.tc : Thread Cert.PostABIdeal.nD Cert.PostABIdeal.τ).loc Cert.PostABIdeal.main_arg2)
      ∧ r.2.mem ((c.tc : Thread Cert.PostABIdeal.nD Cert.PostABIdeal.τ).loc Cert.PostABIdeal.main_arg3) = m ((c.tc : Thread Cert.PostABIdeal.nD Cert.PostABIdeal.τ).loc Cert.PostABIdeal.main_arg3)
      ∧ r.2.mem ((c.tc : Thread Cert.PostABIdeal.nD Cert.PostABIdeal.τ).loc Cert.PostABIdeal.main_arg4) = m ((c.tc : Thread Cert.PostABIdeal.nD Cert.PostABIdeal.τ).loc Cert.PostABIdeal.main_arg4)
      ∧ r.2.mem ((c.tc : Thread Cert.PostABIdeal.nD Cert.PostABIdeal.τ).loc Cert.PostABIdeal.main_arg5) = m ((c.tc : Thread Cert.PostABIdeal.nD Cert.PostABIdeal.τ).loc Cert.PostABIdeal.main_arg5))
      ∧ r.2.sem = fun _ => 0)

def quiescent_PostABRefIdeal [hPostABRefIdeal : Cert.PostABRefIdeal.Facts] : Prop :=
  ∀ (m : (ℓ : Loc Cert.PostABRefIdeal.nD Cert.PostABRefIdeal.τ Cert.PostABRefIdeal.sig) → Buf (Elt Ideal) ℓ) (g : Dev Cert.PostABRefIdeal.nD → PrngReg), Pre_PostABRefIdeal m →
    θ_run (Cert.PostABRefIdeal.defs (F := Ideal)) (onTc (τ := Cert.PostABRefIdeal.τ) (Cert.PostABRefIdeal.main (F := Ideal))) ⟨m, fun _ => 0, g⟩ (fun r => (∀ c : Dev Cert.PostABRefIdeal.nD,
      r.2.mem ((c.tc : Thread Cert.PostABRefIdeal.nD Cert.PostABRefIdeal.τ).loc Cert.PostABRefIdeal.main_arg0) = m ((c.tc : Thread Cert.PostABRefIdeal.nD Cert.PostABRefIdeal.τ).loc Cert.PostABRefIdeal.main_arg0)
      ∧ r.2.mem ((c.tc : Thread Cert.PostABRefIdeal.nD Cert.PostABRefIdeal.τ).loc Cert.PostABRefIdeal.main_arg1) = m ((c.tc : Thread Cert.PostABRefIdeal.nD Cert.PostABRefIdeal.τ).loc Cert.PostABRefIdeal.main_arg1)
      ∧ r.2.mem ((c.tc : Thread Cert.PostABRefIdeal.nD Cert.PostABRefIdeal.τ).loc Cert.PostABRefIdeal.main_arg2) = m ((c.tc : Thread Cert.PostABRefIdeal.nD Cert.PostABRefIdeal.τ).loc Cert.PostABRefIdeal.main_arg2)
      ∧ r.2.mem ((c.tc : Thread Cert.PostABRefIdeal.nD Cert.PostABRefIdeal.τ).loc Cert.PostABRefIdeal.main_arg3) = m ((c.tc : Thread Cert.PostABRefIdeal.nD Cert.PostABRefIdeal.τ).loc Cert.PostABRefIdeal.main_arg3)
      ∧ r.2.mem ((c.tc : Thread Cert.PostABRefIdeal.nD Cert.PostABRefIdeal.τ).loc Cert.PostABRefIdeal.main_arg4) = m ((c.tc : Thread Cert.PostABRefIdeal.nD Cert.PostABRefIdeal.τ).loc Cert.PostABRefIdeal.main_arg4)
      ∧ r.2.mem ((c.tc : Thread Cert.PostABRefIdeal.nD Cert.PostABRefIdeal.τ).loc Cert.PostABRefIdeal.main_arg5) = m ((c.tc : Thread Cert.PostABRefIdeal.nD Cert.PostABRefIdeal.τ).loc Cert.PostABRefIdeal.main_arg5))
      ∧ r.2.sem = fun _ => 0)

def quiescent_PostC [hPostC : Cert.PostC.Facts] : Prop :=
  ∀ (m : (ℓ : Loc Cert.PostC.nD Cert.PostC.τ Cert.PostC.sig) → Buf (Elt Bits) ℓ) (g : Dev Cert.PostC.nD → PrngReg), Pre_PostC m →
    θ_run (Cert.PostC.defs (F := Bits)) (onTc (τ := Cert.PostC.τ) (Cert.PostC.main (F := Bits))) ⟨m, fun _ => 0, g⟩ (fun r => (∀ c : Dev Cert.PostC.nD,
      r.2.mem ((c.tc : Thread Cert.PostC.nD Cert.PostC.τ).loc Cert.PostC.main_arg0) = m ((c.tc : Thread Cert.PostC.nD Cert.PostC.τ).loc Cert.PostC.main_arg0)
      ∧ r.2.mem ((c.tc : Thread Cert.PostC.nD Cert.PostC.τ).loc Cert.PostC.main_arg1) = m ((c.tc : Thread Cert.PostC.nD Cert.PostC.τ).loc Cert.PostC.main_arg1)
      ∧ r.2.mem ((c.tc : Thread Cert.PostC.nD Cert.PostC.τ).loc Cert.PostC.main_arg2) = m ((c.tc : Thread Cert.PostC.nD Cert.PostC.τ).loc Cert.PostC.main_arg2)
      ∧ r.2.mem ((c.tc : Thread Cert.PostC.nD Cert.PostC.τ).loc Cert.PostC.main_arg3) = m ((c.tc : Thread Cert.PostC.nD Cert.PostC.τ).loc Cert.PostC.main_arg3)
      ∧ r.2.mem ((c.tc : Thread Cert.PostC.nD Cert.PostC.τ).loc Cert.PostC.main_arg4) = m ((c.tc : Thread Cert.PostC.nD Cert.PostC.τ).loc Cert.PostC.main_arg4))
      ∧ r.2.sem = fun _ => 0)

def quiescent_PostCIdeal [hPostCIdeal : Cert.PostCIdeal.Facts] : Prop :=
  ∀ (m : (ℓ : Loc Cert.PostCIdeal.nD Cert.PostCIdeal.τ Cert.PostCIdeal.sig) → Buf (Elt Ideal) ℓ) (g : Dev Cert.PostCIdeal.nD → PrngReg), Pre_PostCIdeal m →
    θ_run (Cert.PostCIdeal.defs (F := Ideal)) (onTc (τ := Cert.PostCIdeal.τ) (Cert.PostCIdeal.main (F := Ideal))) ⟨m, fun _ => 0, g⟩ (fun r => (∀ c : Dev Cert.PostCIdeal.nD,
      r.2.mem ((c.tc : Thread Cert.PostCIdeal.nD Cert.PostCIdeal.τ).loc Cert.PostCIdeal.main_arg0) = m ((c.tc : Thread Cert.PostCIdeal.nD Cert.PostCIdeal.τ).loc Cert.PostCIdeal.main_arg0)
      ∧ r.2.mem ((c.tc : Thread Cert.PostCIdeal.nD Cert.PostCIdeal.τ).loc Cert.PostCIdeal.main_arg1) = m ((c.tc : Thread Cert.PostCIdeal.nD Cert.PostCIdeal.τ).loc Cert.PostCIdeal.main_arg1)
      ∧ r.2.mem ((c.tc : Thread Cert.PostCIdeal.nD Cert.PostCIdeal.τ).loc Cert.PostCIdeal.main_arg2) = m ((c.tc : Thread Cert.PostCIdeal.nD Cert.PostCIdeal.τ).loc Cert.PostCIdeal.main_arg2)
      ∧ r.2.mem ((c.tc : Thread Cert.PostCIdeal.nD Cert.PostCIdeal.τ).loc Cert.PostCIdeal.main_arg3) = m ((c.tc : Thread Cert.PostCIdeal.nD Cert.PostCIdeal.τ).loc Cert.PostCIdeal.main_arg3)
      ∧ r.2.mem ((c.tc : Thread Cert.PostCIdeal.nD Cert.PostCIdeal.τ).loc Cert.PostCIdeal.main_arg4) = m ((c.tc : Thread Cert.PostCIdeal.nD Cert.PostCIdeal.τ).loc Cert.PostCIdeal.main_arg4))
      ∧ r.2.sem = fun _ => 0)

def quiescent_PostCRefIdeal [hPostCRefIdeal : Cert.PostCRefIdeal.Facts] : Prop :=
  ∀ (m : (ℓ : Loc Cert.PostCRefIdeal.nD Cert.PostCRefIdeal.τ Cert.PostCRefIdeal.sig) → Buf (Elt Ideal) ℓ) (g : Dev Cert.PostCRefIdeal.nD → PrngReg), Pre_PostCRefIdeal m →
    θ_run (Cert.PostCRefIdeal.defs (F := Ideal)) (onTc (τ := Cert.PostCRefIdeal.τ) (Cert.PostCRefIdeal.main (F := Ideal))) ⟨m, fun _ => 0, g⟩ (fun r => (∀ c : Dev Cert.PostCRefIdeal.nD,
      r.2.mem ((c.tc : Thread Cert.PostCRefIdeal.nD Cert.PostCRefIdeal.τ).loc Cert.PostCRefIdeal.main_arg0) = m ((c.tc : Thread Cert.PostCRefIdeal.nD Cert.PostCRefIdeal.τ).loc Cert.PostCRefIdeal.main_arg0)
      ∧ r.2.mem ((c.tc : Thread Cert.PostCRefIdeal.nD Cert.PostCRefIdeal.τ).loc Cert.PostCRefIdeal.main_arg1) = m ((c.tc : Thread Cert.PostCRefIdeal.nD Cert.PostCRefIdeal.τ).loc Cert.PostCRefIdeal.main_arg1)
      ∧ r.2.mem ((c.tc : Thread Cert.PostCRefIdeal.nD Cert.PostCRefIdeal.τ).loc Cert.PostCRefIdeal.main_arg2) = m ((c.tc : Thread Cert.PostCRefIdeal.nD Cert.PostCRefIdeal.τ).loc Cert.PostCRefIdeal.main_arg2)
      ∧ r.2.mem ((c.tc : Thread Cert.PostCRefIdeal.nD Cert.PostCRefIdeal.τ).loc Cert.PostCRefIdeal.main_arg3) = m ((c.tc : Thread Cert.PostCRefIdeal.nD Cert.PostCRefIdeal.τ).loc Cert.PostCRefIdeal.main_arg3)
      ∧ r.2.mem ((c.tc : Thread Cert.PostCRefIdeal.nD Cert.PostCRefIdeal.τ).loc Cert.PostCRefIdeal.main_arg4) = m ((c.tc : Thread Cert.PostCRefIdeal.nD Cert.PostCRefIdeal.τ).loc Cert.PostCRefIdeal.main_arg4))
      ∧ r.2.sem = fun _ => 0)

def quiescent_PrepAB [hPrepAB : Cert.PrepAB.Facts] : Prop :=
  ∀ (m : (ℓ : Loc Cert.PrepAB.nD Cert.PrepAB.τ Cert.PrepAB.sig) → Buf (Elt Bits) ℓ) (g : Dev Cert.PrepAB.nD → PrngReg), Pre_PrepAB m →
    θ_run (Cert.PrepAB.defs (F := Bits)) (onTc (τ := Cert.PrepAB.τ) (Cert.PrepAB.main (F := Bits))) ⟨m, fun _ => 0, g⟩ (fun r => (∀ c : Dev Cert.PrepAB.nD,
      r.2.mem ((c.tc : Thread Cert.PrepAB.nD Cert.PrepAB.τ).loc Cert.PrepAB.main_arg0) = m ((c.tc : Thread Cert.PrepAB.nD Cert.PrepAB.τ).loc Cert.PrepAB.main_arg0)
      ∧ r.2.mem ((c.tc : Thread Cert.PrepAB.nD Cert.PrepAB.τ).loc Cert.PrepAB.main_arg1) = m ((c.tc : Thread Cert.PrepAB.nD Cert.PrepAB.τ).loc Cert.PrepAB.main_arg1)
      ∧ r.2.mem ((c.tc : Thread Cert.PrepAB.nD Cert.PrepAB.τ).loc Cert.PrepAB.main_arg2) = m ((c.tc : Thread Cert.PrepAB.nD Cert.PrepAB.τ).loc Cert.PrepAB.main_arg2)
      ∧ r.2.mem ((c.tc : Thread Cert.PrepAB.nD Cert.PrepAB.τ).loc Cert.PrepAB.main_arg3) = m ((c.tc : Thread Cert.PrepAB.nD Cert.PrepAB.τ).loc Cert.PrepAB.main_arg3)
      ∧ r.2.mem ((c.tc : Thread Cert.PrepAB.nD Cert.PrepAB.τ).loc Cert.PrepAB.main_arg4) = m ((c.tc : Thread Cert.PrepAB.nD Cert.PrepAB.τ).loc Cert.PrepAB.main_arg4)
      ∧ r.2.mem ((c.tc : Thread Cert.PrepAB.nD Cert.PrepAB.τ).loc Cert.PrepAB.main_arg5) = m ((c.tc : Thread Cert.PrepAB.nD Cert.PrepAB.τ).loc Cert.PrepAB.main_arg5))
      ∧ r.2.sem = fun _ => 0)

def quiescent_PrepABIdeal [hPrepABIdeal : Cert.PrepABIdeal.Facts] : Prop :=
  ∀ (m : (ℓ : Loc Cert.PrepABIdeal.nD Cert.PrepABIdeal.τ Cert.PrepABIdeal.sig) → Buf (Elt Ideal) ℓ) (g : Dev Cert.PrepABIdeal.nD → PrngReg), Pre_PrepABIdeal m →
    θ_run (Cert.PrepABIdeal.defs (F := Ideal)) (onTc (τ := Cert.PrepABIdeal.τ) (Cert.PrepABIdeal.main (F := Ideal))) ⟨m, fun _ => 0, g⟩ (fun r => (∀ c : Dev Cert.PrepABIdeal.nD,
      r.2.mem ((c.tc : Thread Cert.PrepABIdeal.nD Cert.PrepABIdeal.τ).loc Cert.PrepABIdeal.main_arg0) = m ((c.tc : Thread Cert.PrepABIdeal.nD Cert.PrepABIdeal.τ).loc Cert.PrepABIdeal.main_arg0)
      ∧ r.2.mem ((c.tc : Thread Cert.PrepABIdeal.nD Cert.PrepABIdeal.τ).loc Cert.PrepABIdeal.main_arg1) = m ((c.tc : Thread Cert.PrepABIdeal.nD Cert.PrepABIdeal.τ).loc Cert.PrepABIdeal.main_arg1)
      ∧ r.2.mem ((c.tc : Thread Cert.PrepABIdeal.nD Cert.PrepABIdeal.τ).loc Cert.PrepABIdeal.main_arg2) = m ((c.tc : Thread Cert.PrepABIdeal.nD Cert.PrepABIdeal.τ).loc Cert.PrepABIdeal.main_arg2)
      ∧ r.2.mem ((c.tc : Thread Cert.PrepABIdeal.nD Cert.PrepABIdeal.τ).loc Cert.PrepABIdeal.main_arg3) = m ((c.tc : Thread Cert.PrepABIdeal.nD Cert.PrepABIdeal.τ).loc Cert.PrepABIdeal.main_arg3)
      ∧ r.2.mem ((c.tc : Thread Cert.PrepABIdeal.nD Cert.PrepABIdeal.τ).loc Cert.PrepABIdeal.main_arg4) = m ((c.tc : Thread Cert.PrepABIdeal.nD Cert.PrepABIdeal.τ).loc Cert.PrepABIdeal.main_arg4)
      ∧ r.2.mem ((c.tc : Thread Cert.PrepABIdeal.nD Cert.PrepABIdeal.τ).loc Cert.PrepABIdeal.main_arg5) = m ((c.tc : Thread Cert.PrepABIdeal.nD Cert.PrepABIdeal.τ).loc Cert.PrepABIdeal.main_arg5))
      ∧ r.2.sem = fun _ => 0)

def quiescent_PrepABIdeal_pre_finite_projections [hPrepABIdeal : Cert.PrepABIdeal.Facts] [hPre_finite_projections : Cert.Pre_finite_projections.Facts] : Prop :=
  ∀ (m : (ℓ : Loc Cert.PrepABIdeal.nD Cert.PrepABIdeal.τ Cert.PrepABIdeal.sig) → Buf (Elt Ideal) ℓ) (g : Dev Cert.PrepABIdeal.nD → PrngReg), Pre_PrepABIdeal_finite_projections m →
    θ_run (Cert.PrepABIdeal.defs (F := Ideal)) (onTc (τ := Cert.PrepABIdeal.τ) (Cert.PrepABIdeal.main (F := Ideal))) ⟨m, fun _ => 0, g⟩ (fun r => (∀ c : Dev Cert.PrepABIdeal.nD,
      r.2.mem ((c.tc : Thread Cert.PrepABIdeal.nD Cert.PrepABIdeal.τ).loc Cert.PrepABIdeal.main_arg0) = m ((c.tc : Thread Cert.PrepABIdeal.nD Cert.PrepABIdeal.τ).loc Cert.PrepABIdeal.main_arg0)
      ∧ r.2.mem ((c.tc : Thread Cert.PrepABIdeal.nD Cert.PrepABIdeal.τ).loc Cert.PrepABIdeal.main_arg1) = m ((c.tc : Thread Cert.PrepABIdeal.nD Cert.PrepABIdeal.τ).loc Cert.PrepABIdeal.main_arg1)
      ∧ r.2.mem ((c.tc : Thread Cert.PrepABIdeal.nD Cert.PrepABIdeal.τ).loc Cert.PrepABIdeal.main_arg2) = m ((c.tc : Thread Cert.PrepABIdeal.nD Cert.PrepABIdeal.τ).loc Cert.PrepABIdeal.main_arg2)
      ∧ r.2.mem ((c.tc : Thread Cert.PrepABIdeal.nD Cert.PrepABIdeal.τ).loc Cert.PrepABIdeal.main_arg3) = m ((c.tc : Thread Cert.PrepABIdeal.nD Cert.PrepABIdeal.τ).loc Cert.PrepABIdeal.main_arg3)
      ∧ r.2.mem ((c.tc : Thread Cert.PrepABIdeal.nD Cert.PrepABIdeal.τ).loc Cert.PrepABIdeal.main_arg4) = m ((c.tc : Thread Cert.PrepABIdeal.nD Cert.PrepABIdeal.τ).loc Cert.PrepABIdeal.main_arg4)
      ∧ r.2.mem ((c.tc : Thread Cert.PrepABIdeal.nD Cert.PrepABIdeal.τ).loc Cert.PrepABIdeal.main_arg5) = m ((c.tc : Thread Cert.PrepABIdeal.nD Cert.PrepABIdeal.τ).loc Cert.PrepABIdeal.main_arg5))
      ∧ r.2.sem = fun _ => 0)

def quiescent_PrepABRefIdeal [hPrepABRefIdeal : Cert.PrepABRefIdeal.Facts] : Prop :=
  ∀ (m : (ℓ : Loc Cert.PrepABRefIdeal.nD Cert.PrepABRefIdeal.τ Cert.PrepABRefIdeal.sig) → Buf (Elt Ideal) ℓ) (g : Dev Cert.PrepABRefIdeal.nD → PrngReg), Pre_PrepABRefIdeal m →
    θ_run (Cert.PrepABRefIdeal.defs (F := Ideal)) (onTc (τ := Cert.PrepABRefIdeal.τ) (Cert.PrepABRefIdeal.main (F := Ideal))) ⟨m, fun _ => 0, g⟩ (fun r => (∀ c : Dev Cert.PrepABRefIdeal.nD,
      r.2.mem ((c.tc : Thread Cert.PrepABRefIdeal.nD Cert.PrepABRefIdeal.τ).loc Cert.PrepABRefIdeal.main_arg0) = m ((c.tc : Thread Cert.PrepABRefIdeal.nD Cert.PrepABRefIdeal.τ).loc Cert.PrepABRefIdeal.main_arg0)
      ∧ r.2.mem ((c.tc : Thread Cert.PrepABRefIdeal.nD Cert.PrepABRefIdeal.τ).loc Cert.PrepABRefIdeal.main_arg1) = m ((c.tc : Thread Cert.PrepABRefIdeal.nD Cert.PrepABRefIdeal.τ).loc Cert.PrepABRefIdeal.main_arg1)
      ∧ r.2.mem ((c.tc : Thread Cert.PrepABRefIdeal.nD Cert.PrepABRefIdeal.τ).loc Cert.PrepABRefIdeal.main_arg2) = m ((c.tc : Thread Cert.PrepABRefIdeal.nD Cert.PrepABRefIdeal.τ).loc Cert.PrepABRefIdeal.main_arg2)
      ∧ r.2.mem ((c.tc : Thread Cert.PrepABRefIdeal.nD Cert.PrepABRefIdeal.τ).loc Cert.PrepABRefIdeal.main_arg3) = m ((c.tc : Thread Cert.PrepABRefIdeal.nD Cert.PrepABRefIdeal.τ).loc Cert.PrepABRefIdeal.main_arg3)
      ∧ r.2.mem ((c.tc : Thread Cert.PrepABRefIdeal.nD Cert.PrepABRefIdeal.τ).loc Cert.PrepABRefIdeal.main_arg4) = m ((c.tc : Thread Cert.PrepABRefIdeal.nD Cert.PrepABRefIdeal.τ).loc Cert.PrepABRefIdeal.main_arg4)
      ∧ r.2.mem ((c.tc : Thread Cert.PrepABRefIdeal.nD Cert.PrepABRefIdeal.τ).loc Cert.PrepABRefIdeal.main_arg5) = m ((c.tc : Thread Cert.PrepABRefIdeal.nD Cert.PrepABRefIdeal.τ).loc Cert.PrepABRefIdeal.main_arg5))
      ∧ r.2.sem = fun _ => 0)

def quiescent_PrepABRefIdeal_pre_finite_projections [hPrepABRefIdeal : Cert.PrepABRefIdeal.Facts] [hPre_finite_projections : Cert.Pre_finite_projections.Facts] : Prop :=
  ∀ (m : (ℓ : Loc Cert.PrepABRefIdeal.nD Cert.PrepABRefIdeal.τ Cert.PrepABRefIdeal.sig) → Buf (Elt Ideal) ℓ) (g : Dev Cert.PrepABRefIdeal.nD → PrngReg), Pre_PrepABRefIdeal_finite_projections m →
    θ_run (Cert.PrepABRefIdeal.defs (F := Ideal)) (onTc (τ := Cert.PrepABRefIdeal.τ) (Cert.PrepABRefIdeal.main (F := Ideal))) ⟨m, fun _ => 0, g⟩ (fun r => (∀ c : Dev Cert.PrepABRefIdeal.nD,
      r.2.mem ((c.tc : Thread Cert.PrepABRefIdeal.nD Cert.PrepABRefIdeal.τ).loc Cert.PrepABRefIdeal.main_arg0) = m ((c.tc : Thread Cert.PrepABRefIdeal.nD Cert.PrepABRefIdeal.τ).loc Cert.PrepABRefIdeal.main_arg0)
      ∧ r.2.mem ((c.tc : Thread Cert.PrepABRefIdeal.nD Cert.PrepABRefIdeal.τ).loc Cert.PrepABRefIdeal.main_arg1) = m ((c.tc : Thread Cert.PrepABRefIdeal.nD Cert.PrepABRefIdeal.τ).loc Cert.PrepABRefIdeal.main_arg1)
      ∧ r.2.mem ((c.tc : Thread Cert.PrepABRefIdeal.nD Cert.PrepABRefIdeal.τ).loc Cert.PrepABRefIdeal.main_arg2) = m ((c.tc : Thread Cert.PrepABRefIdeal.nD Cert.PrepABRefIdeal.τ).loc Cert.PrepABRefIdeal.main_arg2)
      ∧ r.2.mem ((c.tc : Thread Cert.PrepABRefIdeal.nD Cert.PrepABRefIdeal.τ).loc Cert.PrepABRefIdeal.main_arg3) = m ((c.tc : Thread Cert.PrepABRefIdeal.nD Cert.PrepABRefIdeal.τ).loc Cert.PrepABRefIdeal.main_arg3)
      ∧ r.2.mem ((c.tc : Thread Cert.PrepABRefIdeal.nD Cert.PrepABRefIdeal.τ).loc Cert.PrepABRefIdeal.main_arg4) = m ((c.tc : Thread Cert.PrepABRefIdeal.nD Cert.PrepABRefIdeal.τ).loc Cert.PrepABRefIdeal.main_arg4)
      ∧ r.2.mem ((c.tc : Thread Cert.PrepABRefIdeal.nD Cert.PrepABRefIdeal.τ).loc Cert.PrepABRefIdeal.main_arg5) = m ((c.tc : Thread Cert.PrepABRefIdeal.nD Cert.PrepABRefIdeal.τ).loc Cert.PrepABRefIdeal.main_arg5))
      ∧ r.2.sem = fun _ => 0)

def preserves_AttnA_AttnAIdeal : Prop :=
  IdealRules.named_const.Statement Cert.AttnAIdeal.κ "mask" .f32 0xF149F2CA#32 ⊥

def algebraic_AttnAIdeal_AttnARefIdeal_pre_finite [hAttnAIdeal : Cert.AttnAIdeal.Facts] [hAttnARefIdeal : Cert.AttnARefIdeal.Facts] [hPre_finite : Cert.Pre_finite.Facts] : Prop :=
  ∀ (m : (ℓ : Loc Cert.AttnAIdeal.nD Cert.AttnAIdeal.τ Cert.AttnAIdeal.sig) → Buf (Elt Ideal) ℓ) (g : Dev Cert.AttnAIdeal.nD → PrngReg)
    (m' : (ℓ : Loc Cert.AttnARefIdeal.nD Cert.AttnARefIdeal.τ Cert.AttnARefIdeal.sig) → Buf (Elt Ideal) ℓ) (g' : Dev Cert.AttnARefIdeal.nD → PrngReg), Pre_AttnAIdeal_finite m →
    (∀ c : Dev Cert.AttnAIdeal.nD,
      m' ((c.tc : Thread Cert.AttnARefIdeal.nD Cert.AttnARefIdeal.τ).loc Cert.AttnARefIdeal.main_arg0) = m ((c.tc : Thread Cert.AttnAIdeal.nD Cert.AttnAIdeal.τ).loc Cert.AttnAIdeal.main_arg0)
      ∧ m' ((c.tc : Thread Cert.AttnARefIdeal.nD Cert.AttnARefIdeal.τ).loc Cert.AttnARefIdeal.main_arg1) = m ((c.tc : Thread Cert.AttnAIdeal.nD Cert.AttnAIdeal.τ).loc Cert.AttnAIdeal.main_arg1)
      ∧ m' ((c.tc : Thread Cert.AttnARefIdeal.nD Cert.AttnARefIdeal.τ).loc Cert.AttnARefIdeal.main_arg2) = m ((c.tc : Thread Cert.AttnAIdeal.nD Cert.AttnAIdeal.τ).loc Cert.AttnAIdeal.main_arg2)
      ∧ m' ((c.tc : Thread Cert.AttnARefIdeal.nD Cert.AttnARefIdeal.τ).loc Cert.AttnARefIdeal.main_arg3) = m ((c.tc : Thread Cert.AttnAIdeal.nD Cert.AttnAIdeal.τ).loc Cert.AttnAIdeal.main_arg3)) →
    ∃ (v0 : (c : Dev Cert.AttnAIdeal.nD) → Buf (Elt Ideal) ((c.tc : Thread Cert.AttnAIdeal.nD Cert.AttnAIdeal.τ).loc Cert.AttnAIdeal.main_v34)),
      θ_run (Cert.AttnAIdeal.defs (F := Ideal)) (onTc (τ := Cert.AttnAIdeal.τ) (Cert.AttnAIdeal.main (F := Ideal))) ⟨m, fun _ => 0, g⟩ (fun r => ∀ c : Dev Cert.AttnAIdeal.nD,
          r.2.mem ((c.tc : Thread Cert.AttnAIdeal.nD Cert.AttnAIdeal.τ).loc Cert.AttnAIdeal.main_v34) = v0 c
          ∧ r.2.mem ((c.tc : Thread Cert.AttnAIdeal.nD Cert.AttnAIdeal.τ).loc Cert.AttnAIdeal.main_arg0) = m ((c.tc : Thread Cert.AttnAIdeal.nD Cert.AttnAIdeal.τ).loc Cert.AttnAIdeal.main_arg0)
          ∧ r.2.mem ((c.tc : Thread Cert.AttnAIdeal.nD Cert.AttnAIdeal.τ).loc Cert.AttnAIdeal.main_arg1) = m ((c.tc : Thread Cert.AttnAIdeal.nD Cert.AttnAIdeal.τ).loc Cert.AttnAIdeal.main_arg1)
          ∧ r.2.mem ((c.tc : Thread Cert.AttnAIdeal.nD Cert.AttnAIdeal.τ).loc Cert.AttnAIdeal.main_arg2) = m ((c.tc : Thread Cert.AttnAIdeal.nD Cert.AttnAIdeal.τ).loc Cert.AttnAIdeal.main_arg2)
          ∧ r.2.mem ((c.tc : Thread Cert.AttnAIdeal.nD Cert.AttnAIdeal.τ).loc Cert.AttnAIdeal.main_arg3) = m ((c.tc : Thread Cert.AttnAIdeal.nD Cert.AttnAIdeal.τ).loc Cert.AttnAIdeal.main_arg3))
      ∧ θ_run (Cert.AttnARefIdeal.defs (F := Ideal)) (onTc (τ := Cert.AttnARefIdeal.τ) (Cert.AttnARefIdeal.main (F := Ideal))) ⟨m', fun _ => 0, g'⟩ (fun r => ∀ c : Dev Cert.AttnARefIdeal.nD,
          r.2.mem ((c.tc : Thread Cert.AttnARefIdeal.nD Cert.AttnARefIdeal.τ).loc Cert.AttnARefIdeal.main_v79) = v0 c
          ∧ r.2.mem ((c.tc : Thread Cert.AttnARefIdeal.nD Cert.AttnARefIdeal.τ).loc Cert.AttnARefIdeal.main_arg0) = m' ((c.tc : Thread Cert.AttnARefIdeal.nD Cert.AttnARefIdeal.τ).loc Cert.AttnARefIdeal.main_arg0)
          ∧ r.2.mem ((c.tc : Thread Cert.AttnARefIdeal.nD Cert.AttnARefIdeal.τ).loc Cert.AttnARefIdeal.main_arg1) = m' ((c.tc : Thread Cert.AttnARefIdeal.nD Cert.AttnARefIdeal.τ).loc Cert.AttnARefIdeal.main_arg1)
          ∧ r.2.mem ((c.tc : Thread Cert.AttnARefIdeal.nD Cert.AttnARefIdeal.τ).loc Cert.AttnARefIdeal.main_arg2) = m' ((c.tc : Thread Cert.AttnARefIdeal.nD Cert.AttnARefIdeal.τ).loc Cert.AttnARefIdeal.main_arg2)
          ∧ r.2.mem ((c.tc : Thread Cert.AttnARefIdeal.nD Cert.AttnARefIdeal.τ).loc Cert.AttnARefIdeal.main_arg3) = m' ((c.tc : Thread Cert.AttnARefIdeal.nD Cert.AttnARefIdeal.τ).loc Cert.AttnARefIdeal.main_arg3))

def preserves_Expert_ExpertIdeal : Prop :=
  True

def algebraic_ExpertIdeal_ExpertRefIdeal_on_filled_rows [hExpertIdeal : Cert.ExpertIdeal.Facts] [hExpertRefIdeal : Cert.ExpertRefIdeal.Facts] [hPre_tables : Cert.Pre_tables.Facts] [hOn_filled_rows : Cert.On_filled_rows.Facts] : Prop :=
  ∀ (m : (ℓ : Loc Cert.ExpertIdeal.nD Cert.ExpertIdeal.τ Cert.ExpertIdeal.sig) → Buf (Elt Ideal) ℓ) (g : Dev Cert.ExpertIdeal.nD → PrngReg)
    (m' : (ℓ : Loc Cert.ExpertRefIdeal.nD Cert.ExpertRefIdeal.τ Cert.ExpertRefIdeal.sig) → Buf (Elt Ideal) ℓ) (g' : Dev Cert.ExpertRefIdeal.nD → PrngReg), Pre_ExpertIdeal m →
    (∀ c : Dev Cert.ExpertIdeal.nD,
      m' ((c.tc : Thread Cert.ExpertRefIdeal.nD Cert.ExpertRefIdeal.τ).loc Cert.ExpertRefIdeal.main_arg0) = m ((c.tc : Thread Cert.ExpertIdeal.nD Cert.ExpertIdeal.τ).loc Cert.ExpertIdeal.main_arg0)
      ∧ m' ((c.tc : Thread Cert.ExpertRefIdeal.nD Cert.ExpertRefIdeal.τ).loc Cert.ExpertRefIdeal.main_arg1) = m ((c.tc : Thread Cert.ExpertIdeal.nD Cert.ExpertIdeal.τ).loc Cert.ExpertIdeal.main_arg1)
      ∧ m' ((c.tc : Thread Cert.ExpertRefIdeal.nD Cert.ExpertRefIdeal.τ).loc Cert.ExpertRefIdeal.main_arg2) = m ((c.tc : Thread Cert.ExpertIdeal.nD Cert.ExpertIdeal.τ).loc Cert.ExpertIdeal.main_arg2)
      ∧ m' ((c.tc : Thread Cert.ExpertRefIdeal.nD Cert.ExpertRefIdeal.τ).loc Cert.ExpertRefIdeal.main_arg3) = m ((c.tc : Thread Cert.ExpertIdeal.nD Cert.ExpertIdeal.τ).loc Cert.ExpertIdeal.main_arg3)
      ∧ m' ((c.tc : Thread Cert.ExpertRefIdeal.nD Cert.ExpertRefIdeal.τ).loc Cert.ExpertRefIdeal.main_arg4) = m ((c.tc : Thread Cert.ExpertIdeal.nD Cert.ExpertIdeal.τ).loc Cert.ExpertIdeal.main_arg4)
      ∧ m' ((c.tc : Thread Cert.ExpertRefIdeal.nD Cert.ExpertRefIdeal.τ).loc Cert.ExpertRefIdeal.main_arg5) = m ((c.tc : Thread Cert.ExpertIdeal.nD Cert.ExpertIdeal.τ).loc Cert.ExpertIdeal.main_arg5)
      ∧ m' ((c.tc : Thread Cert.ExpertRefIdeal.nD Cert.ExpertRefIdeal.τ).loc Cert.ExpertRefIdeal.main_arg6) = m ((c.tc : Thread Cert.ExpertIdeal.nD Cert.ExpertIdeal.τ).loc Cert.ExpertIdeal.main_arg6)) →
    ∃ (v0 : (c : Dev Cert.ExpertIdeal.nD) → Buf (Elt Ideal) ((c.tc : Thread Cert.ExpertIdeal.nD Cert.ExpertIdeal.τ).loc Cert.ExpertIdeal.main_v0)),
      θ_run (Cert.ExpertIdeal.defs (F := Ideal)) (onTc (τ := Cert.ExpertIdeal.τ) (Cert.ExpertIdeal.main (F := Ideal))) ⟨m, fun _ => 0, g⟩ (fun r => ∀ c : Dev Cert.ExpertIdeal.nD,
          (∀ i : (⟨2, ![73728, 1024]⟩ : Shape).Idx, (Cert.On_filled_rows.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) i = 1#1 → r.2.mem ((c.tc : Thread Cert.ExpertIdeal.nD Cert.ExpertIdeal.τ).loc Cert.ExpertIdeal.main_v0) i = v0 c i)
          ∧ r.2.mem ((c.tc : Thread Cert.ExpertIdeal.nD Cert.ExpertIdeal.τ).loc Cert.ExpertIdeal.main_arg0) = m ((c.tc : Thread Cert.ExpertIdeal.nD Cert.ExpertIdeal.τ).loc Cert.ExpertIdeal.main_arg0)
          ∧ r.2.mem ((c.tc : Thread Cert.ExpertIdeal.nD Cert.ExpertIdeal.τ).loc Cert.ExpertIdeal.main_arg1) = m ((c.tc : Thread Cert.ExpertIdeal.nD Cert.ExpertIdeal.τ).loc Cert.ExpertIdeal.main_arg1)
          ∧ r.2.mem ((c.tc : Thread Cert.ExpertIdeal.nD Cert.ExpertIdeal.τ).loc Cert.ExpertIdeal.main_arg2) = m ((c.tc : Thread Cert.ExpertIdeal.nD Cert.ExpertIdeal.τ).loc Cert.ExpertIdeal.main_arg2)
          ∧ r.2.mem ((c.tc : Thread Cert.ExpertIdeal.nD Cert.ExpertIdeal.τ).loc Cert.ExpertIdeal.main_arg3) = m ((c.tc : Thread Cert.ExpertIdeal.nD Cert.ExpertIdeal.τ).loc Cert.ExpertIdeal.main_arg3)
          ∧ r.2.mem ((c.tc : Thread Cert.ExpertIdeal.nD Cert.ExpertIdeal.τ).loc Cert.ExpertIdeal.main_arg4) = m ((c.tc : Thread Cert.ExpertIdeal.nD Cert.ExpertIdeal.τ).loc Cert.ExpertIdeal.main_arg4)
          ∧ r.2.mem ((c.tc : Thread Cert.ExpertIdeal.nD Cert.ExpertIdeal.τ).loc Cert.ExpertIdeal.main_arg5) = m ((c.tc : Thread Cert.ExpertIdeal.nD Cert.ExpertIdeal.τ).loc Cert.ExpertIdeal.main_arg5)
          ∧ r.2.mem ((c.tc : Thread Cert.ExpertIdeal.nD Cert.ExpertIdeal.τ).loc Cert.ExpertIdeal.main_arg6) = m ((c.tc : Thread Cert.ExpertIdeal.nD Cert.ExpertIdeal.τ).loc Cert.ExpertIdeal.main_arg6))
      ∧ θ_run (Cert.ExpertRefIdeal.defs (F := Ideal)) (onTc (τ := Cert.ExpertRefIdeal.τ) (Cert.ExpertRefIdeal.main (F := Ideal))) ⟨m', fun _ => 0, g'⟩ (fun r => ∀ c : Dev Cert.ExpertRefIdeal.nD,
          (∀ i : (⟨2, ![73728, 1024]⟩ : Shape).Idx, (Cert.On_filled_rows.fn (F := Ideal) (m ((c.tc : Thread Cert.ExpertIdeal.nD Cert.ExpertIdeal.τ).loc Cert.ExpertIdeal.main_arg0)) (m ((c.tc : Thread Cert.ExpertIdeal.nD Cert.ExpertIdeal.τ).loc Cert.ExpertIdeal.main_arg1)) (m ((c.tc : Thread Cert.ExpertIdeal.nD Cert.ExpertIdeal.τ).loc Cert.ExpertIdeal.main_arg2)) (m ((c.tc : Thread Cert.ExpertIdeal.nD Cert.ExpertIdeal.τ).loc Cert.ExpertIdeal.main_arg3)) (m ((c.tc : Thread Cert.ExpertIdeal.nD Cert.ExpertIdeal.τ).loc Cert.ExpertIdeal.main_arg4)) (m ((c.tc : Thread Cert.ExpertIdeal.nD Cert.ExpertIdeal.τ).loc Cert.ExpertIdeal.main_arg5)) (m ((c.tc : Thread Cert.ExpertIdeal.nD Cert.ExpertIdeal.τ).loc Cert.ExpertIdeal.main_arg6))) i = 1#1 → r.2.mem ((c.tc : Thread Cert.ExpertRefIdeal.nD Cert.ExpertRefIdeal.τ).loc Cert.ExpertRefIdeal.main_v52) i = v0 c i)
          ∧ r.2.mem ((c.tc : Thread Cert.ExpertRefIdeal.nD Cert.ExpertRefIdeal.τ).loc Cert.ExpertRefIdeal.main_arg0) = m' ((c.tc : Thread Cert.ExpertRefIdeal.nD Cert.ExpertRefIdeal.τ).loc Cert.ExpertRefIdeal.main_arg0)
          ∧ r.2.mem ((c.tc : Thread Cert.ExpertRefIdeal.nD Cert.ExpertRefIdeal.τ).loc Cert.ExpertRefIdeal.main_arg1) = m' ((c.tc : Thread Cert.ExpertRefIdeal.nD Cert.ExpertRefIdeal.τ).loc Cert.ExpertRefIdeal.main_arg1)
          ∧ r.2.mem ((c.tc : Thread Cert.ExpertRefIdeal.nD Cert.ExpertRefIdeal.τ).loc Cert.ExpertRefIdeal.main_arg2) = m' ((c.tc : Thread Cert.ExpertRefIdeal.nD Cert.ExpertRefIdeal.τ).loc Cert.ExpertRefIdeal.main_arg2)
          ∧ r.2.mem ((c.tc : Thread Cert.ExpertRefIdeal.nD Cert.ExpertRefIdeal.τ).loc Cert.ExpertRefIdeal.main_arg3) = m' ((c.tc : Thread Cert.ExpertRefIdeal.nD Cert.ExpertRefIdeal.τ).loc Cert.ExpertRefIdeal.main_arg3)
          ∧ r.2.mem ((c.tc : Thread Cert.ExpertRefIdeal.nD Cert.ExpertRefIdeal.τ).loc Cert.ExpertRefIdeal.main_arg4) = m' ((c.tc : Thread Cert.ExpertRefIdeal.nD Cert.ExpertRefIdeal.τ).loc Cert.ExpertRefIdeal.main_arg4)
          ∧ r.2.mem ((c.tc : Thread Cert.ExpertRefIdeal.nD Cert.ExpertRefIdeal.τ).loc Cert.ExpertRefIdeal.main_arg5) = m' ((c.tc : Thread Cert.ExpertRefIdeal.nD Cert.ExpertRefIdeal.τ).loc Cert.ExpertRefIdeal.main_arg5)
          ∧ r.2.mem ((c.tc : Thread Cert.ExpertRefIdeal.nD Cert.ExpertRefIdeal.τ).loc Cert.ExpertRefIdeal.main_arg6) = m' ((c.tc : Thread Cert.ExpertRefIdeal.nD Cert.ExpertRefIdeal.τ).loc Cert.ExpertRefIdeal.main_arg6))

def preserves_PrepC_PrepCIdeal : Prop :=
  True

def algebraic_PrepCIdeal_PrepCRefIdeal [hPrepCIdeal : Cert.PrepCIdeal.Facts] [hPrepCRefIdeal : Cert.PrepCRefIdeal.Facts] : Prop :=
  ∀ (m : (ℓ : Loc Cert.PrepCIdeal.nD Cert.PrepCIdeal.τ Cert.PrepCIdeal.sig) → Buf (Elt Ideal) ℓ) (g : Dev Cert.PrepCIdeal.nD → PrngReg)
    (m' : (ℓ : Loc Cert.PrepCRefIdeal.nD Cert.PrepCRefIdeal.τ Cert.PrepCRefIdeal.sig) → Buf (Elt Ideal) ℓ) (g' : Dev Cert.PrepCRefIdeal.nD → PrngReg), Pre_PrepCIdeal m →
    (∀ c : Dev Cert.PrepCIdeal.nD,
      m' ((c.tc : Thread Cert.PrepCRefIdeal.nD Cert.PrepCRefIdeal.τ).loc Cert.PrepCRefIdeal.main_arg0) = m ((c.tc : Thread Cert.PrepCIdeal.nD Cert.PrepCIdeal.τ).loc Cert.PrepCIdeal.main_arg0)
      ∧ m' ((c.tc : Thread Cert.PrepCRefIdeal.nD Cert.PrepCRefIdeal.τ).loc Cert.PrepCRefIdeal.main_arg1) = m ((c.tc : Thread Cert.PrepCIdeal.nD Cert.PrepCIdeal.τ).loc Cert.PrepCIdeal.main_arg1)) →
    ∃ (v0 : (c : Dev Cert.PrepCIdeal.nD) → Buf (Elt Ideal) ((c.tc : Thread Cert.PrepCIdeal.nD Cert.PrepCIdeal.τ).loc Cert.PrepCIdeal.main_v1_0)) (v1 : (c : Dev Cert.PrepCIdeal.nD) → Buf (Elt Ideal) ((c.tc : Thread Cert.PrepCIdeal.nD Cert.PrepCIdeal.τ).loc Cert.PrepCIdeal.main_v1_1)) (v2 : (c : Dev Cert.PrepCIdeal.nD) → Buf (Elt Ideal) ((c.tc : Thread Cert.PrepCIdeal.nD Cert.PrepCIdeal.τ).loc Cert.PrepCIdeal.main_v1_2)),
      θ_run (Cert.PrepCIdeal.defs (F := Ideal)) (onTc (τ := Cert.PrepCIdeal.τ) (Cert.PrepCIdeal.main (F := Ideal))) ⟨m, fun _ => 0, g⟩ (fun r => ∀ c : Dev Cert.PrepCIdeal.nD,
          r.2.mem ((c.tc : Thread Cert.PrepCIdeal.nD Cert.PrepCIdeal.τ).loc Cert.PrepCIdeal.main_v1_0) = v0 c
          ∧ r.2.mem ((c.tc : Thread Cert.PrepCIdeal.nD Cert.PrepCIdeal.τ).loc Cert.PrepCIdeal.main_v1_1) = v1 c
          ∧ r.2.mem ((c.tc : Thread Cert.PrepCIdeal.nD Cert.PrepCIdeal.τ).loc Cert.PrepCIdeal.main_v1_2) = v2 c
          ∧ r.2.mem ((c.tc : Thread Cert.PrepCIdeal.nD Cert.PrepCIdeal.τ).loc Cert.PrepCIdeal.main_arg0) = m ((c.tc : Thread Cert.PrepCIdeal.nD Cert.PrepCIdeal.τ).loc Cert.PrepCIdeal.main_arg0)
          ∧ r.2.mem ((c.tc : Thread Cert.PrepCIdeal.nD Cert.PrepCIdeal.τ).loc Cert.PrepCIdeal.main_arg1) = m ((c.tc : Thread Cert.PrepCIdeal.nD Cert.PrepCIdeal.τ).loc Cert.PrepCIdeal.main_arg1))
      ∧ θ_run (Cert.PrepCRefIdeal.defs (F := Ideal)) (onTc (τ := Cert.PrepCRefIdeal.τ) (Cert.PrepCRefIdeal.main (F := Ideal))) ⟨m', fun _ => 0, g'⟩ (fun r => ∀ c : Dev Cert.PrepCRefIdeal.nD,
          r.2.mem ((c.tc : Thread Cert.PrepCRefIdeal.nD Cert.PrepCRefIdeal.τ).loc Cert.PrepCRefIdeal.main_v6) = v0 c
          ∧ r.2.mem ((c.tc : Thread Cert.PrepCRefIdeal.nD Cert.PrepCRefIdeal.τ).loc Cert.PrepCRefIdeal.main_v7) = v1 c
          ∧ r.2.mem ((c.tc : Thread Cert.PrepCRefIdeal.nD Cert.PrepCRefIdeal.τ).loc Cert.PrepCRefIdeal.main_v8) = v2 c
          ∧ r.2.mem ((c.tc : Thread Cert.PrepCRefIdeal.nD Cert.PrepCRefIdeal.τ).loc Cert.PrepCRefIdeal.main_arg0) = m' ((c.tc : Thread Cert.PrepCRefIdeal.nD Cert.PrepCRefIdeal.τ).loc Cert.PrepCRefIdeal.main_arg0)
          ∧ r.2.mem ((c.tc : Thread Cert.PrepCRefIdeal.nD Cert.PrepCRefIdeal.τ).loc Cert.PrepCRefIdeal.main_arg1) = m' ((c.tc : Thread Cert.PrepCRefIdeal.nD Cert.PrepCRefIdeal.τ).loc Cert.PrepCRefIdeal.main_arg1))

def preserves_PostAB_PostABIdeal : Prop :=
  True

def algebraic_PostABIdeal_PostABRefIdeal [hPostABIdeal : Cert.PostABIdeal.Facts] [hPostABRefIdeal : Cert.PostABRefIdeal.Facts] : Prop :=
  ∀ (m : (ℓ : Loc Cert.PostABIdeal.nD Cert.PostABIdeal.τ Cert.PostABIdeal.sig) → Buf (Elt Ideal) ℓ) (g : Dev Cert.PostABIdeal.nD → PrngReg)
    (m' : (ℓ : Loc Cert.PostABRefIdeal.nD Cert.PostABRefIdeal.τ Cert.PostABRefIdeal.sig) → Buf (Elt Ideal) ℓ) (g' : Dev Cert.PostABRefIdeal.nD → PrngReg), Pre_PostABIdeal m →
    (∀ c : Dev Cert.PostABIdeal.nD,
      m' ((c.tc : Thread Cert.PostABRefIdeal.nD Cert.PostABRefIdeal.τ).loc Cert.PostABRefIdeal.main_arg0) = m ((c.tc : Thread Cert.PostABIdeal.nD Cert.PostABIdeal.τ).loc Cert.PostABIdeal.main_arg0)
      ∧ m' ((c.tc : Thread Cert.PostABRefIdeal.nD Cert.PostABRefIdeal.τ).loc Cert.PostABRefIdeal.main_arg1) = m ((c.tc : Thread Cert.PostABIdeal.nD Cert.PostABIdeal.τ).loc Cert.PostABIdeal.main_arg1)
      ∧ m' ((c.tc : Thread Cert.PostABRefIdeal.nD Cert.PostABRefIdeal.τ).loc Cert.PostABRefIdeal.main_arg2) = m ((c.tc : Thread Cert.PostABIdeal.nD Cert.PostABIdeal.τ).loc Cert.PostABIdeal.main_arg2)
      ∧ m' ((c.tc : Thread Cert.PostABRefIdeal.nD Cert.PostABRefIdeal.τ).loc Cert.PostABRefIdeal.main_arg3) = m ((c.tc : Thread Cert.PostABIdeal.nD Cert.PostABIdeal.τ).loc Cert.PostABIdeal.main_arg3)
      ∧ m' ((c.tc : Thread Cert.PostABRefIdeal.nD Cert.PostABRefIdeal.τ).loc Cert.PostABRefIdeal.main_arg4) = m ((c.tc : Thread Cert.PostABIdeal.nD Cert.PostABIdeal.τ).loc Cert.PostABIdeal.main_arg4)
      ∧ m' ((c.tc : Thread Cert.PostABRefIdeal.nD Cert.PostABRefIdeal.τ).loc Cert.PostABRefIdeal.main_arg5) = m ((c.tc : Thread Cert.PostABIdeal.nD Cert.PostABIdeal.τ).loc Cert.PostABIdeal.main_arg5)) →
    ∃ (v0 : (c : Dev Cert.PostABIdeal.nD) → Buf (Elt Ideal) ((c.tc : Thread Cert.PostABIdeal.nD Cert.PostABIdeal.τ).loc Cert.PostABIdeal.main_v6)),
      θ_run (Cert.PostABIdeal.defs (F := Ideal)) (onTc (τ := Cert.PostABIdeal.τ) (Cert.PostABIdeal.main (F := Ideal))) ⟨m, fun _ => 0, g⟩ (fun r => ∀ c : Dev Cert.PostABIdeal.nD,
          r.2.mem ((c.tc : Thread Cert.PostABIdeal.nD Cert.PostABIdeal.τ).loc Cert.PostABIdeal.main_v6) = v0 c
          ∧ r.2.mem ((c.tc : Thread Cert.PostABIdeal.nD Cert.PostABIdeal.τ).loc Cert.PostABIdeal.main_arg0) = m ((c.tc : Thread Cert.PostABIdeal.nD Cert.PostABIdeal.τ).loc Cert.PostABIdeal.main_arg0)
          ∧ r.2.mem ((c.tc : Thread Cert.PostABIdeal.nD Cert.PostABIdeal.τ).loc Cert.PostABIdeal.main_arg1) = m ((c.tc : Thread Cert.PostABIdeal.nD Cert.PostABIdeal.τ).loc Cert.PostABIdeal.main_arg1)
          ∧ r.2.mem ((c.tc : Thread Cert.PostABIdeal.nD Cert.PostABIdeal.τ).loc Cert.PostABIdeal.main_arg2) = m ((c.tc : Thread Cert.PostABIdeal.nD Cert.PostABIdeal.τ).loc Cert.PostABIdeal.main_arg2)
          ∧ r.2.mem ((c.tc : Thread Cert.PostABIdeal.nD Cert.PostABIdeal.τ).loc Cert.PostABIdeal.main_arg3) = m ((c.tc : Thread Cert.PostABIdeal.nD Cert.PostABIdeal.τ).loc Cert.PostABIdeal.main_arg3)
          ∧ r.2.mem ((c.tc : Thread Cert.PostABIdeal.nD Cert.PostABIdeal.τ).loc Cert.PostABIdeal.main_arg4) = m ((c.tc : Thread Cert.PostABIdeal.nD Cert.PostABIdeal.τ).loc Cert.PostABIdeal.main_arg4)
          ∧ r.2.mem ((c.tc : Thread Cert.PostABIdeal.nD Cert.PostABIdeal.τ).loc Cert.PostABIdeal.main_arg5) = m ((c.tc : Thread Cert.PostABIdeal.nD Cert.PostABIdeal.τ).loc Cert.PostABIdeal.main_arg5))
      ∧ θ_run (Cert.PostABRefIdeal.defs (F := Ideal)) (onTc (τ := Cert.PostABRefIdeal.τ) (Cert.PostABRefIdeal.main (F := Ideal))) ⟨m', fun _ => 0, g'⟩ (fun r => ∀ c : Dev Cert.PostABRefIdeal.nD,
          r.2.mem ((c.tc : Thread Cert.PostABRefIdeal.nD Cert.PostABRefIdeal.τ).loc Cert.PostABRefIdeal.main_v30) = v0 c
          ∧ r.2.mem ((c.tc : Thread Cert.PostABRefIdeal.nD Cert.PostABRefIdeal.τ).loc Cert.PostABRefIdeal.main_arg0) = m' ((c.tc : Thread Cert.PostABRefIdeal.nD Cert.PostABRefIdeal.τ).loc Cert.PostABRefIdeal.main_arg0)
          ∧ r.2.mem ((c.tc : Thread Cert.PostABRefIdeal.nD Cert.PostABRefIdeal.τ).loc Cert.PostABRefIdeal.main_arg1) = m' ((c.tc : Thread Cert.PostABRefIdeal.nD Cert.PostABRefIdeal.τ).loc Cert.PostABRefIdeal.main_arg1)
          ∧ r.2.mem ((c.tc : Thread Cert.PostABRefIdeal.nD Cert.PostABRefIdeal.τ).loc Cert.PostABRefIdeal.main_arg2) = m' ((c.tc : Thread Cert.PostABRefIdeal.nD Cert.PostABRefIdeal.τ).loc Cert.PostABRefIdeal.main_arg2)
          ∧ r.2.mem ((c.tc : Thread Cert.PostABRefIdeal.nD Cert.PostABRefIdeal.τ).loc Cert.PostABRefIdeal.main_arg3) = m' ((c.tc : Thread Cert.PostABRefIdeal.nD Cert.PostABRefIdeal.τ).loc Cert.PostABRefIdeal.main_arg3)
          ∧ r.2.mem ((c.tc : Thread Cert.PostABRefIdeal.nD Cert.PostABRefIdeal.τ).loc Cert.PostABRefIdeal.main_arg4) = m' ((c.tc : Thread Cert.PostABRefIdeal.nD Cert.PostABRefIdeal.τ).loc Cert.PostABRefIdeal.main_arg4)
          ∧ r.2.mem ((c.tc : Thread Cert.PostABRefIdeal.nD Cert.PostABRefIdeal.τ).loc Cert.PostABRefIdeal.main_arg5) = m' ((c.tc : Thread Cert.PostABRefIdeal.nD Cert.PostABRefIdeal.τ).loc Cert.PostABRefIdeal.main_arg5))

def preserves_PostC_PostCIdeal : Prop :=
  True

def algebraic_PostCIdeal_PostCRefIdeal [hPostCIdeal : Cert.PostCIdeal.Facts] [hPostCRefIdeal : Cert.PostCRefIdeal.Facts] : Prop :=
  ∀ (m : (ℓ : Loc Cert.PostCIdeal.nD Cert.PostCIdeal.τ Cert.PostCIdeal.sig) → Buf (Elt Ideal) ℓ) (g : Dev Cert.PostCIdeal.nD → PrngReg)
    (m' : (ℓ : Loc Cert.PostCRefIdeal.nD Cert.PostCRefIdeal.τ Cert.PostCRefIdeal.sig) → Buf (Elt Ideal) ℓ) (g' : Dev Cert.PostCRefIdeal.nD → PrngReg), Pre_PostCIdeal m →
    (∀ c : Dev Cert.PostCIdeal.nD,
      m' ((c.tc : Thread Cert.PostCRefIdeal.nD Cert.PostCRefIdeal.τ).loc Cert.PostCRefIdeal.main_arg0) = m ((c.tc : Thread Cert.PostCIdeal.nD Cert.PostCIdeal.τ).loc Cert.PostCIdeal.main_arg0)
      ∧ m' ((c.tc : Thread Cert.PostCRefIdeal.nD Cert.PostCRefIdeal.τ).loc Cert.PostCRefIdeal.main_arg1) = m ((c.tc : Thread Cert.PostCIdeal.nD Cert.PostCIdeal.τ).loc Cert.PostCIdeal.main_arg1)
      ∧ m' ((c.tc : Thread Cert.PostCRefIdeal.nD Cert.PostCRefIdeal.τ).loc Cert.PostCRefIdeal.main_arg2) = m ((c.tc : Thread Cert.PostCIdeal.nD Cert.PostCIdeal.τ).loc Cert.PostCIdeal.main_arg2)
      ∧ m' ((c.tc : Thread Cert.PostCRefIdeal.nD Cert.PostCRefIdeal.τ).loc Cert.PostCRefIdeal.main_arg3) = m ((c.tc : Thread Cert.PostCIdeal.nD Cert.PostCIdeal.τ).loc Cert.PostCIdeal.main_arg3)
      ∧ m' ((c.tc : Thread Cert.PostCRefIdeal.nD Cert.PostCRefIdeal.τ).loc Cert.PostCRefIdeal.main_arg4) = m ((c.tc : Thread Cert.PostCIdeal.nD Cert.PostCIdeal.τ).loc Cert.PostCIdeal.main_arg4)) →
    ∃ (v0 : (c : Dev Cert.PostCIdeal.nD) → Buf (Elt Ideal) ((c.tc : Thread Cert.PostCIdeal.nD Cert.PostCIdeal.τ).loc Cert.PostCIdeal.main_v3)),
      θ_run (Cert.PostCIdeal.defs (F := Ideal)) (onTc (τ := Cert.PostCIdeal.τ) (Cert.PostCIdeal.main (F := Ideal))) ⟨m, fun _ => 0, g⟩ (fun r => ∀ c : Dev Cert.PostCIdeal.nD,
          r.2.mem ((c.tc : Thread Cert.PostCIdeal.nD Cert.PostCIdeal.τ).loc Cert.PostCIdeal.main_v3) = v0 c
          ∧ r.2.mem ((c.tc : Thread Cert.PostCIdeal.nD Cert.PostCIdeal.τ).loc Cert.PostCIdeal.main_arg0) = m ((c.tc : Thread Cert.PostCIdeal.nD Cert.PostCIdeal.τ).loc Cert.PostCIdeal.main_arg0)
          ∧ r.2.mem ((c.tc : Thread Cert.PostCIdeal.nD Cert.PostCIdeal.τ).loc Cert.PostCIdeal.main_arg1) = m ((c.tc : Thread Cert.PostCIdeal.nD Cert.PostCIdeal.τ).loc Cert.PostCIdeal.main_arg1)
          ∧ r.2.mem ((c.tc : Thread Cert.PostCIdeal.nD Cert.PostCIdeal.τ).loc Cert.PostCIdeal.main_arg2) = m ((c.tc : Thread Cert.PostCIdeal.nD Cert.PostCIdeal.τ).loc Cert.PostCIdeal.main_arg2)
          ∧ r.2.mem ((c.tc : Thread Cert.PostCIdeal.nD Cert.PostCIdeal.τ).loc Cert.PostCIdeal.main_arg3) = m ((c.tc : Thread Cert.PostCIdeal.nD Cert.PostCIdeal.τ).loc Cert.PostCIdeal.main_arg3)
          ∧ r.2.mem ((c.tc : Thread Cert.PostCIdeal.nD Cert.PostCIdeal.τ).loc Cert.PostCIdeal.main_arg4) = m ((c.tc : Thread Cert.PostCIdeal.nD Cert.PostCIdeal.τ).loc Cert.PostCIdeal.main_arg4))
      ∧ θ_run (Cert.PostCRefIdeal.defs (F := Ideal)) (onTc (τ := Cert.PostCRefIdeal.τ) (Cert.PostCRefIdeal.main (F := Ideal))) ⟨m', fun _ => 0, g'⟩ (fun r => ∀ c : Dev Cert.PostCRefIdeal.nD,
          r.2.mem ((c.tc : Thread Cert.PostCRefIdeal.nD Cert.PostCRefIdeal.τ).loc Cert.PostCRefIdeal.main_v28) = v0 c
          ∧ r.2.mem ((c.tc : Thread Cert.PostCRefIdeal.nD Cert.PostCRefIdeal.τ).loc Cert.PostCRefIdeal.main_arg0) = m' ((c.tc : Thread Cert.PostCRefIdeal.nD Cert.PostCRefIdeal.τ).loc Cert.PostCRefIdeal.main_arg0)
          ∧ r.2.mem ((c.tc : Thread Cert.PostCRefIdeal.nD Cert.PostCRefIdeal.τ).loc Cert.PostCRefIdeal.main_arg1) = m' ((c.tc : Thread Cert.PostCRefIdeal.nD Cert.PostCRefIdeal.τ).loc Cert.PostCRefIdeal.main_arg1)
          ∧ r.2.mem ((c.tc : Thread Cert.PostCRefIdeal.nD Cert.PostCRefIdeal.τ).loc Cert.PostCRefIdeal.main_arg2) = m' ((c.tc : Thread Cert.PostCRefIdeal.nD Cert.PostCRefIdeal.τ).loc Cert.PostCRefIdeal.main_arg2)
          ∧ r.2.mem ((c.tc : Thread Cert.PostCRefIdeal.nD Cert.PostCRefIdeal.τ).loc Cert.PostCRefIdeal.main_arg3) = m' ((c.tc : Thread Cert.PostCRefIdeal.nD Cert.PostCRefIdeal.τ).loc Cert.PostCRefIdeal.main_arg3)
          ∧ r.2.mem ((c.tc : Thread Cert.PostCRefIdeal.nD Cert.PostCRefIdeal.τ).loc Cert.PostCRefIdeal.main_arg4) = m' ((c.tc : Thread Cert.PostCRefIdeal.nD Cert.PostCRefIdeal.τ).loc Cert.PostCRefIdeal.main_arg4))

def preserves_PrepAB_PrepABIdeal : Prop :=
  True

def algebraic_PrepABIdeal_PrepABRefIdeal_pre_finite_projections [hPrepABIdeal : Cert.PrepABIdeal.Facts] [hPrepABRefIdeal : Cert.PrepABRefIdeal.Facts] [hPre_finite_projections : Cert.Pre_finite_projections.Facts] : Prop :=
  ∀ (m : (ℓ : Loc Cert.PrepABIdeal.nD Cert.PrepABIdeal.τ Cert.PrepABIdeal.sig) → Buf (Elt Ideal) ℓ) (g : Dev Cert.PrepABIdeal.nD → PrngReg)
    (m' : (ℓ : Loc Cert.PrepABRefIdeal.nD Cert.PrepABRefIdeal.τ Cert.PrepABRefIdeal.sig) → Buf (Elt Ideal) ℓ) (g' : Dev Cert.PrepABRefIdeal.nD → PrngReg), Pre_PrepABIdeal_finite_projections m →
    (∀ c : Dev Cert.PrepABIdeal.nD,
      m' ((c.tc : Thread Cert.PrepABRefIdeal.nD Cert.PrepABRefIdeal.τ).loc Cert.PrepABRefIdeal.main_arg0) = m ((c.tc : Thread Cert.PrepABIdeal.nD Cert.PrepABIdeal.τ).loc Cert.PrepABIdeal.main_arg0)
      ∧ m' ((c.tc : Thread Cert.PrepABRefIdeal.nD Cert.PrepABRefIdeal.τ).loc Cert.PrepABRefIdeal.main_arg1) = m ((c.tc : Thread Cert.PrepABIdeal.nD Cert.PrepABIdeal.τ).loc Cert.PrepABIdeal.main_arg1)
      ∧ m' ((c.tc : Thread Cert.PrepABRefIdeal.nD Cert.PrepABRefIdeal.τ).loc Cert.PrepABRefIdeal.main_arg2) = m ((c.tc : Thread Cert.PrepABIdeal.nD Cert.PrepABIdeal.τ).loc Cert.PrepABIdeal.main_arg2)
      ∧ m' ((c.tc : Thread Cert.PrepABRefIdeal.nD Cert.PrepABRefIdeal.τ).loc Cert.PrepABRefIdeal.main_arg3) = m ((c.tc : Thread Cert.PrepABIdeal.nD Cert.PrepABIdeal.τ).loc Cert.PrepABIdeal.main_arg3)
      ∧ m' ((c.tc : Thread Cert.PrepABRefIdeal.nD Cert.PrepABRefIdeal.τ).loc Cert.PrepABRefIdeal.main_arg4) = m ((c.tc : Thread Cert.PrepABIdeal.nD Cert.PrepABIdeal.τ).loc Cert.PrepABIdeal.main_arg4)
      ∧ m' ((c.tc : Thread Cert.PrepABRefIdeal.nD Cert.PrepABRefIdeal.τ).loc Cert.PrepABRefIdeal.main_arg5) = m ((c.tc : Thread Cert.PrepABIdeal.nD Cert.PrepABIdeal.τ).loc Cert.PrepABIdeal.main_arg5)) →
    ∃ (v0 : (c : Dev Cert.PrepABIdeal.nD) → Buf (Elt Ideal) ((c.tc : Thread Cert.PrepABIdeal.nD Cert.PrepABIdeal.τ).loc Cert.PrepABIdeal.main_v76_0)) (v1 : (c : Dev Cert.PrepABIdeal.nD) → Buf (Elt Ideal) ((c.tc : Thread Cert.PrepABIdeal.nD Cert.PrepABIdeal.τ).loc Cert.PrepABIdeal.main_v76_1)) (v2 : (c : Dev Cert.PrepABIdeal.nD) → Buf (Elt Ideal) ((c.tc : Thread Cert.PrepABIdeal.nD Cert.PrepABIdeal.τ).loc Cert.PrepABIdeal.main_v76_2)) (v3 : (c : Dev Cert.PrepABIdeal.nD) → Buf (Elt Ideal) ((c.tc : Thread Cert.PrepABIdeal.nD Cert.PrepABIdeal.τ).loc Cert.PrepABIdeal.main_v76_3)) (v4 : (c : Dev Cert.PrepABIdeal.nD) → Buf (Elt Ideal) ((c.tc : Thread Cert.PrepABIdeal.nD Cert.PrepABIdeal.τ).loc Cert.PrepABIdeal.main_v76_4)) (v5 : (c : Dev Cert.PrepABIdeal.nD) → Buf (Elt Ideal) ((c.tc : Thread Cert.PrepABIdeal.nD Cert.PrepABIdeal.τ).loc Cert.PrepABIdeal.main_v76_5)),
      θ_run (Cert.PrepABIdeal.defs (F := Ideal)) (onTc (τ := Cert.PrepABIdeal.τ) (Cert.PrepABIdeal.main (F := Ideal))) ⟨m, fun _ => 0, g⟩ (fun r => ∀ c : Dev Cert.PrepABIdeal.nD,
          r.2.mem ((c.tc : Thread Cert.PrepABIdeal.nD Cert.PrepABIdeal.τ).loc Cert.PrepABIdeal.main_v76_0) = v0 c
          ∧ r.2.mem ((c.tc : Thread Cert.PrepABIdeal.nD Cert.PrepABIdeal.τ).loc Cert.PrepABIdeal.main_v76_1) = v1 c
          ∧ r.2.mem ((c.tc : Thread Cert.PrepABIdeal.nD Cert.PrepABIdeal.τ).loc Cert.PrepABIdeal.main_v76_2) = v2 c
          ∧ r.2.mem ((c.tc : Thread Cert.PrepABIdeal.nD Cert.PrepABIdeal.τ).loc Cert.PrepABIdeal.main_v76_3) = v3 c
          ∧ r.2.mem ((c.tc : Thread Cert.PrepABIdeal.nD Cert.PrepABIdeal.τ).loc Cert.PrepABIdeal.main_v76_4) = v4 c
          ∧ r.2.mem ((c.tc : Thread Cert.PrepABIdeal.nD Cert.PrepABIdeal.τ).loc Cert.PrepABIdeal.main_v76_5) = v5 c
          ∧ r.2.mem ((c.tc : Thread Cert.PrepABIdeal.nD Cert.PrepABIdeal.τ).loc Cert.PrepABIdeal.main_arg0) = m ((c.tc : Thread Cert.PrepABIdeal.nD Cert.PrepABIdeal.τ).loc Cert.PrepABIdeal.main_arg0)
          ∧ r.2.mem ((c.tc : Thread Cert.PrepABIdeal.nD Cert.PrepABIdeal.τ).loc Cert.PrepABIdeal.main_arg1) = m ((c.tc : Thread Cert.PrepABIdeal.nD Cert.PrepABIdeal.τ).loc Cert.PrepABIdeal.main_arg1)
          ∧ r.2.mem ((c.tc : Thread Cert.PrepABIdeal.nD Cert.PrepABIdeal.τ).loc Cert.PrepABIdeal.main_arg2) = m ((c.tc : Thread Cert.PrepABIdeal.nD Cert.PrepABIdeal.τ).loc Cert.PrepABIdeal.main_arg2)
          ∧ r.2.mem ((c.tc : Thread Cert.PrepABIdeal.nD Cert.PrepABIdeal.τ).loc Cert.PrepABIdeal.main_arg3) = m ((c.tc : Thread Cert.PrepABIdeal.nD Cert.PrepABIdeal.τ).loc Cert.PrepABIdeal.main_arg3)
          ∧ r.2.mem ((c.tc : Thread Cert.PrepABIdeal.nD Cert.PrepABIdeal.τ).loc Cert.PrepABIdeal.main_arg4) = m ((c.tc : Thread Cert.PrepABIdeal.nD Cert.PrepABIdeal.τ).loc Cert.PrepABIdeal.main_arg4)
          ∧ r.2.mem ((c.tc : Thread Cert.PrepABIdeal.nD Cert.PrepABIdeal.τ).loc Cert.PrepABIdeal.main_arg5) = m ((c.tc : Thread Cert.PrepABIdeal.nD Cert.PrepABIdeal.τ).loc Cert.PrepABIdeal.main_arg5))
      ∧ θ_run (Cert.PrepABRefIdeal.defs (F := Ideal)) (onTc (τ := Cert.PrepABRefIdeal.τ) (Cert.PrepABRefIdeal.main (F := Ideal))) ⟨m', fun _ => 0, g'⟩ (fun r => ∀ c : Dev Cert.PrepABRefIdeal.nD,
          r.2.mem ((c.tc : Thread Cert.PrepABRefIdeal.nD Cert.PrepABRefIdeal.τ).loc Cert.PrepABRefIdeal.main_v115) = v0 c
          ∧ r.2.mem ((c.tc : Thread Cert.PrepABRefIdeal.nD Cert.PrepABRefIdeal.τ).loc Cert.PrepABRefIdeal.main_v116) = v1 c
          ∧ r.2.mem ((c.tc : Thread Cert.PrepABRefIdeal.nD Cert.PrepABRefIdeal.τ).loc Cert.PrepABRefIdeal.main_v117) = v2 c
          ∧ r.2.mem ((c.tc : Thread Cert.PrepABRefIdeal.nD Cert.PrepABRefIdeal.τ).loc Cert.PrepABRefIdeal.main_v118) = v3 c
          ∧ r.2.mem ((c.tc : Thread Cert.PrepABRefIdeal.nD Cert.PrepABRefIdeal.τ).loc Cert.PrepABRefIdeal.main_v119) = v4 c
          ∧ r.2.mem ((c.tc : Thread Cert.PrepABRefIdeal.nD Cert.PrepABRefIdeal.τ).loc Cert.PrepABRefIdeal.main_v120) = v5 c
          ∧ r.2.mem ((c.tc : Thread Cert.PrepABRefIdeal.nD Cert.PrepABRefIdeal.τ).loc Cert.PrepABRefIdeal.main_arg0) = m' ((c.tc : Thread Cert.PrepABRefIdeal.nD Cert.PrepABRefIdeal.τ).loc Cert.PrepABRefIdeal.main_arg0)
          ∧ r.2.mem ((c.tc : Thread Cert.PrepABRefIdeal.nD Cert.PrepABRefIdeal.τ).loc Cert.PrepABRefIdeal.main_arg1) = m' ((c.tc : Thread Cert.PrepABRefIdeal.nD Cert.PrepABRefIdeal.τ).loc Cert.PrepABRefIdeal.main_arg1)
          ∧ r.2.mem ((c.tc : Thread Cert.PrepABRefIdeal.nD Cert.PrepABRefIdeal.τ).loc Cert.PrepABRefIdeal.main_arg2) = m' ((c.tc : Thread Cert.PrepABRefIdeal.nD Cert.PrepABRefIdeal.τ).loc Cert.PrepABRefIdeal.main_arg2)
          ∧ r.2.mem ((c.tc : Thread Cert.PrepABRefIdeal.nD Cert.PrepABRefIdeal.τ).loc Cert.PrepABRefIdeal.main_arg3) = m' ((c.tc : Thread Cert.PrepABRefIdeal.nD Cert.PrepABRefIdeal.τ).loc Cert.PrepABRefIdeal.main_arg3)
          ∧ r.2.mem ((c.tc : Thread Cert.PrepABRefIdeal.nD Cert.PrepABRefIdeal.τ).loc Cert.PrepABRefIdeal.main_arg4) = m' ((c.tc : Thread Cert.PrepABRefIdeal.nD Cert.PrepABRefIdeal.τ).loc Cert.PrepABRefIdeal.main_arg4)
          ∧ r.2.mem ((c.tc : Thread Cert.PrepABRefIdeal.nD Cert.PrepABRefIdeal.τ).loc Cert.PrepABRefIdeal.main_arg5) = m' ((c.tc : Thread Cert.PrepABRefIdeal.nD Cert.PrepABRefIdeal.τ).loc Cert.PrepABRefIdeal.main_arg5))

def Claim : Prop :=
  ∃ (hAttnA : Cert.AttnA.Facts) (hAttnAIdeal : Cert.AttnAIdeal.Facts) (hAttnARefIdeal : Cert.AttnARefIdeal.Facts) (hExpert : Cert.Expert.Facts) (hExpertIdeal : Cert.ExpertIdeal.Facts) (hExpertRefIdeal : Cert.ExpertRefIdeal.Facts) (hPrepC : Cert.PrepC.Facts) (hPrepCIdeal : Cert.PrepCIdeal.Facts) (hPrepCRefIdeal : Cert.PrepCRefIdeal.Facts) (hPostAB : Cert.PostAB.Facts) (hPostABIdeal : Cert.PostABIdeal.Facts) (hPostABRefIdeal : Cert.PostABRefIdeal.Facts) (hPostC : Cert.PostC.Facts) (hPostCIdeal : Cert.PostCIdeal.Facts) (hPostCRefIdeal : Cert.PostCRefIdeal.Facts) (hPrepAB : Cert.PrepAB.Facts) (hPrepABIdeal : Cert.PrepABIdeal.Facts) (hPrepABRefIdeal : Cert.PrepABRefIdeal.Facts) (hPre_finite : Cert.Pre_finite.Facts) (hPre_tables : Cert.Pre_tables.Facts) (hPre_finite_projections : Cert.Pre_finite_projections.Facts) (hOn_filled_rows : Cert.On_filled_rows.Facts),
    quiescent_AttnA (hAttnA := hAttnA)
    ∧ quiescent_AttnAIdeal (hAttnAIdeal := hAttnAIdeal)
    ∧ quiescent_AttnAIdeal_pre_finite (hAttnAIdeal := hAttnAIdeal) (hPre_finite := hPre_finite)
    ∧ quiescent_AttnARefIdeal (hAttnARefIdeal := hAttnARefIdeal)
    ∧ quiescent_AttnARefIdeal_pre_finite (hAttnARefIdeal := hAttnARefIdeal) (hPre_finite := hPre_finite)
    ∧ quiescent_Expert (hExpert := hExpert) (hPre_tables := hPre_tables)
    ∧ quiescent_ExpertIdeal (hExpertIdeal := hExpertIdeal) (hPre_tables := hPre_tables)
    ∧ quiescent_ExpertRefIdeal (hExpertRefIdeal := hExpertRefIdeal)
    ∧ quiescent_ExpertRefIdeal_pre_tables (hExpertRefIdeal := hExpertRefIdeal) (hPre_tables := hPre_tables)
    ∧ quiescent_PrepC (hPrepC := hPrepC)
    ∧ quiescent_PrepCIdeal (hPrepCIdeal := hPrepCIdeal)
    ∧ quiescent_PrepCRefIdeal (hPrepCRefIdeal := hPrepCRefIdeal)
    ∧ quiescent_PostAB (hPostAB := hPostAB)
    ∧ quiescent_PostABIdeal (hPostABIdeal := hPostABIdeal)
    ∧ quiescent_PostABRefIdeal (hPostABRefIdeal := hPostABRefIdeal)
    ∧ quiescent_PostC (hPostC := hPostC)
    ∧ quiescent_PostCIdeal (hPostCIdeal := hPostCIdeal)
    ∧ quiescent_PostCRefIdeal (hPostCRefIdeal := hPostCRefIdeal)
    ∧ quiescent_PrepAB (hPrepAB := hPrepAB)
    ∧ quiescent_PrepABIdeal (hPrepABIdeal := hPrepABIdeal)
    ∧ quiescent_PrepABIdeal_pre_finite_projections (hPrepABIdeal := hPrepABIdeal) (hPre_finite_projections := hPre_finite_projections)
    ∧ quiescent_PrepABRefIdeal (hPrepABRefIdeal := hPrepABRefIdeal)
    ∧ quiescent_PrepABRefIdeal_pre_finite_projections (hPrepABRefIdeal := hPrepABRefIdeal) (hPre_finite_projections := hPre_finite_projections)
    ∧ preserves_AttnA_AttnAIdeal
    ∧ algebraic_AttnAIdeal_AttnARefIdeal_pre_finite (hAttnAIdeal := hAttnAIdeal) (hAttnARefIdeal := hAttnARefIdeal) (hPre_finite := hPre_finite)
    ∧ preserves_Expert_ExpertIdeal
    ∧ algebraic_ExpertIdeal_ExpertRefIdeal_on_filled_rows (hExpertIdeal := hExpertIdeal) (hExpertRefIdeal := hExpertRefIdeal) (hPre_tables := hPre_tables) (hOn_filled_rows := hOn_filled_rows)
    ∧ preserves_PrepC_PrepCIdeal
    ∧ algebraic_PrepCIdeal_PrepCRefIdeal (hPrepCIdeal := hPrepCIdeal) (hPrepCRefIdeal := hPrepCRefIdeal)
    ∧ preserves_PostAB_PostABIdeal
    ∧ algebraic_PostABIdeal_PostABRefIdeal (hPostABIdeal := hPostABIdeal) (hPostABRefIdeal := hPostABRefIdeal)
    ∧ preserves_PostC_PostCIdeal
    ∧ algebraic_PostCIdeal_PostCRefIdeal (hPostCIdeal := hPostCIdeal) (hPostCRefIdeal := hPostCRefIdeal)
    ∧ preserves_PrepAB_PrepABIdeal
    ∧ algebraic_PrepABIdeal_PrepABRefIdeal_pre_finite_projections (hPrepABIdeal := hPrepABIdeal) (hPrepABRefIdeal := hPrepABRefIdeal) (hPre_finite_projections := hPre_finite_projections)
-- ==== On_filled_rows.lean ====
abbrev S288 : Shape := ⟨1, ![288]⟩
abbrev S1 : Shape := ⟨1, ![1]⟩
abbrev S73728x1024 : Shape := ⟨2, ![73728, 1024]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S73728 : Shape := ⟨1, ![73728]⟩
abbrev S73728x1 : Shape := ⟨2, ![73728, 1]⟩
abbrev S_ : Shape := ⟨0, ![]⟩

class Facts : Prop where
  bcast_S73728_S73728x1_0 : S73728.BroadcastsInDim S73728x1 (![0] : Fin 1 → Fin S73728x1.rank)
  bcast_S_S73728x1 : S_.BroadcastsInDim S73728x1 (![] : Fin 0 → Fin S73728x1.rank)
  shapeCasts_S1_S_ : S1.ShapeCasts S_
  bcast_S73728x1_S73728x1024_0_1 : S73728x1.BroadcastsInDim S73728x1024 (![0, 1] : Fin 2 → Fin S73728x1024.rank)

variable [Facts]

def fn_where {F : FTy → Type} [FloatOps F] (arg0 : IVec S73728x1 1) (arg1 : IVec S73728x1 32) (arg2 : IVec S73728x1 32) : IVec S73728x1 32 :=
  let v0 : IVec S73728x1 32 := select arg0 arg1 arg2
  v0

def fn_floor_divide {F : FTy → Type} [FloatOps F] (arg0 : IVec S73728x1 32) (arg1 : IVec S_ 32) : IVec S73728x1 32 :=
  let v0 : IVec S_ 32 := id arg1
  let v1 : IVec S73728x1 32 := broadcastInDim S73728x1 ![] bcast_S_S73728x1 v0
  let v2 : IVec S73728x1 32 := Host.divsi arg0 v1
  let v3 : IVec S73728x1 32 := signi arg0
  let v4 : IVec S_ 32 := signi v0
  let v5 : IVec S73728x1 32 := broadcastInDim S73728x1 ![] bcast_S_S73728x1 v4
  let v6 : IVec S73728x1 1 := cmpi .ne v3 v5
  let v7 : IVec S73728x1 32 := broadcastInDim S73728x1 ![] bcast_S_S73728x1 v0
  let v8 : IVec S73728x1 32 := Host.remsi arg0 v7
  let c : IVec S_ 32 := constantI S_ 32 0#32
  let v9 : IVec S73728x1 32 := broadcastInDim S73728x1 ![] bcast_S_S73728x1 c
  let v10 : IVec S73728x1 1 := cmpi .ne v8 v9
  let v11 : IVec S73728x1 1 := andi v6 v10
  let c_0 : IVec S_ 32 := constantI S_ 32 1#32
  let v12 : IVec S73728x1 32 := broadcastInDim S73728x1 ![] bcast_S_S73728x1 c_0
  let v13 : IVec S73728x1 32 := subi v2 v12
  let v14 : IVec S73728x1 32 := fn_where (F := F) v11 v13 v2
  v14

def fn {F : FTy → Type} [FloatOps F] (main_arg0 : IVec S288 32) (main_arg1 : IVec S1 32) (main_arg2 : FVec F S73728x1024 .f32) (main_arg3 : FVec F S128x1024x2048 .f32) (main_arg4 : FVec F S128x1x2048 .f32) (main_arg5 : FVec F S128x1024x1024 .f32) (main_arg6 : FVec F S128x1x1024 .f32) : IVec S73728x1024 1 :=
  let main_v0 : IVec S73728 32 := iotaInDim S73728 32 0
  let main_v1 : IVec S73728x1 32 := broadcastInDim S73728x1 ![0] bcast_S73728_S73728x1_0 main_v0
  let main_c : IVec S_ 32 := constantI S_ 32 256#32
  let main_v2 : IVec S73728x1 32 := fn_floor_divide (F := F) main_v1 main_c
  let main_v3 : IVec S_ 32 := shapeCast S_ main_arg1 shapeCasts_S1_S_
  let main_v4 : IVec S73728x1 32 := broadcastInDim S73728x1 ![] bcast_S_S73728x1 main_v3
  let main_v5 : IVec S73728x1 1 := cmpi .slt main_v2 main_v4
  let main_v6 : IVec S73728x1024 1 := broadcastInDim S73728x1024 ![0, 1] bcast_S73728x1_S73728x1024_0_1 main_v5
  main_v6
-- ==== Pre_finite.lean ====
abbrev S16384x512 : Shape := ⟨2, ![16384, 512]⟩
abbrev S257x8 : Shape := ⟨2, ![257, 8]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S257x8 : S_.BroadcastsInDim S257x8 (![] : Fin 0 → Fin S257x8.rank)
  reducesTo_S257x8_S_d0_1 : S257x8.ReducesTo [0, 1] S_

variable [Facts]

def fn {F : FTy → Type} [FloatOps F] (main_arg0 : FVec F S16384x512 .bf16) (main_arg1 : FVec F S16384x512 .bf16) (main_arg2 : FVec F S16384x512 .bf16) (main_arg3 : FVec F S257x8 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S257x8 .f32 := Host.absf main_arg3
  let main_cst_2 : FVec F S_ .f32 := constant S_ .f32 0x7F800000#32
  let main_v12 : FVec F S257x8 .f32 := broadcastInDim S257x8 ![] bcast_S_S257x8 main_cst_2
  let main_v13 : IVec S257x8 1 := cmpf .olt main_v11 main_v12
  let main_c_3 : IVec S_ 1 := constantI S_ 1 1#1
  let main_v14 : IVec S_ 1 := (fun x v => Host.reduce IntOp.andi x v reducesTo_S257x8_S_d0_1 h_S_) main_v13 main_c_3
  let main_v15 : IVec S_ 1 := andi main_v10 main_v14
  main_v15
-- ==== Pre_finite_projections.lean ====
abbrev S16384x1024 : Shape := ⟨2, ![16384, 1024]⟩
abbrev S1024x2336 : Shape := ⟨2, ![1024, 2336]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2336 : S_.BroadcastsInDim S1024x2336 (![] : Fin 0 → Fin S1024x2336.rank)
  reducesTo_S1024x2336_S_d0_1 : S1024x2336.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_

variable [Facts]

def fn_part1 {F : FTy → Type} [FloatOps F] (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  main_v18

def fn {F : FTy → Type} [FloatOps F] (main_arg0 : FVec F S16384x1024 .f32) (main_arg1 : FVec F S1024x2336 .f32) (main_arg2 : FVec F S512 .f32) (main_arg3 : FVec F S256 .f32) (main_arg4 : FVec F S512x768 .f32) (main_arg5 : FVec F S256x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2336 .f32 := Host.absf main_arg1
  let main_cst_0 : FVec F S_ .f32 := constant S_ .f32 0x7F800000#32
  let main_v5 : FVec F S1024x2336 .f32 := broadcastInDim S1024x2336 ![] bcast_S_S1024x2336 main_cst_0
  let main_v6 : IVec S1024x2336 1 := cmpf .olt main_v4 main_v5
  let main_c_1 : IVec S_ 1 := constantI S_ 1 1#1
  let main_v7 : IVec S_ 1 := (fun x v => Host.reduce IntOp.andi x v reducesTo_S1024x2336_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x768 .f32 := Host.absf main_arg4
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_v13 main_v16
-- ==== Pre_tables.lean ====
abbrev S288 : Shape := ⟨1, ![288]⟩
abbrev S1 : Shape := ⟨1, ![1]⟩
abbrev S73728x1024 : Shape := ⟨2, ![73728, 1024]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S73728x1024 .f32) (main_arg3 : FVec F S128x1024x2048 .f32) (main_arg4 : FVec F S128x1x2048 .f32) (main_arg5 : FVec F S128x1024x1024 .f32) (main_arg6 : FVec F S128x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 128#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== AttnA.lean ====
abbrev S16384x512 : Shape := ⟨2, ![16384, 512]⟩
abbrev S257x8 : Shape := ⟨2, ![257, 8]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S256x768x8 : Shape := ⟨3, ![256, 768, 8]⟩
abbrev S8x256x768 : Shape := ⟨3, ![8, 256, 768]⟩
abbrev S1x256x768 : Shape := ⟨3, ![1, 256, 768]⟩
abbrev S512x128 : Shape := ⟨2, ![512, 128]⟩
abbrev S2x256x768 : Shape := ⟨3, ![2, 256, 768]⟩
abbrev S1024x128 : Shape := ⟨2, ![1024, 128]⟩
abbrev S1x128 : Shape := ⟨2, ![1, 128]⟩
abbrev S256x128 : Shape := ⟨2, ![256, 128]⟩
abbrev S768x128 : Shape := ⟨2, ![768, 128]⟩

abbrev nBuf : Space → Nat
  | .hbm => 91
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S257x8, .f32⟩
  | .hbm, ⟨4, _⟩ => ⟨S256, .i32⟩
  | .hbm, ⟨5, _⟩ => ⟨S256x1, .i32⟩
  | .hbm, ⟨6, _⟩ => ⟨S768, .i32⟩
  | .hbm, ⟨7, _⟩ => ⟨S1x768, .i32⟩
  | .hbm, ⟨8, _⟩ => ⟨S_, .i32⟩
  | .hbm, ⟨9, _⟩ => ⟨S256x1, .i32⟩
  | .hbm, ⟨10, _⟩ => ⟨S256x1, .i32⟩
  | .hbm, ⟨11, _⟩ => ⟨S256x768, .i32⟩
  | .hbm, ⟨12, _⟩ => ⟨S256x768, .i32⟩
  | .hbm, ⟨13, _⟩ => ⟨S256x768, .i32⟩
  | .hbm, ⟨14, _⟩ => ⟨S_, .i32⟩
  | .hbm, ⟨15, _⟩ => ⟨S_, .i32⟩
  | .hbm, ⟨16, _⟩ => ⟨S256x1, .i32⟩
  | .hbm, ⟨17, _⟩ => ⟨S256x1, .i32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S256x1, .i32⟩
  | .hbm, ⟨23, _⟩ => ⟨S256x1, .i32⟩
  | .hbm, ⟨24, _⟩ => ⟨S_, .i32⟩
  | .hbm, ⟨25, _⟩ => ⟨S256x1, .i32⟩
  | .hbm, ⟨26, _⟩ => ⟨S256x1, .i1⟩
  | .hbm, ⟨27, _⟩ => ⟨S256x1, .i1⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i32⟩
  | .hbm, ⟨35, _⟩ => ⟨S_, .i32⟩
  | .hbm, ⟨36, _⟩ => ⟨S_, .i32⟩
  | .hbm, ⟨37, _⟩ => ⟨S1x768, .i32⟩
  | .hbm, ⟨38, _⟩ => ⟨S1x768, .i32⟩
  | .hbm, ⟨39, _⟩ => ⟨S1x768, .i32⟩
  | .hbm, ⟨40, _⟩ => ⟨S_, .i32⟩
  | .hbm, ⟨41, _⟩ => ⟨S1x768, .i32⟩
  | .hbm, ⟨42, _⟩ => ⟨S1x768, .i1⟩
  | .hbm, ⟨43, _⟩ => ⟨S1x768, .i32⟩
  | .hbm, ⟨44, _⟩ => ⟨S1x768, .i32⟩
  | .hbm, ⟨45, _⟩ => ⟨S_, .i32⟩
  | .hbm, ⟨46, _⟩ => ⟨S1x768, .i32⟩
  | .hbm, ⟨47, _⟩ => ⟨S1x768, .i1⟩
  | .hbm, ⟨48, _⟩ => ⟨S1x768, .i1⟩
  | .hbm, ⟨49, _⟩ => ⟨S_, .i32⟩
  | .hbm, ⟨50, _⟩ => ⟨S1x768, .i32⟩
  | .hbm, ⟨51, _⟩ => ⟨S1x768, .i32⟩
  | .hbm, ⟨52, _⟩ => ⟨S1x768, .i32⟩
  | .hbm, ⟨53, _⟩ => ⟨S256x768, .i32⟩
  | .hbm, ⟨54, _⟩ => ⟨S256x768, .i32⟩
  | .hbm, ⟨55, _⟩ => ⟨S256x768, .i32⟩
  | .hbm, ⟨56, _⟩ => ⟨S_, .i32⟩
  | .hbm, ⟨57, _⟩ => ⟨S256x768, .i32⟩
  | .hbm, ⟨58, _⟩ => ⟨S256x768, .i1⟩
  | .hbm, ⟨59, _⟩ => ⟨S_, .i32⟩
  | .hbm, ⟨60, _⟩ => ⟨S256x768, .i32⟩
  | .hbm, ⟨61, _⟩ => ⟨S256x768, .i1⟩
  | .hbm, ⟨62, _⟩ => ⟨S256x768, .i1⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S256x768, .i32⟩
  | .hbm, ⟨67, _⟩ => ⟨S256x768, .i32⟩
  | .hbm, ⟨68, _⟩ => ⟨S_, .i32⟩
  | .hbm, ⟨69, _⟩ => ⟨S256x768, .i32⟩
  | .hbm, ⟨70, _⟩ => ⟨S256x768, .i32⟩
  | .hbm, ⟨71, _⟩ => ⟨S_, .i32⟩
  | .hbm, ⟨72, _⟩ => ⟨S256x768, .i32⟩
  | .hbm, ⟨73, _⟩ => ⟨S256x768, .i32⟩
  | .hbm, ⟨74, _⟩ => ⟨S_, .i32⟩
  | .hbm, ⟨75, _⟩ => ⟨S256x768, .i32⟩
  | .hbm, ⟨76, _⟩ => ⟨S256x768, .i1⟩
  | .hbm, ⟨77, _⟩ => ⟨S_, .i32⟩
  | .hbm, ⟨78, _⟩ => ⟨S256x768, .i32⟩
  | .hbm, ⟨79, _⟩ => ⟨S256x768, .i32⟩
  | .hbm, ⟨80, _⟩ => ⟨S256x768, .i32⟩
  | .hbm, ⟨81, _⟩ => ⟨S256x768x1, .i32⟩
  | .hbm, ⟨82, _⟩ => ⟨S256x768x8, .f32⟩
  | .hbm, ⟨83, _⟩ => ⟨S8x256x768, .f32⟩
  | .hbm, ⟨84, _⟩ => ⟨S1x256x768, .i1⟩
  | .hbm, ⟨85, _⟩ => ⟨S_, .f32⟩
  | .hbm, ⟨86, _⟩ => ⟨S_, .f32⟩
  | .hbm, ⟨87, _⟩ => ⟨S8x256x768, .i1⟩
  | .hbm, ⟨88, _⟩ => ⟨S8x256x768, .f32⟩
  | .hbm, ⟨89, _⟩ => ⟨S8x256x768, .f32⟩
  | .hbm, ⟨90, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S2x256x768, .f32⟩
  | .local _ .vmem, ⟨11, _⟩ => ⟨S2x256x768, .f32⟩
  | .local _ .vmem, ⟨12, _⟩ => ⟨S512x128, .bf16⟩
  | .local _ .vmem, ⟨13, _⟩ => ⟨S512x128, .bf16⟩
  | .local _ .vmem, ⟨14, _⟩ => ⟨S1024x128, .bf16⟩
  | .local _ .vmem, ⟨15, _⟩ => ⟨S1024x128, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v9 : Ref sig .tc := ⟨.hbm, 31, rfl⟩
abbrev main_c_1 : Ref sig .tc := ⟨.hbm, 32, rfl⟩
abbrev main_v10 : Ref sig .tc := ⟨.hbm, 33, rfl⟩
abbrev main_v11 : Ref sig .tc := ⟨.hbm, 34, rfl⟩
abbrev main_c_2 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_c : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_0 : Ref sig .tc := ⟨.hbm, 49, rfl⟩
abbrev main_call1_v12 : Ref sig .tc := ⟨.hbm, 50, rfl⟩
abbrev main_call1_v13 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_c_3 : Ref sig .tc := ⟨.hbm, 56, rfl⟩
abbrev main_v16 : Ref sig .tc := ⟨.hbm, 57, rfl⟩
abbrev main_v17 : Ref sig .tc := ⟨.hbm, 58, rfl⟩
abbrev main_c_4 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_c_5 : Ref sig .tc := ⟨.hbm, 63, rfl⟩
abbrev main_c_6 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v21 : Ref sig .tc := ⟨.hbm, 70, rfl⟩
abbrev main_c_7 : Ref sig .tc := ⟨.hbm, 71, rfl⟩
abbrev main_v22 : Ref sig .tc := ⟨.hbm, 72, rfl⟩
abbrev main_v23 : Ref sig .tc := ⟨.hbm, 73, rfl⟩
abbrev main_c_8 : Ref sig .tc := ⟨.hbm, 74, rfl⟩
abbrev main_v24 : Ref sig .tc := ⟨.hbm, 75, rfl⟩
abbrev main_v25 : Ref sig .tc := ⟨.hbm, 76, rfl⟩
abbrev main_c_9 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_cst : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v33 : Ref sig .tc := ⟨.hbm, 89, rfl⟩
abbrev main_v34 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnAIdeal.lean ====
variable {F : FTy → Type} [FloatOps F] [Named F]
def κ : String → Option EReal := fun
  | "mask" => some ⊥
  | _ => none
-- ==== AttnARefIdeal.lean ====
abbrev S16384x512 : Shape := ⟨2, ![16384, 512]⟩
abbrev S257x8 : Shape := ⟨2, ![257, 8]⟩
abbrev S256x64x8x64 : Shape := ⟨4, ![256, 64, 8, 64]⟩
abbrev S_ : Shape := ⟨0, ![]⟩
abbrev S264x64x8x64 : Shape := ⟨4, ![264, 64, 8, 64]⟩
abbrev S256x576x8x64 : Shape := ⟨4, ![256, 576, 8, 64]⟩
abbrev S256x8x64x576 : Shape := ⟨4, ![256, 8, 64, 576]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S64x576x8 : Shape := ⟨3, ![64, 576, 8]⟩
abbrev S8x64x576 : Shape := ⟨3, ![8, 64, 576]⟩
abbrev S1x8x64x576 : Shape := ⟨4, ![1, 8, 64, 576]⟩
abbrev S256 : Shape := ⟨1, ![256]⟩
abbrev S256x1 : Shape := ⟨2, ![256, 1]⟩
abbrev S256x576 : Shape := ⟨2, ![256, 576]⟩
abbrev S256x1x1x576 : Shape := ⟨4, ![256, 1, 1, 576]⟩
abbrev S256x8x64 : Shape := ⟨3, ![256, 8, 64]⟩
abbrev S256x8x64x1 : Shape := ⟨4, ![256, 8, 64, 1]⟩
abbrev S256x8x64x64 : Shape := ⟨4, ![256, 8, 64, 64]⟩

abbrev nBuf : Space → Nat
  | .hbm => 125
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S257x8, .f32⟩
  | .hbm, ⟨4, _⟩ => ⟨S16384x512, .f32⟩
  | .hbm, ⟨5, _⟩ => ⟨S256x64x8x64, .f32⟩
  | .hbm, ⟨6, _⟩ => ⟨S16384x512, .f32⟩
  | .hbm, ⟨7, _⟩ => ⟨S256x64x8x64, .f32⟩
  | .hbm, ⟨8, _⟩ => ⟨S_, .i32⟩
  | .hbm, ⟨9, _⟩ => ⟨S_, .f32⟩
  | .hbm, ⟨10, _⟩ => ⟨S264x64x8x64, .f32⟩
  | .hbm, ⟨11, _⟩ => ⟨S16384x512, .f32⟩
  | .hbm, ⟨12, _⟩ => ⟨S256x64x8x64, .f32⟩
  | .hbm, ⟨13, _⟩ => ⟨S_, .i32⟩
  | .hbm, ⟨14, _⟩ => ⟨S_, .f32⟩
  | .hbm, ⟨15, _⟩ => ⟨S264x64x8x64, .f32⟩
  | .hbm, ⟨16, _⟩ => ⟨S256x64x8x64, .f32⟩
  | .hbm, ⟨17, _⟩ => ⟨S256x64x8x64, .f32⟩
  | .hbm, ⟨18, _⟩ => ⟨S256x64x8x64, .f32⟩
  | .hbm, ⟨19, _⟩ => ⟨S256x64x8x64, .f32⟩
  | .hbm, ⟨20, _⟩ => ⟨S256x64x8x64, .f32⟩
  | .hbm, ⟨21, _⟩ => ⟨S256x64x8x64, .f32⟩
  | .hbm, ⟨22, _⟩ => ⟨S256x64x8x64, .f32⟩
  | .hbm, ⟨23, _⟩ => ⟨S256x64x8x64, .f32⟩
  | .hbm, ⟨24, _⟩ => ⟨S256x64x8x64, .f32⟩
  | .hbm, ⟨25, _⟩ => ⟨S256x576x8x64, .f32⟩
  | .hbm, ⟨26, _⟩ => ⟨S256x64x8x64, .f32⟩
  | .hbm, ⟨27, _⟩ => ⟨S256x64x8x64, .f32⟩
  | .hbm, ⟨28, _⟩ => ⟨S256x64x8x64, .f32⟩
  | .hbm, ⟨29, _⟩ => ⟨S256x64x8x64, .f32⟩
  | .hbm, ⟨30, _⟩ => ⟨S256x64x8x64, .f32⟩
  | .hbm, ⟨31, _⟩ => ⟨S256x64x8x64, .f32⟩
  | .hbm, ⟨32, _⟩ => ⟨S256x64x8x64, .f32⟩
  | .hbm, ⟨33, _⟩ => ⟨S256x64x8x64, .f32⟩
  | .hbm, ⟨34, _⟩ => ⟨S256x64x8x64, .f32⟩
  | .hbm, ⟨35, _⟩ => ⟨S256x576x8x64, .f32⟩
  | .hbm, ⟨36, _⟩ => ⟨S256x8x64x576, .f32⟩
  | .hbm, ⟨37, _⟩ => ⟨S64, .i32⟩
  | .hbm, ⟨38, _⟩ => ⟨S576, .i32⟩
  | .hbm, ⟨39, _⟩ => ⟨S64x1, .i32⟩
  | .hbm, ⟨40, _⟩ => ⟨S_, .i32⟩
  | .hbm, ⟨41, _⟩ => ⟨S64x1, .i32⟩
  | .hbm, ⟨42, _⟩ => ⟨S64x1, .i32⟩
  | .hbm, ⟨43, _⟩ => ⟨S1x576, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i1⟩
  | .hbm, ⟨61, _⟩ => ⟨S_, .i32⟩
  | .hbm, ⟨62, _⟩ => ⟨S64x576, .i32⟩
  | .hbm, ⟨63, _⟩ => ⟨S64x576, .i32⟩
  | .hbm, ⟨64, _⟩ => ⟨S64x576, .i32⟩
  | .hbm, ⟨65, _⟩ => ⟨S64x576x1, .i32⟩
  | .hbm, ⟨66, _⟩ => ⟨S64x576x8, .f32⟩
  | .hbm, ⟨67, _⟩ => ⟨S8x64x576, .f32⟩
  | .hbm, ⟨68, _⟩ => ⟨S1x8x64x576, .f32⟩
  | .hbm, ⟨69, _⟩ => ⟨S256x8x64x576, .f32⟩
  | .hbm, ⟨70, _⟩ => ⟨S256x8x64x576, .f32⟩
  | .hbm, ⟨71, _⟩ => ⟨S256, .i32⟩
  | .hbm, ⟨72, _⟩ => ⟨S256x1, .i32⟩
  | .hbm, ⟨73, _⟩ => ⟨S_, .i32⟩
  | .hbm, ⟨74, _⟩ => ⟨S256x1, .i32⟩
  | .hbm, ⟨75, _⟩ => ⟨S256x1, .i32⟩
  | .hbm, ⟨76, _⟩ => ⟨S1x576, .i32⟩
  | .hbm, ⟨77, _⟩ => ⟨S_, .i32⟩
  | .hbm, ⟨78, _⟩ => ⟨S_, .i32⟩
  | .hbm, ⟨79, _⟩ => ⟨S1x576, .i32⟩
  | .hbm, ⟨80, _⟩ => ⟨S1x576, .i32⟩
  | .hbm, ⟨81, _⟩ => ⟨S1x576, .i32⟩
  | .hbm, ⟨82, _⟩ => ⟨S_, .i32⟩
  | .hbm, ⟨83, _⟩ => ⟨S1x576, .i32⟩
  | .hbm, ⟨84, _⟩ => ⟨S1x576, .i1⟩
  | .hbm, ⟨85, _⟩ => ⟨S1x576, .i32⟩
  | .hbm, ⟨86, _⟩ => ⟨S1x576, .i32⟩
  | .hbm, ⟨87, _⟩ => ⟨S_, .i32⟩
  | .hbm, ⟨88, _⟩ => ⟨S1x576, .i32⟩
  | .hbm, ⟨89, _⟩ => ⟨S1x576, .i1⟩
  | .hbm, ⟨90, _⟩ => ⟨S1x576, .i1⟩
  | .hbm, ⟨91, _⟩ => ⟨S_, .i32⟩
  | .hbm, ⟨92, _⟩ => ⟨S1x576, .i32⟩
  | .hbm, ⟨93, _⟩ => ⟨S1x576, .i32⟩
  | .hbm, ⟨94, _⟩ => ⟨S1x576, .i32⟩
  | .hbm, ⟨95, _⟩ => ⟨S256x576, .i32⟩
  | .hbm, ⟨96, _⟩ => ⟨S256x576, .i32⟩
  | .hbm, ⟨97, _⟩ => ⟨S256x576, .i32⟩
  | .hbm, ⟨98, _⟩ => ⟨S_, .i32⟩
  | .hbm, ⟨99, _⟩ => ⟨S256x576, .i32⟩
  | .hbm, ⟨100, _⟩ => ⟨S256x576, .i1⟩
  | .hbm, ⟨101, _⟩ => ⟨S256x1x1x576, .i1⟩
  | .hbm, ⟨102, _⟩ => ⟨S_, .f32⟩
  | .hbm, ⟨103, _⟩ => ⟨S_, .f32⟩
  | .hbm, ⟨104, _⟩ => ⟨S256x8x64x576, .i1⟩
  | .hbm, ⟨105, _⟩ => ⟨S256x8x64x576, .f32⟩
  | .hbm, ⟨106, _⟩ => ⟨S256x8x64x576, .f32⟩
  | .hbm, ⟨107, _⟩ => ⟨S_, .f32⟩
  | .hbm, ⟨108, _⟩ => ⟨S256x8x64, .f32⟩
  | .hbm, ⟨109, _⟩ => ⟨S_, .f32⟩
  | .hbm, ⟨110, _⟩ => ⟨S256x8x64, .f32⟩
  | .hbm, ⟨111, _⟩ => ⟨S256x8x64, .f32⟩
  | .hbm, ⟨112, _⟩ => ⟨S256x8x64x1, .f32⟩
  | .hbm, ⟨113, _⟩ => ⟨S256x8x64x576, .f32⟩
  | .hbm, ⟨114, _⟩ => ⟨S256x8x64x576, .f32⟩
  | .hbm, ⟨115, _⟩ => ⟨S256x8x64x576, .f32⟩
  | .hbm, ⟨116, _⟩ => ⟨S_, .f32⟩
  | .hbm, ⟨117, _⟩ => ⟨S256x8x64, .f32⟩
  | .hbm, ⟨118, _⟩ => ⟨S256x8x64x1, .f32⟩
  | .hbm, ⟨119, _⟩ => ⟨S256x8x64x576, .f32⟩
  | .hbm, ⟨120, _⟩ => ⟨S256x8x64x576, .f32⟩
  | .hbm, ⟨121, _⟩ => ⟨S256x8x64x64, .f32⟩
  | .hbm, ⟨122, _⟩ => ⟨S256x64x8x64, .f32⟩
  | .hbm, ⟨123, _⟩ => ⟨S16384x512, .f32⟩
  | .hbm, ⟨124, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_1 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v38 : Ref sig .tc := ⟨.hbm, 54, rfl⟩
abbrev main_c_4 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_8 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_9 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_v64 : Ref sig .tc := ⟨.hbm, 106, rfl⟩
abbrev main_cst_10 : Ref sig .tc := ⟨.hbm, 107, rfl⟩
abbrev main_v65 : Ref sig .tc := ⟨.hbm, 108, rfl⟩
abbrev main_cst_11 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_12 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩

abbrev nD : Nat := 1
abbrev τ : Topo := Topo.v7x

variable {F : FTy → Type} [FloatOps F]
-- ==== Expert.lean ====
abbrev S288 : Shape := ⟨1, ![288]⟩
abbrev S1 : Shape := ⟨1, ![1]⟩
abbrev S73728x1024 : Shape := ⟨2, ![73728, 1024]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S73728x1024, .f32⟩
  | .hbm, ⟨1, _⟩ => ⟨S128x1024x2048, .f32⟩
  | .hbm, ⟨2, _⟩ => ⟨S128x1x2048, .f32⟩
  | .hbm, ⟨3, _⟩ => ⟨S128x1024x1024, .f32⟩
  | .hbm, ⟨4, _⟩ => ⟨S128x1x1024, .f32⟩
  | .hbm, ⟨5, _⟩ => ⟨S73728x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S73728x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
@[reducible] def k0_t1_loop : Scf.Loop 32 :=
  let c0_i32_4 : BitVec 32 := 0#32
  let c8_i32 : BitVec 32 := 8#32
  let v18 : BitVec 32 := Scalar.addi c0_i32_4 c8_i32
  let c1_i32_5 : BitVec 32 := 1#32
  ⟨c0_i32_4, v18, c1_i32_5⟩
def k0_mult1 (k0_t1 : Fin k0_t1_loop.trips) : BitVec 32 :=
  let c0_i32_4 : BitVec 32 := 0#32
  let c1_i32_5 : BitVec 32 := 1#32
  let arg11 : BitVec 32 := Scf.iv c0_i32_4 c1_i32_5 k0_t1
  let c128_i32 : BitVec 32 := 128#32
  let v19 : BitVec 32 := Scalar.muli arg11 c128_i32
  v19
def k0_off3 (k0_t1 : Fin k0_t1_loop.trips) : Fin 3 → Nat :=
  let c0_7 : Index := 0#32
  let c0_i32_4 : BitVec 32 := 0#32
  let c1_i32_5 : BitVec 32 := 1#32
  let arg11 : BitVec 32 := Scf.iv c0_i32_4 c1_i32_5 k0_t1
  let c128_i32 : BitVec 32 := 128#32
  let v19 : BitVec 32 := Scalar.muli arg11 c128_i32
  let v20 : BitVec 32 := v19
  let v21 : Index := Scalar.indexCast v20
  let c0_8 : Index := 0#32
  ![0, v21.toNat, 0]
def k0_off4 (k0_t1 : Fin k0_t1_loop.trips) : Fin 2 → Nat :=
  let c0_i32_4 : BitVec 32 := 0#32
  let c1_i32_5 : BitVec 32 := 1#32
  let arg11 : BitVec 32 := Scf.iv c0_i32_4 c1_i32_5 k0_t1
  let c128_i32 : BitVec 32 := 128#32
  let v19 : BitVec 32 := Scalar.muli arg11 c128_i32
  let v20 : BitVec 32 := v19
  let v25 : Index := Scalar.indexCast v20
  let c0_9 : Index := 0#32
  ![v25.toNat, 0]
def k0_off5 (k0_t1 : Fin k0_t1_loop.trips) : Fin 3 → Nat :=
  let c0_10 : Index := 0#32
  let c0_i32_4 : BitVec 32 := 0#32
  let c1_i32_5 : BitVec 32 := 1#32
  let arg11 : BitVec 32 := Scf.iv c0_i32_4 c1_i32_5 k0_t1
  let c128_i32 : BitVec 32 := 128#32
  let v19 : BitVec 32 := Scalar.muli arg11 c128_i32
  let v20 : BitVec 32 := v19
  let v29 : Index := Scalar.indexCast v20
  let c0_11 : Index := 0#32
  ![0, v29.toNat, 0]
def k0_off6 (k0_t1 : Fin k0_t1_loop.trips) : Fin 2 → Nat :=
  let c0_i32_4 : BitVec 32 := 0#32
  let c1_i32_5 : BitVec 32 := 1#32
  let arg11 : BitVec 32 := Scf.iv c0_i32_4 c1_i32_5 k0_t1
  let c128_i32 : BitVec 32 := 128#32
  let v19 : BitVec 32 := Scalar.muli arg11 c128_i32
  let v20 : BitVec 32 := v19
  let v33 : Index := Scalar.indexCast v20
  let c0_12 : Index := 0#32
  ![v33.toNat, 0]
def k0_cond2 (i : grid0.Coords) (v14 : BitVec 32) : BitVec 1 :=
  let arg0 : BitVec 32 := BitVec.ofNat 32 (i 0).val
  let v15 : BitVec 1 := Scalar.cmpi .slt arg0 v14
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertRefIdeal.lean ====
abbrev S288 : Shape := ⟨1, ![288]⟩
abbrev S1 : Shape := ⟨1, ![1]⟩
abbrev S73728x1024 : Shape := ⟨2, ![73728, 1024]⟩
abbrev S128x1024x2048 : Shape := ⟨3, ![128, 1024, 2048]⟩
abbrev S128x1x2048 : Shape := ⟨3, ![128, 1, 2048]⟩
abbrev S128x1024x1024 : Shape := ⟨3, ![128, 1024, 1024]⟩
abbrev S128x1x1024 : Shape := ⟨3, ![128, 1, 1024]⟩
abbrev S288x256x1024 : Shape := ⟨3, ![288, 256, 1024]⟩
abbrev S_ : Shape := ⟨0, ![]⟩
abbrev S288x1 : Shape := ⟨2, ![288, 1]⟩
abbrev S288x1024x2048 : Shape := ⟨3, ![288, 1024, 2048]⟩
abbrev S288x256x2048 : Shape := ⟨3, ![288, 256, 2048]⟩
abbrev S288x1x2048 : Shape := ⟨3, ![288, 1, 2048]⟩
abbrev S288x1024x1024 : Shape := ⟨3, ![288, 1024, 1024]⟩
abbrev S288x1x1024 : Shape := ⟨3, ![288, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .f32⟩
  | .hbm, ⟨3, _⟩ => ⟨S128x1024x2048, .f32⟩
  | .hbm, ⟨4, _⟩ => ⟨S128x1x2048, .f32⟩
  | .hbm, ⟨5, _⟩ => ⟨S128x1024x1024, .f32⟩
  | .hbm, ⟨6, _⟩ => ⟨S128x1x1024, .f32⟩
  | .hbm, ⟨7, _⟩ => ⟨S288x256x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x256x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x1x2048, .f32⟩
  | .hbm, ⟨27, _⟩ => ⟨S288x256x2048, .f32⟩
  | .hbm, ⟨28, _⟩ => ⟨S288x256x2048, .f32⟩
  | .hbm, ⟨29, _⟩ => ⟨S288x256x1024, .f32⟩
  | .hbm, ⟨30, _⟩ => ⟨S_, .f32⟩
  | .hbm, ⟨31, _⟩ => ⟨S288x256x1024, .f32⟩
  | .hbm, ⟨32, _⟩ => ⟨S288x256x1024, .f32⟩
  | .hbm, ⟨33, _⟩ => ⟨S288x256x1024, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S288x256x1024, .f32⟩
  | .hbm, ⟨38, _⟩ => ⟨S288x256x1024, .f32⟩
  | .hbm, ⟨39, _⟩ => ⟨S_, .f32⟩
  | .hbm, ⟨40, _⟩ => ⟨S288x256x1024, .f32⟩
  | .hbm, ⟨41, _⟩ => ⟨S288x256x1024, .f32⟩
  | .hbm, ⟨42, _⟩ => ⟨S_, .f32⟩
  | .hbm, ⟨43, _⟩ => ⟨S288x256x1024, .f32⟩
  | .hbm, ⟨44, _⟩ => ⟨S288x256x1024, .f32⟩
  | .hbm, ⟨45, _⟩ => ⟨S288x256x1024, .f32⟩
  | .hbm, ⟨46, _⟩ => ⟨S288x256x1024, .f32⟩
  | .hbm, ⟨47, _⟩ => ⟨S_, .f32⟩
  | .hbm, ⟨48, _⟩ => ⟨S288x256x1024, .f32⟩
  | .hbm, ⟨49, _⟩ => ⟨S288x256x1024, .f32⟩
  | .hbm, ⟨50, _⟩ => ⟨S_, .f32⟩
  | .hbm, ⟨51, _⟩ => ⟨S288x256x1024, .f32⟩
  | .hbm, ⟨52, _⟩ => ⟨S288x256x1024, .f32⟩
  | .hbm, ⟨53, _⟩ => ⟨S288x256x1024, .f32⟩
  | .hbm, ⟨54, _⟩ => ⟨S_, .f32⟩
  | .hbm, ⟨55, _⟩ => ⟨S288x256x1024, .f32⟩
  | .hbm, ⟨56, _⟩ => ⟨S288x256x1024, .f32⟩
  | .hbm, ⟨57, _⟩ => ⟨S288x256x1024, .f32⟩
  | .hbm, ⟨58, _⟩ => ⟨S_, .i32⟩
  | .hbm, ⟨59, _⟩ => ⟨S288, .i32⟩
  | .hbm, ⟨60, _⟩ => ⟨S288, .i1⟩
  | .hbm, ⟨61, _⟩ => ⟨S_, .i32⟩
  | .hbm, ⟨62, _⟩ => ⟨S288, .i32⟩
  | .hbm, ⟨63, _⟩ => ⟨S288, .i32⟩
  | .hbm, ⟨64, _⟩ => ⟨S288, .i32⟩
  | .hbm, ⟨65, _⟩ => ⟨S288x1, .i32⟩
  | .hbm, ⟨66, _⟩ => ⟨S288x1024x1024, .f32⟩
  | .hbm, ⟨67, _⟩ => ⟨S288x256x1024, .f32⟩
  | .hbm, ⟨68, _⟩ => ⟨S_, .i32⟩
  | .hbm, ⟨69, _⟩ => ⟨S288, .i32⟩
  | .hbm, ⟨70, _⟩ => ⟨S288, .i1⟩
  | .hbm, ⟨71, _⟩ => ⟨S_, .i32⟩
  | .hbm, ⟨72, _⟩ => ⟨S288, .i32⟩
  | .hbm, ⟨73, _⟩ => ⟨S288, .i32⟩
  | .hbm, ⟨74, _⟩ => ⟨S288, .i32⟩
  | .hbm, ⟨75, _⟩ => ⟨S288x1, .i32⟩
  | .hbm, ⟨76, _⟩ => ⟨S288x1x1024, .f32⟩
  | .hbm, ⟨77, _⟩ => ⟨S288x256x1024, .f32⟩
  | .hbm, ⟨78, _⟩ => ⟨S288x256x1024, .f32⟩
  | .hbm, ⟨79, _⟩ => ⟨S73728x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_cst_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_cst_7 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_c_10 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_c_12 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== PrepC.lean ====
abbrev S16384x1024 : Shape := ⟨2, ![16384, 1024]⟩
abbrev S1024x3072 : Shape := ⟨2, ![1024, 3072]⟩
abbrev S512x1024 : Shape := ⟨2, ![512, 1024]⟩
abbrev S512x3072 : Shape := ⟨2, ![512, 3072]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrepCRefIdeal.lean ====
abbrev S16384x1024 : Shape := ⟨2, ![16384, 1024]⟩
abbrev S1024x3072 : Shape := ⟨2, ![1024, 3072]⟩
abbrev S16384x3072 : Shape := ⟨2, ![16384, 3072]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384x1024, .f32⟩
  | .hbm, ⟨8, _⟩ => ⟨S16384x1024, .f32⟩
  | .hbm, ⟨9, _⟩ => ⟨S16384x1024, .bf16⟩
  | .hbm, ⟨10, _⟩ => ⟨S16384x1024, .bf16⟩
  | .hbm, ⟨11, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== PostAB.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S512x1024, .bf16⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostABRefIdeal.lean ====
abbrev S16384x1024 : Shape := ⟨2, ![16384, 1024]⟩
abbrev S16384x512 : Shape := ⟨2, ![16384, 512]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S1x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== PostC.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostCRefIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== PrepAB.lean ====
abbrev S16384x1024 : Shape := ⟨2, ![16384, 1024]⟩
abbrev S1024x2336 : Shape := ⟨2, ![1024, 2336]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S1024x1536 : Shape := ⟨2, ![1024, 1536]⟩
abbrev S1024x512 : Shape := ⟨2, ![1024, 512]⟩
abbrev S1024x256 : Shape := ⟨2, ![1024, 256]⟩
abbrev S1024x32 : Shape := ⟨2, ![1024, 32]⟩
abbrev S1024x16 : Shape := ⟨2, ![1024, 16]⟩
abbrev S512x8x96 : Shape := ⟨3, ![512, 8, 96]⟩
abbrev S_ : Shape := ⟨0, ![]⟩
abbrev S512x8x32 : Shape := ⟨3, ![512, 8, 32]⟩
abbrev S512x8x128 : Shape := ⟨3, ![512, 8, 128]⟩
abbrev S512x1024 : Shape := ⟨2, ![512, 1024]⟩
abbrev S512x8x64 : Shape := ⟨3, ![512, 8, 64]⟩
abbrev S512x8x16 : Shape := ⟨3, ![512, 8, 16]⟩
abbrev S256x8x128 : Shape := ⟨3, ![256, 8, 128]⟩
abbrev S256x8x64 : Shape := ⟨3, ![256, 8, 64]⟩
abbrev S256x512 : Shape := ⟨2, ![256, 512]⟩
abbrev S32x64 : Shape := ⟨2, ![32, 64]⟩
abbrev S32x32 : Shape := ⟨2, ![32, 32]⟩
abbrev S32x128 : Shape := ⟨2, ![32, 128]⟩
abbrev S1x32x1x128 : Shape := ⟨4, ![1, 32, 1, 128]⟩
abbrev S1x32x8x128 : Shape := ⟨4, ![1, 32, 8, 128]⟩
abbrev S32x1024 : Shape := ⟨2, ![32, 1024]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x64 : Shape := ⟨2, ![16384, 64]⟩
abbrev S16384x128 : Shape := ⟨2, ![16384, 128]⟩
abbrev S1x512 : Shape := ⟨2, ![1, 512]⟩
abbrev S1x256 : Shape := ⟨2, ![1, 256]⟩
abbrev S16384x512 : Shape := ⟨2, ![16384, 512]⟩
abbrev S512x128 : Shape := ⟨2, ![512, 128]⟩
abbrev S512x32 : Shape := ⟨2, ![512, 32]⟩
abbrev S512x512 : Shape := ⟨2, ![512, 512]⟩
abbrev S512x1536 : Shape := ⟨2, ![512, 1536]⟩
abbrev S512x1 : Shape := ⟨2, ![512, 1]⟩
abbrev S512x256 : Shape := ⟨2, ![512, 256]⟩

abbrev nBuf : Space → Nat
  | .hbm => 102
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S1024x2336, .f32⟩
  | .hbm, ⟨2, _⟩ => ⟨S512, .f32⟩
  | .hbm, ⟨3, _⟩ => ⟨S256, .f32⟩
  | .hbm, ⟨4, _⟩ => ⟨S512x768, .f32⟩
  | .hbm, ⟨5, _⟩ => ⟨S256x1024, .f32⟩
  | .hbm, ⟨6, _⟩ => ⟨S1024x1536, .f32⟩
  | .hbm, ⟨7, _⟩ => ⟨S1024x1536, .bf16⟩
  | .hbm, ⟨8, _⟩ => ⟨S1024x512, .f32⟩
  | .hbm, ⟨9, _⟩ => ⟨S1024x512, .bf16⟩
  | .hbm, ⟨10, _⟩ => ⟨S1024x256, .f32⟩
  | .hbm, ⟨11, _⟩ => ⟨S1024x256, .bf16⟩
  | .hbm, ⟨12, _⟩ => ⟨S1024x32, .f32⟩
  | .hbm, ⟨13, _⟩ => ⟨S1024x32, .bf16⟩
  | .hbm, ⟨14, _⟩ => ⟨S1024x16, .f32⟩
  | .hbm, ⟨15, _⟩ => ⟨S1024x16, .f32⟩
  | .hbm, ⟨16, _⟩ => ⟨S1024x16, .f32⟩
  | .hbm, ⟨17, _⟩ => ⟨S1024x32, .f32⟩
  | .hbm, ⟨18, _⟩ => ⟨S1024x32, .bf16⟩
  | .hbm, ⟨19, _⟩ => ⟨S512x8x96, .f32⟩
  | .hbm, ⟨20, _⟩ => ⟨S_, .f32⟩
  | .hbm, ⟨21, _⟩ => ⟨S512x8x32, .f32⟩
  | .hbm, ⟨22, _⟩ => ⟨S512x8x128, .f32⟩
  | .hbm, ⟨23, _⟩ => ⟨S512x1024, .f32⟩
  | .hbm, ⟨24, _⟩ => ⟨S512x1024, .bf16⟩
  | .hbm, ⟨25, _⟩ => ⟨S_, .f32⟩
  | .hbm, ⟨26, _⟩ => ⟨S512x8x64, .f32⟩
  | .hbm, ⟨27, _⟩ => ⟨S512x8x32, .f32⟩
  | .hbm, ⟨28, _⟩ => ⟨S512x8x16, .f32⟩
  | .hbm, ⟨29, _⟩ => ⟨S512x8x16, .f32⟩
  | .hbm, ⟨30, _⟩ => ⟨S512x8x16, .f32⟩
  | .hbm, ⟨31, _⟩ => ⟨S512x8x32, .f32⟩
  | .hbm, ⟨32, _⟩ => ⟨S512x8x128, .f32⟩
  | .hbm, ⟨33, _⟩ => ⟨S512x1024, .f32⟩
  | .hbm, ⟨34, _⟩ => ⟨S512x1024, .bf16⟩
  | .hbm, ⟨35, _⟩ => ⟨S256x8x128, .f32⟩
  | .hbm, ⟨36, _⟩ => ⟨S256x8x64, .f32⟩
  | .hbm, ⟨37, _⟩ => ⟨S_, .f32⟩
  | .hbm, ⟨38, _⟩ => ⟨S256x8x64, .f32⟩
  | .hbm, ⟨39, _⟩ => ⟨S256x8x128, .f32⟩
  | .hbm, ⟨40, _⟩ => ⟨S256x1024, .f32⟩
  | .hbm, ⟨41, _⟩ => ⟨S256x1024, .bf16⟩
  | .hbm, ⟨42, _⟩ => ⟨S256x8x64, .f32⟩
  | .hbm, ⟨43, _⟩ => ⟨S256x512, .f32⟩
  | .hbm, ⟨44, _⟩ => ⟨S256x512, .bf16⟩
  | .hbm, ⟨45, _⟩ => ⟨S_, .bf16⟩
  | .hbm, ⟨46, _⟩ => ⟨S32x64, .bf16⟩
  | .hbm, ⟨47, _⟩ => ⟨S32x32, .i32⟩
  | .hbm, ⟨48, _⟩ => ⟨S32x32, .i32⟩
  | .hbm, ⟨49, _⟩ => ⟨S_, .i32⟩
  | .hbm, ⟨50, _⟩ => ⟨S32x32, .i32⟩
  | .hbm, ⟨51, _⟩ => ⟨S32x32, .i32⟩
  | .hbm, ⟨52, _⟩ => ⟨S32x32, .i1⟩
  | .hbm, ⟨53, _⟩ => ⟨S32x32, .bf16⟩
  | .hbm, ⟨54, _⟩ => ⟨S_, .bf16⟩
  | .hbm, ⟨55, _⟩ => ⟨S32x32, .bf16⟩
  | .hbm, ⟨56, _⟩ => ⟨S32x128, .bf16⟩
  | .hbm, ⟨57, _⟩ => ⟨S1x32x1x128, .bf16⟩
  | .hbm, ⟨58, _⟩ => ⟨S1x32x8x128, .bf16⟩
  | .hbm, ⟨59, _⟩ => ⟨S32x1024, .bf16⟩
  | .hbm, ⟨60, _⟩ => ⟨S16384, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S16, .f32⟩
  | .hbm, ⟨69, _⟩ => ⟨S_, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S16384x1, .f32⟩
  | .hbm, ⟨76, _⟩ => ⟨S1x16, .f32⟩
  | .hbm, ⟨77, _⟩ => ⟨S16384x16, .f32⟩
  | .hbm, ⟨78, _⟩ => ⟨S16384x16, .f32⟩
  | .hbm, ⟨79, _⟩ => ⟨S16384x16, .f32⟩
  | .hbm, ⟨80, _⟩ => ⟨S16384x16, .f32⟩
  | .hbm, ⟨81, _⟩ => ⟨S16384x32, .f32⟩
  | .hbm, ⟨82, _⟩ => ⟨S16384x16, .f32⟩
  | .hbm, ⟨83, _⟩ => ⟨S16384x32, .f32⟩
  | .hbm, ⟨84, _⟩ => ⟨S_, .f32⟩
  | .hbm, ⟨85, _⟩ => ⟨S16384x64, .f32⟩
  | .hbm, ⟨86, _⟩ => ⟨S_, .f32⟩
  | .hbm, ⟨87, _⟩ => ⟨S16384x32, .f32⟩
  | .hbm, ⟨88, _⟩ => ⟨S16384x128, .f32⟩
  | .hbm, ⟨89, _⟩ => ⟨S_, .f32⟩
  | .hbm, ⟨90, _⟩ => ⟨S16384x64, .f32⟩
  | .hbm, ⟨91, _⟩ => ⟨S_, .f32⟩
  | .hbm, ⟨92, _⟩ => ⟨S16384x32, .f32⟩
  | .hbm, ⟨93, _⟩ => ⟨S16384x128, .f32⟩
  | .hbm, ⟨94, _⟩ => ⟨S1x512, .f32⟩
  | .hbm, ⟨95, _⟩ => ⟨S1x256, .f32⟩
  | .hbm, ⟨96, _⟩ => ⟨S16384x512, .bf16⟩
  | .hbm, ⟨97, _⟩ => ⟨S16384x512, .bf16⟩
  | .hbm, ⟨98, _⟩ => ⟨S16384x512, .bf16⟩
  | .hbm, ⟨99, _⟩ => ⟨S16384x1024, .bf16⟩
  | .hbm, ⟨100, _⟩ => ⟨S16384x1024, .bf16⟩
  | .hbm, ⟨101, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x512, .bf16⟩
  | .local _ .vmem, ⟨4, _⟩ => ⟨S1024x256, .bf16⟩
  | .local _ .vmem, ⟨5, _⟩ => ⟨S1024x32, .bf16⟩
  | .local _ .vmem, ⟨6, _⟩ => ⟨S1024x32, .bf16⟩
  | .local _ .vmem, ⟨7, _⟩ => ⟨S1x512, .f32⟩
  | .local _ .vmem, ⟨8, _⟩ => ⟨S1x256, .f32⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x512, .bf16⟩
  | .local _ .vmem, ⟨13, _⟩ => ⟨S32x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x32, .f32⟩
  | .local _ .vmem, ⟨19, _⟩ => ⟨S512x32, .f32⟩
  | .local _ .vmem, ⟨20, _⟩ => ⟨S512x32, .f32⟩
  | .local _ .vmem, ⟨21, _⟩ => ⟨S512x32, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S512x1024, .bf16⟩
  | .local _ .vmem, ⟨32, _⟩ => ⟨S512x512, .bf16⟩
  | .local _ .vmem, ⟨33, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_4 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_8 : Ref sig .tc := ⟨.hbm, 84, rfl⟩
abbrev main_v68 : Ref sig .tc := ⟨.hbm, 85, rfl⟩
abbrev main_cst_9 : Ref sig .tc := ⟨.hbm, 86, rfl⟩
abbrev main_v69 : Ref sig .tc := ⟨.hbm, 87, rfl⟩
abbrev main_v70 : Ref sig .tc := ⟨.hbm, 88, rfl⟩
abbrev main_cst_10 : Ref sig .tc := ⟨.hbm, 89, rfl⟩
abbrev main_v71 : Ref sig .tc := ⟨.hbm, 90, rfl⟩
abbrev main_cst_11 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76_0 : Ref sig .tc := ⟨.hbm, 96, rfl⟩
abbrev main_v76_1 : Ref sig .tc := ⟨.hbm, 97, rfl⟩
abbrev main_v76_2 : Ref sig .tc := ⟨.hbm, 98, rfl⟩
abbrev main_v76_3 : Ref sig .tc := ⟨.hbm, 99, rfl⟩
abbrev main_v76_4 : Ref sig .tc := ⟨.hbm, 100, rfl⟩
abbrev main_v76_5 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31
abbrev cc0_sem22_0 : DmaSem sig := 32
abbrev cc0_sem22_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== PrepABRefIdeal.lean ====
abbrev S16384x1024 : Shape := ⟨2, ![16384, 1024]⟩
abbrev S1024x2336 : Shape := ⟨2, ![1024, 2336]⟩
abbrev S512 : Shape := ⟨1, ![512]⟩
abbrev S256 : Shape := ⟨1, ![256]⟩
abbrev S512x768 : Shape := ⟨2, ![512, 768]⟩
abbrev S256x1024 : Shape := ⟨2, ![256, 1024]⟩
abbrev S16384 : Shape := ⟨1, ![16384]⟩
abbrev S16384x2336 : Shape := ⟨2, ![16384, 2336]⟩
abbrev S16384x512 : Shape := ⟨2, ![16384, 512]⟩
abbrev S16384x256 : Shape := ⟨2, ![16384, 256]⟩
abbrev S16384x32 : Shape := ⟨2, ![16384, 32]⟩
abbrev S_ : Shape := ⟨0, ![]⟩
abbrev S16384x1 : Shape := ⟨2, ![16384, 1]⟩
abbrev S1x512 : Shape := ⟨2, ![1, 512]⟩
abbrev S16384x768 : Shape := ⟨2, ![16384, 768]⟩
abbrev S16384x8x96 : Shape := ⟨3, ![16384, 8, 96]⟩
abbrev S16384x8x64 : Shape := ⟨3, ![16384, 8, 64]⟩
abbrev S16384x8x32 : Shape := ⟨3, ![16384, 8, 32]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S16384x8x16 : Shape := ⟨3, ![16384, 8, 16]⟩
abbrev S1x256 : Shape := ⟨2, ![1, 256]⟩
abbrev S16384x8x128 : Shape := ⟨3, ![16384, 8, 128]⟩
abbrev S16384x1x32 : Shape := ⟨3, ![16384, 1, 32]⟩

abbrev nBuf : Space → Nat
  | .hbm => 147
  | .vmem => 0
  | .smem => 0
  | _ => 0

abbrev hbmTy0_0 (i : Nat) : BufTy := match i % 128 with
  | 0 => ⟨S16384x1024, .f32⟩
  | 1 => ⟨S1024x2336, .f32⟩
  | 2 => ⟨S512, .f32⟩
  | 3 => ⟨S256, .f32⟩
  | 4 => ⟨S512x768, .f32⟩
  | 5 => ⟨S256x1024, .f32⟩
  | 6 => ⟨S16384, .f32⟩
  | 7 => ⟨S16384x2336, .f32⟩
  | 8 => ⟨S16384x512, .f32⟩
  | 9 => ⟨S16384x512, .f32⟩
  | 10 => ⟨S16384x512, .f32⟩
  | 11 => ⟨S16384x512, .f32⟩
  | 12 => ⟨S16384x256, .f32⟩
  | 13 => ⟨S16384x32, .f32⟩
  | 14 => ⟨S16384x512, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x512, .f32⟩
  | 26 => ⟨S16384x512, .f32⟩
  | 27 => ⟨S1x512, .f32⟩
  | 28 => ⟨S16384x512, .f32⟩
  | 29 => ⟨S16384x512, .f32⟩
  | 30 => ⟨S16384x768, .f32⟩
  | 31 => ⟨S16384x8x96, .f32⟩
  | 32 => ⟨S16384x8x64, .f32⟩
  | 33 => ⟨S16384x8x32, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S16384x1, .f32⟩
  | 49 => ⟨S1x16, .f32⟩
  | 50 => ⟨S16384x16, .f32⟩
  | 51 => ⟨S16384x16, .f32⟩
  | 52 => ⟨S16384x16, .f32⟩
  | 53 => ⟨S16384x16, .f32⟩
  | 54 => ⟨S16384x1x16, .f32⟩
  | 55 => ⟨S16384x16, .f32⟩
  | 56 => ⟨S16384x1x16, .f32⟩
  | 57 => ⟨S16384x8x16, .f32⟩
  | 58 => ⟨S16384x8x16, .f32⟩
  | 59 => ⟨S16384x8x16, .f32⟩
  | 60 => ⟨S16384x8x16, .f32⟩
  | 61 => ⟨S16384x8x16, .f32⟩
  | 62 => ⟨S16384x8x16, .f32⟩
  | 63 => ⟨S16384x8x16, .f32⟩
  | 64 => ⟨S16384x8x16, .f32⟩
  | 65 => ⟨S16384x8x16, .f32⟩
  | 66 => ⟨S16384x8x16, .f32⟩
  | 67 => ⟨S16384x8x16, .f32⟩
  | 68 => ⟨S16384x8x16, .f32⟩
  | 69 => ⟨S16384x8x32, .f32⟩
  | 70 => ⟨S16384x8x96, .f32⟩
  | 71 => ⟨S16384x256, .f32⟩
  | 72 => ⟨S_, .f32⟩
  | 73 => ⟨S16384, .f32⟩
  | 74 => ⟨S16384x1, .f32⟩
  | 75 => ⟨S_, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S16384x1, .f32⟩
  | 82 => ⟨S16384x256, .f32⟩
  | 83 => ⟨S16384x256, .f32⟩
  | 84 => ⟨S1x256, .f32⟩
  | 85 => ⟨S16384x256, .f32⟩
  | 86 => ⟨S16384x256, .f32⟩
  | 87 => ⟨S16384x1024, .f32⟩
  | 88 => ⟨S16384x8x128, .f32⟩
  | 89 => ⟨S16384x1x32, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S16384x1, .f32⟩
  | 105 => ⟨S1x16, .f32⟩
  | 106 => ⟨S16384x16, .f32⟩
  | 107 => ⟨S16384x16, .f32⟩
  | 108 => ⟨S16384x16, .f32⟩
  | 109 => ⟨S16384x16, .f32⟩
  | 110 => ⟨S16384x1x16, .f32⟩
  | 111 => ⟨S16384x16, .f32⟩
  | 112 => ⟨S16384x1x16, .f32⟩
  | 113 => ⟨S16384x1x16, .f32⟩
  | 114 => ⟨S16384x1x16, .f32⟩
  | 115 => ⟨S16384x1x16, .f32⟩
  | 116 => ⟨S16384x1x16, .f32⟩
  | 117 => ⟨S16384x1x16, .f32⟩
  | 118 => ⟨S16384x1x16, .f32⟩
  | 119 => ⟨S16384x1x16, .f32⟩
  | 120 => ⟨S16384x1x16, .f32⟩
  | 121 => ⟨S16384x1x32, .f32⟩
  | 122 => ⟨S16384x8x32, .f32⟩
  | 123 => ⟨S16384x8x64, .f32⟩
  | 124 => ⟨S16384x8x96, .f32⟩
  | 125 => ⟨S_, .f32⟩
  | 126 => ⟨S16384x8x96, .f32⟩
  | 127 => ⟨S16384x8x96, .f32⟩
  | _ => ⟨S16384x1024, .f32⟩

abbrev hbmTy0_1 (i : Nat) : BufTy := match i % 128 with
  | 0 => ⟨S_, .i32⟩
  | 1 => ⟨S_, .f32⟩
  | 2 => ⟨S16384x8x128, .f32⟩
  | 3 => ⟨S16384x1024, .f32⟩
  | 4 => ⟨S16384x8x64, .f32⟩
  | 5 => ⟨S16384x512, .f32⟩
  | 6 => ⟨S_, .f32⟩
  | 7 => ⟨S16384x512, .f32⟩
  | 8 => ⟨S16384x512, .f32⟩
  | 9 => ⟨S_, .i32⟩
  | 10 => ⟨S_, .f32⟩
  | 11 => ⟨S16384x8x128, .f32⟩
  | 12 => ⟨S16384x1024, .f32⟩
  | 13 => ⟨S16384x512, .bf16⟩
  | 14 => ⟨S16384x512, .bf16⟩
  | 15 => ⟨S16384x512, .bf16⟩
  | 16 => ⟨S16384x1024, .bf16⟩
  | 17 => ⟨S16384x1024, .bf16⟩
  | 18 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_cst_7 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_9 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_13 : Ref sig .tc := ⟨.hbm, 125, rfl⟩
abbrev main_v105 : Ref sig .tc := ⟨.hbm, 126, rfl⟩
abbrev main_v106 : Ref sig .tc := ⟨.hbm, 127, rfl⟩
abbrev main_c : Ref sig .tc := ⟨.hbm, 128, rfl⟩
abbrev main_call0_v0 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_14 : Ref sig .tc := ⟨.hbm, 134, rfl⟩
abbrev main_v111 : Ref sig .tc := ⟨.hbm, 135, rfl⟩
abbrev main_v112 : Ref sig .tc := ⟨.hbm, 136, rfl⟩
abbrev main_c_15 : Ref sig .tc := ⟨.hbm, 137, rfl⟩
abbrev main_call1_v0 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩

abbrev nD : Nat := 1
abbrev τ : Topo := Topo.v7x

variable {F : FTy → Type} [FloatOps F]
-- ==== Proof.Attend.lean ====
/-
  Softmax attention over the extended reals, with no program in sight: one row of logits `f`, of which any may be
  `⊥` (a masked key), and one column of values `v`.

    `top f`       the greatest logit
    `weight f k`  the exponential of logit `k` less the greatest
    `total f`     the sum of the weights
    `attend f v`  the weighted sum of the values over the total

  Two facts are proved. `attend_of_embed`: keys whose logit is `⊥` may be left out, so a row over many keys is the row
  over the keys that count. `sum_div_mul`: where no logit is `⊤` and one is real, dividing every weight by the total
  first gives the same sum — for ANY values, infinite ones included.
-/
module

public import Idealize.ShloMosaic.PureOps.Ideal
public import Idealize.ShloMosaic.PureOps.Ideal.Laws

@[expose] public section

noncomputable section

namespace Cert.Proof.Attend

open Idealize.ShloMosaic

variable {ι κ : Type} [Fintype ι] [Fintype κ]

/-- The greatest of a row of logits. -/
def top (f : ι → EReal) : EReal := Finset.univ.fold max ⊥ f

/-- The weight of key `k`. -/
def weight (f : ι → EReal) (k : ι) : EReal := Ideal.exp (f k - top f)

/-- The sum of a row's weights. -/
def total (f : ι → EReal) : EReal := ∑ k, weight f k

/-- The row's weighted sum of the values, over the total. -/
def attend (f v : ι → EReal) : EReal := Ideal.div (∑ k, weight f k * v k) (total f)

theorem top_eq_sup (f : ι → EReal) : top f = Finset.univ.sup f := rfl

theorem le_top (f : ι → EReal) (k : ι) : f k ≤ top f := Finset.le_sup (f := f) (Finset.mem_univ k)

/-- A masked key weighs nothing. -/
theorem weight_bot (f : ι → EReal) (k : ι) (h : f k = ⊥) : weight f k = 0 := by
  rw [weight, h, sub_eq_add_neg, EReal.bot_add, Ideal.exp_bot]

/-- The greatest logit is the greatest among the keys that count. -/
theorem top_of_embed (e : ι → κ) (f : ι → EReal) (g : κ → EReal) (hg : ∀ i, g (e i) = f i)
    (hoff : ∀ k, k ∉ Set.range e → g k = ⊥) : top g = top f := by
  apply le_antisymm
  · refine Finset.sup_le fun k _ => ?_
    by_cases hk : k ∈ Set.range e
    · obtain ⟨i, rfl⟩ := hk
      rw [hg]
      exact le_top f i
    · rw [hoff k hk]
      exact bot_le
  · refine Finset.sup_le fun i _ => ?_
    rw [← hg]
    exact le_top g (e i)

/-- Keys whose logit is `⊥` may be left out. -/
theorem attend_of_embed (e : ι → κ) (he : Function.Injective e) (f v : ι → EReal) (g w : κ → EReal)
    (hg : ∀ i, g (e i) = f i) (hoff : ∀ k, k ∉ Set.range e → g k = ⊥) (hw : ∀ i, f i ≠ ⊥ → w (e i) = v i) :
    attend g w = attend f v := by
  have ht := top_of_embed e f g hg hoff
  have hweight : ∀ i, weight f i = weight g (e i) := fun i => by rw [weight, weight, hg, ht]
  have hz : ∀ k, k ∉ Set.range e → weight g k = 0 := fun k hk => weight_bot g k (hoff k hk)
  have hterm : ∀ i, weight f i * v i = weight g (e i) * w (e i) := fun i => by
    by_cases hi : f i = ⊥
    · rw [← hweight, weight_bot f i hi, zero_mul, zero_mul]
    · rw [hweight, hw i hi]
  rw [attend, attend, total, total, Fintype.sum_of_injective e he _ _ hz hweight,
    Fintype.sum_of_injective e he (fun i => weight f i * v i) (fun k => weight g k * w k)
      (fun k hk => by rw [hz k hk, zero_mul]) hterm]

/-- A row attends alike under two presentations of the same logits, the values mattering only where a key is not masked. -/
theorem attend_congr (f g v w : ι → EReal) (hg : ∀ i, g i = f i) (hw : ∀ i, f i ≠ ⊥ → w i = v i) :
    attend g w = attend f v :=
  attend_of_embed id Function.injective_id f v g w hg (fun k hk => absurd ⟨k, rfl⟩ hk) hw

/-! ## Dividing the weights first -/

/-- No logit is `⊤` and one is not `⊥`. -/
structure Sound (f : ι → EReal) : Prop where
  ne_top : ∀ k, f k ≠ ⊤
  some : ∃ k, f k ≠ ⊥

theorem Sound.top_ne_top {f : ι → EReal} (h : Sound f) : top f ≠ ⊤ := by
  rw [top_eq_sup, ← lt_top_iff_ne_top, Finset.sup_lt_iff (bot_lt_top)]
  exact fun k _ => lt_top_iff_ne_top.mpr (h.ne_top k)

theorem Sound.top_ne_bot {f : ι → EReal} (h : Sound f) : top f ≠ ⊥ := by
  obtain ⟨k, hk⟩ := h.some
  exact fun e => hk (le_bot_iff.mp (e ▸ le_top f k))

/-- Every weight is a real number not below zero, and above zero where the key is not masked. -/
theorem Sound.weight_real {f : ι → EReal} (h : Sound f) (k : ι) :
    ∃ r : ℝ, weight f k = (r : EReal) ∧ 0 ≤ r ∧ (f k ≠ ⊥ → 0 < r) := by
  by_cases hk : f k = ⊥
  · exact ⟨0, weight_bot f k hk, le_refl _, fun h => absurd hk h⟩
  · lift top f to ℝ using ⟨h.top_ne_top, h.top_ne_bot⟩ with t ht
    lift f k to ℝ using ⟨h.ne_top k, hk⟩ with a ha
    refine ⟨Real.exp (a - t), ?_, (Real.exp_pos _).le, fun _ => Real.exp_pos _⟩
    rw [weight, ← ha, ← ht, ← EReal.coe_sub, Ideal.exp_coe]

/-- The total is a real number above zero. -/
theorem Sound.total_real {f : ι → EReal} (h : Sound f) : ∃ r : ℝ, total f = (r : EReal) ∧ 0 < r := by
  choose w hw h0 hp using h.weight_real
  refine ⟨∑ k, w k, ?_, ?_⟩
  · rw [total, Finset.sum_congr rfl fun k _ => hw k]
    exact (map_sum (⟨⟨Real.toEReal, EReal.coe_zero⟩, EReal.coe_add⟩ : ℝ →+ EReal) w Finset.univ).symm
  · obtain ⟨k, hk⟩ := h.some
    exact Finset.sum_pos' (fun i _ => h0 i) ⟨k, Finset.mem_univ k, hp k hk⟩

/-- A real factor not below zero goes into a sum of extended reals. -/
theorem sum_mul_coe (x : ι → EReal) (c : ℝ) (hc : 0 ≤ c) : (∑ k, x k) * (c : EReal) = ∑ k, x k * (c : EReal) := by
  classical
  refine Finset.induction_on (Finset.univ : Finset ι) (by simp) fun a s ha ih => ?_
  rw [Finset.sum_insert ha, Finset.sum_insert ha, ← ih, mul_comm,
    EReal.left_distrib_of_nonneg_of_ne_top (by exact_mod_cast hc) (EReal.coe_ne_top c), mul_comm _ (x a),
    mul_comm _ (∑ k ∈ s, x k)]

/-- Dividing every weight by the total first gives the same weighted sum. -/
theorem sum_div_mul (f v : ι → EReal) (h : Sound f) :
    ∑ k, Ideal.div (weight f k) (total f) * v k = attend f v := by
  obtain ⟨r, hr, hp⟩ := h.total_real
  rw [attend, hr, Ideal.div_coe hp.ne', sum_mul_coe _ _ (by positivity)]
  refine Finset.sum_congr rfl fun k _ => ?_
  rw [Ideal.div_coe hp.ne', mul_right_comm]

end Cert.Proof.Attend

end
-- ==== Proof.KernelRow.lean ====
/-
  What one half of a tile stores, as softmax attention. A tile of 512 query rows is done in two groups of 256. A group's
  stored element at (row, lane) is, at either of the two heads that share the 128 lanes, the attention of the group's 768
  keys: the logits are the masked products plus the head's bias, `⊥` at a key in front of the sequence.
-/
module

public import proofs.«01_k».proof.Proof.Gen.AttnAIdeal.Value
public import proofs.«01_k».proof.Proof.Attend
public import Idealize.ShloMosaic.Lib.Pointwise

@[expose] public section

set_option maxRecDepth 16384

noncomputable section

namespace Cert.Proof.KernelRow

open Idealize.ShloMosaic Cert.AttnAIdeal Cert.AttnAIdeal.Gen Cert.Proof.Attend

/-- The word of −∞ is `⊥`. -/
theorem ofBits_negInf : Ideal.ofBits .f32 0xFF800000#32 = ⊥ := by simp [Ideal.ofBits, Ideal.ieee]

/-- The named mask is `⊥`. -/
theorem mask_eq : (Named.named κ "mask" 0xF149F2CA#32 : Ideal .f32) = ⊥ :=
  IdealRules.named_const.ideal_named_scalar _ _ _ _ rfl

/-- The logits of one query row against 768 keys, over the lanes `sel` keeps, with the keys outside `valid` masked. -/
def logits (valid : Fin 768 → BitVec 1) (sel : Fin 128 → BitVec 1) (q : Fin 128 → EReal) (k : Fin 768 → Fin 128 → EReal)
    (b : Fin 768 → EReal) (x : Fin 768) : EReal :=
  Scalar.select (valid x) (∑ y, Scalar.select (sel y) (q y * k x y) 0 + b x) ⊥

/-- The lanes of the first head. -/
def first (y : Fin 128) : BitVec 1 := IntOp.cmpi CmpIPredicate.slt (BitVec.ofNat 32 y.val) 64#32

/-- The lanes of the second head. -/
def second (y : Fin 128) : BitVec 1 := IntOp.xori (first y) 1#1

/-- The keys of a group at row offset `off` that lie in the sequence: all of them past the first tile (`a1 > 0`), and on
    the first tile the keys from 512 on. -/
def valid (off : BitVec 32) (a1 : BitVec 32) (x : Fin 768) : BitVec 1 :=
  IntOp.cmpi CmpIPredicate.sge (IntOp.addi (BitVec.ofNat 32 x.val) off)
    (Scalar.select (Scalar.cmpi CmpIPredicate.sgt a1 0#32) 0#32 512#32)

/-- One stored element: the head that owns the lane attends. -/
def stored (off a1 : BitVec 32) (q : Vec Ideal S256x128 .bf16) (k v : Vec Ideal S768x128 .bf16)
    (b0 b1 : Vec Ideal S1x256x768 .f32) (r : Fin 256) (l : Fin 128) : EReal :=
  Scalar.select (first l)
    (attend (logits (valid off a1) first (fun y => q (ix2 r y)) (fun x y => k (ix2 x y)) fun x => b0 (ix3 0 r x))
      fun x => v (ix2 x l))
    (attend (logits (valid off a1) second (fun y => q (ix2 r y)) (fun x y => k (ix2 x y)) fun x => b1 (ix3 0 r x))
      fun x => v (ix2 x l))

/-- What the second group stores. -/
theorem group1_apply (a1 : BitVec 32) (q : Vec Ideal S256x128 .bf16) (k v : Vec Ideal S768x128 .bf16)
    (b0 b1 : Vec Ideal S1x256x768 .f32) (r : Fin 256) (l : Fin 128) :
    k0_pay1 (F := Ideal) k0_pay6 q k v (k0_pay12 a1 (iota Kind.tc S1x768 32 [1] iota_S1x768_d1_w32))
        (k0_pay13 a1 k0_pay6 (iota Kind.tc S1x768 32 [1] iota_S1x768_d1_w32) q k b0) b1 (ix2 r l)
      = stored 256#32 a1 q k v b0 b1 r l := by
  pointwise [k0_pay1, k0_pay13, k0_pay12, k0_pay6]
  rw [ofBits_negInf, mask_eq]
  rfl

/-- What the first group stores. -/
theorem group0_apply (a1 : BitVec 32) (q : Vec Ideal S256x128 .bf16) (k v : Vec Ideal S768x128 .bf16)
    (b0 b1 : Vec Ideal S1x256x768 .f32) (r : Fin 256) (l : Fin 128) :
    k0_pay11 (F := Ideal) k0_pay6 v
        (k0_pay9 k0_pay6 q k v k0_pay7 (Scalar.select (Scalar.cmpi CmpIPredicate.sgt a1 0#32) 0#32 512#32) b0)
        (k0_pay10 k0_pay6 q k k0_pay7 (Scalar.select (Scalar.cmpi CmpIPredicate.sgt a1 0#32) 0#32 512#32) b1) (ix2 r l)
      = stored 0#32 a1 q k v b0 b1 r l := by
  pointwise [k0_pay11, k0_pay9, k0_pay10, k0_pay8, k0_pay7, k0_pay6]
  rw [ofBits_negInf, mask_eq]
  rfl

end Cert.Proof.KernelRow

end
-- ==== Proof.Band.lean ====
/-
  Chunk-banded attention as mathematics: each query of chunk `c` (64 rows) sees the keys of its own chunk and of the
  eight before it, with a bias that depends on the clipped distance and the head; keys in front of the sequence are masked.
-/
module

public import Idealize.ShloMosaic.Lib.Pointwise
public import proofs.«01_k».proof.Proof.Attend

@[expose] public section

noncomputable section

namespace Cert.Proof.Band

open Idealize.ShloMosaic Cert.Proof.Attend

/-- An array of two axes read at two numbers (zero outside it). -/
def rd {a b : ℕ} (x : (⟨2, ![a, b]⟩ : Shape).Idx → EReal) (i j : ℕ) : EReal :=
  if h : i < a ∧ j < b then x (ix2 ⟨i, h.1⟩ ⟨j, h.2⟩) else 0

theorem rd_of_lt {a b : ℕ} (x : (⟨2, ![a, b]⟩ : Shape).Idx → EReal) (i j : ℕ) (hi : i < a) (hj : j < b) :
    rd x i j = x (ix2 ⟨i, hi⟩ ⟨j, hj⟩) := dif_pos ⟨hi, hj⟩

/-- The row of the bias table for the query at place `q` and the key at place `k` of a band that starts 512 rows before:
    their distance clipped to ±128, counted from −128. -/
def rel (q k : ℕ) : ℕ := (min (max ((512 + q : ℤ) - k) (-128)) 128 + 128).toNat

theorem rel_lt (q k : ℕ) : rel q k < 257 := by unfold rel; omega

/-- The logit of query row `s` and the band's key `k` at head `h`. -/
def logit (Q K : (⟨2, ![16384, 512]⟩ : Shape).Idx → EReal) (B : (⟨2, ![257, 8]⟩ : Shape).Idx → EReal) (s h k : ℕ) : EReal :=
  if 512 ≤ 64 * (s / 64) + k then
    (∑ d : Fin 64, rd Q s (64 * h + d) * rd K (64 * (s / 64) + k - 512) (64 * h + d)) + rd B (rel (s % 64) k) h
  else ⊥

/-- The attention's element at row `s` and column `n` (head `n / 64`). -/
def band (Q K V : (⟨2, ![16384, 512]⟩ : Shape).Idx → EReal) (B : (⟨2, ![257, 8]⟩ : Shape).Idx → EReal) (s n : ℕ) : EReal :=
  attend (fun k : Fin 576 => logit Q K B s (n / 64) k) fun k => rd V (64 * (s / 64) + k - 512) n

/-- Every element of an array is a real number. -/
def Real {s : Shape} (x : s.Idx → EReal) : Prop := ∀ i, x i ≠ ⊤ ∧ x i ≠ ⊥

theorem Real.rd {a b : ℕ} {x : (⟨2, ![a, b]⟩ : Shape).Idx → EReal} (h : Real x) (i j : ℕ) : ∃ r : ℝ, rd x i j = r := by
  by_cases hij : i < a ∧ j < b
  · rw [rd_of_lt x i j hij.1 hij.2]
    obtain ⟨ht, hb⟩ := h (ix2 ⟨i, hij.1⟩ ⟨j, hij.2⟩)
    exact ⟨_, (EReal.coe_toReal ht hb).symm⟩
  · exact ⟨0, by rw [Band.rd, dif_neg hij]; rfl⟩

/-- A sum of products of real numbers, plus a real number, is a real number. -/
theorem real_dot {ι : Type} [Fintype ι] (x y : ι → EReal) (b : EReal) (hx : ∀ i, ∃ r : ℝ, x i = r)
    (hy : ∀ i, ∃ r : ℝ, y i = r) (hb : ∃ r : ℝ, b = r) : ∃ r : ℝ, (∑ i, x i * y i) + b = r := by
  choose u hu using hx
  choose w hw using hy
  obtain ⟨c, rfl⟩ := hb
  refine ⟨(∑ i, u i * w i) + c, ?_⟩
  rw [EReal.coe_add]
  congr 1
  rw [Finset.sum_congr rfl fun i _ => by rw [hu, hw, ← EReal.coe_mul]]
  exact (map_sum (⟨⟨_root_.Real.toEReal, EReal.coe_zero⟩, EReal.coe_add⟩ : ℝ →+ EReal) _ Finset.univ).symm

/-- Over real queries, keys and biases every row of logits is sound: none is `⊤`, and the query's own key is not masked. -/
theorem sound (Q K : (⟨2, ![16384, 512]⟩ : Shape).Idx → EReal) (B : (⟨2, ![257, 8]⟩ : Shape).Idx → EReal) (hQ : Real Q)
    (hK : Real K) (hB : Real B) (s h : ℕ) : Sound fun k : Fin 576 => logit Q K B s h k := by
  have hr : ∀ k, ∃ r : ℝ, (∑ d : Fin 64, rd Q s (64 * h + d) * rd K (64 * (s / 64) + k - 512) (64 * h + d))
      + rd B (rel (s % 64) k) h = r :=
    fun k => real_dot _ _ _ (fun d => hQ.rd _ _) (fun d => hK.rd _ _) (hB.rd _ _)
  constructor
  · intro k
    dsimp only [logit]
    split
    · obtain ⟨r, hr⟩ := hr k
      rw [hr]
      exact EReal.coe_ne_top r
    · exact bot_ne_top
  · refine ⟨⟨512, by omega⟩, ?_⟩
    dsimp only [logit]
    rw [if_pos (by omega)]
    obtain ⟨r, hr⟩ := hr 512
    rw [hr]
    exact EReal.coe_ne_bot r

end Cert.Proof.Band

end
-- ==== Proof.KernelBand.lean ====
/-
  The kernel's stored element is the band's. A group of 256 query rows looks at 768 keys; of these the 576 keys of the
  query's own band are kept by the bias table (`⊥` elsewhere), so leaving out the others (`Attend.attend_of_embed`) gives
  the band's row. The lane select keeps the 64 lanes of one head of the two.
-/
module

public import proofs.«01_k».proof.Proof.KernelRow
public import proofs.«01_k».proof.Proof.Band

@[expose] public section

set_option maxRecDepth 16384

noncomputable section

namespace Cert.Proof.KernelBand

open Idealize.ShloMosaic Cert.AttnAIdeal Cert.Proof.Attend Cert.Proof.Band Cert.Proof.KernelRow

/-- The host's bias table at head `h`, query place `r` and key place `x` of a group: the clipped distance's row where the
    key's chunk is in the band, `⊥` elsewhere. -/
def table (B : (⟨2, ![257, 8]⟩ : Shape).Idx → EReal) (h r x : ℕ) : EReal :=
  if x / 64 ≤ r / 64 + 8 ∧ r / 64 ≤ x / 64 then rd B (rel r x) h else ⊥

theorem first_low : ∀ d : Fin 64, first (Fin.castAdd 64 d) = 1 := by decide +kernel
theorem first_high : ∀ d : Fin 64, first (Fin.natAdd 64 d) ≠ 1 := by decide +kernel
theorem second_low : ∀ d : Fin 64, second (Fin.castAdd 64 d) ≠ 1 := by decide +kernel
theorem second_high : ∀ d : Fin 64, second (Fin.natAdd 64 d) = 1 := by decide +kernel

theorem first_iff : ∀ l : Fin 128, first l = 1 ↔ l.val < 64 := by decide +kernel

/-- The first head's lanes of a sum over 128. -/
theorem sum_first (f : Fin 128 → EReal) :
    ∑ y, Scalar.select (first y) (f y) 0 = ∑ d : Fin 64, f (Fin.castAdd 64 d) := by
  rw [Fin.sum_univ_add (a := 64) (b := 64)]
  rw [Finset.sum_congr rfl fun d _ => Scalar.select_of_eq_one (first_low d) _ _,
    Finset.sum_congr (s₁ := Finset.univ (α := Fin 64)) (f := fun d => Scalar.select (first (Fin.natAdd 64 d)) _ _) rfl
      fun d _ => Scalar.select_of_ne_one (first_high d) _ _, Finset.sum_const_zero, add_zero]

/-- The second head's lanes of a sum over 128. -/
theorem sum_second (f : Fin 128 → EReal) :
    ∑ y, Scalar.select (second y) (f y) 0 = ∑ d : Fin 64, f (Fin.natAdd 64 d) := by
  rw [Fin.sum_univ_add (a := 64) (b := 64)]
  rw [Finset.sum_congr rfl fun d _ => Scalar.select_of_ne_one (second_low d) _ _, Finset.sum_const_zero, zero_add]
  exact Finset.sum_congr rfl fun d _ => Scalar.select_of_eq_one (second_high d) _ _

theorem past_first : ∀ j : Fin 32, 0 < j.val → Scalar.cmpi CmpIPredicate.sgt (BitVec.ofNat 32 j.val) 0#32 = 1#1 := by
  decide +kernel

theorem valid_start : ∀ (g : Fin 2) (x : Fin 768),
    (valid (BitVec.ofNat 32 (256 * g.val)) 0#32 x = 1 ↔ 512 ≤ 256 * g.val + x.val) := by
  decide +kernel

theorem nonneg_key : ∀ (g : Fin 2) (x : Fin 768),
    IntOp.cmpi CmpIPredicate.sge (IntOp.addi (BitVec.ofNat 32 x.val) (BitVec.ofNat 32 (256 * g.val))) 0#32 = 1#1 := by
  decide +kernel

/-- A key counts exactly where its row, 512 before the tile's window, is a row of the sequence. -/
theorem valid_iff (j : Fin 32) (g : Fin 2) (x : Fin 768) :
    valid (BitVec.ofNat 32 (256 * g.val)) (BitVec.ofNat 32 j.val) x = 1
      ↔ 512 ≤ 512 * j.val + 256 * g.val + x.val := by
  rcases Nat.eq_zero_or_pos j.val with h | h
  · rw [h, Nat.mul_zero, Nat.zero_add]
    exact valid_start g x
  · refine ⟨fun _ => by omega, fun _ => ?_⟩
    unfold valid
    rw [Scalar.select_of_eq_one (past_first j h)]
    exact nonneg_key g x

/-- One head of a group's row attends as the band does, whatever presents its logits: `dot` the products, `b` the bias. -/
theorem head_eq (Q K V : (⟨2, ![16384, 512]⟩ : Shape).Idx → EReal) (B : (⟨2, ![257, 8]⟩ : Shape).Idx → EReal)
    (j : Fin 32) (g : Fin 2) (r : Fin 256) (n : ℕ) (f w : Fin 768 → EReal)
    (hf : ∀ x : Fin 768, f x = if 512 ≤ 512 * j.val + 256 * g.val + x.val then
      (∑ d : Fin 64, rd Q (512 * j + 256 * g + r) (64 * (n / 64) + d)
        * rd K (512 * j + 256 * g + x - 512) (64 * (n / 64) + d)) + table B (n / 64) r x else ⊥)
    (hw : ∀ x : Fin 768, 512 ≤ 512 * j.val + 256 * g.val + x.val → w x = rd V (512 * j + 256 * g + x - 512) n) :
    attend f w = band Q K V B (512 * j + 256 * g + r) n := by
  have hr := r.isLt
  refine attend_of_embed (fun k : Fin 576 => (⟨k.val + 64 * (r.val / 64), by omega⟩ : Fin 768))
    (fun a b h => Fin.ext (by have := congrArg Fin.val h; dsimp only at this; omega)) _ _ f w (fun k => ?_) (fun x hx => ?_)
    fun k hk => ?_
  · have hk := k.isLt
    rw [hf]
    unfold logit
    have hrow : 64 * ((512 * j.val + 256 * g.val + r.val) / 64) + k.val
        = 512 * j.val + 256 * g.val + (k.val + 64 * (r.val / 64)) := by omega
    rw [hrow]
    refine if_congr Iff.rfl ?_ rfl
    have hrel : rel r (k.val + 64 * (r.val / 64)) = rel ((512 * j.val + 256 * g.val + r.val) % 64) k := by
      unfold rel; omega
    dsimp only
    rw [table, if_pos (by constructor <;> omega), hrel]
  · rw [hf]
    split
    · rw [table, if_neg, EReal.add_bot]
      intro hc
      have hx' := x.isLt
      refine hx ⟨⟨x.val - 64 * (r.val / 64), by omega⟩, Fin.ext ?_⟩
      dsimp only
      omega
    · rfl
  · have hrow : 64 * ((512 * j.val + 256 * g.val + r.val) / 64) + k.val
        = 512 * j.val + 256 * g.val + (k.val + 64 * (r.val / 64)) := by omega
    have hv : 512 ≤ 512 * j.val + 256 * g.val + (k.val + 64 * (r.val / 64)) := by
      by_contra hn
      refine hk ?_
      unfold logit
      exact if_neg (by omega)
    rw [hw _ hv, hrow]

/-- A group's stored element is the band's, from what its loads hold. -/
theorem stored_eq (Q K V : (⟨2, ![16384, 512]⟩ : Shape).Idx → EReal) (B : (⟨2, ![257, 8]⟩ : Shape).Idx → EReal)
    (p : Fin 4) (j : Fin 32) (g : Fin 2) (q : Vec Ideal S256x128 .bf16) (k v : Vec Ideal S768x128 .bf16)
    (b0 b1 : Vec Ideal S1x256x768 .f32) (r : Fin 256) (l : Fin 128)
    (hq : ∀ y : Fin 128, q (ix2 r y) = rd Q (512 * j + 256 * g + r) (128 * p + y))
    (hk : ∀ (x : Fin 768) (y : Fin 128), 512 ≤ 512 * j.val + 256 * g.val + x.val →
      k (ix2 x y) = rd K (512 * j + 256 * g + x - 512) (128 * p + y))
    (hv : ∀ (x : Fin 768) (y : Fin 128), 512 ≤ 512 * j.val + 256 * g.val + x.val →
      v (ix2 x y) = rd V (512 * j + 256 * g + x - 512) (128 * p + y))
    (h0 : ∀ x : Fin 768, b0 (ix3 0 r x) = table B (2 * p) r x)
    (h1 : ∀ x : Fin 768, b1 (ix3 0 r x) = table B (2 * p + 1) r x) :
    stored (BitVec.ofNat 32 (256 * g.val)) (BitVec.ofNat 32 j.val) q k v b0 b1 r l
      = band Q K V B (512 * j + 256 * g + r) (128 * p + l) := by
  unfold stored
  have hl := l.isLt
  by_cases hc : first l = 1
  · rw [Scalar.select_of_eq_one hc]
    have hl' := (first_iff l).mp hc
    have hn : (128 * p.val + l.val) / 64 = 2 * p.val := by omega
    refine head_eq Q K V B j g r (128 * p + l) _ _ (fun x => ?_) fun x hx => hv x l hx
    rw [logits, sum_first, Scalar.select_def, hn]
    by_cases hx : 512 ≤ 512 * j.val + 256 * g.val + x.val
    · rw [if_pos ((valid_iff j g x).mpr hx), if_pos hx, h0]
      congr 1
      refine Finset.sum_congr rfl fun d _ => ?_
      rw [hq, hk _ _ hx, show 128 * p.val + (Fin.castAdd 64 d).val = 64 * (2 * p.val) + d.val by
        rw [Fin.val_castAdd]; omega]
    · rw [if_neg fun h => hx ((valid_iff j g x).mp h), if_neg hx]
  · rw [Scalar.select_of_ne_one hc]
    have hl' : ¬ l.val < 64 := fun h => hc ((first_iff l).mpr h)
    have hn : (128 * p.val + l.val) / 64 = 2 * p.val + 1 := by omega
    refine head_eq Q K V B j g r (128 * p + l) _ _ (fun x => ?_) fun x hx => hv x l hx
    rw [logits, sum_second, Scalar.select_def, hn]
    by_cases hx : 512 ≤ 512 * j.val + 256 * g.val + x.val
    · rw [if_pos ((valid_iff j g x).mpr hx), if_pos hx, h1]
      congr 1
      refine Finset.sum_congr rfl fun d _ => ?_
      rw [hq, hk _ _ hx, show 128 * p.val + (Fin.natAdd 64 d).val = 64 * (2 * p.val + 1) + d.val by
        rw [Fin.val_natAdd]; omega]
    · rw [if_neg fun h => hx ((valid_iff j g x).mp h), if_neg hx]

end Cert.Proof.KernelBand

end
-- ==== Proof.Words.lean ====
/-
  Words of the two host programs: a floor division by 64, the row of the bias table a clipped distance names, and the take
  of whole rows of a table at a rectangle of row numbers.
-/
module

public import Idealize.ShloMosaic.Lib.Pointwise
public import Idealize.ShloMosaic.Lib.StableHlo.Predicate
public import proofs.«01_k».proof.Proof.Band

@[expose] public section

set_option maxRecDepth 16384

noncomputable section

namespace Cert.Proof.Words

open Idealize.ShloMosaic

/-- The sign of a word. -/
def sgn (w : BitVec 32) : BitVec 32 := if w = 0 then 0 else if w.msb = true then -1 else 1

/-- The floor division of a word by 64, as jnp's `//` prints it. -/
def chunk (w : BitVec 32) : BitVec 32 :=
  Scalar.select
    (IntOp.andi (IntOp.cmpi .ne (sgn w) (sgn 64#32)) (IntOp.cmpi .ne (IntOp.remsi ArithUnit.host w 64#32) 0#32))
    (IntOp.subi (IntOp.divsi ArithUnit.host w 64#32) 1#32) (IntOp.divsi ArithUnit.host w 64#32)

theorem chunk_ofNat : ∀ x : Fin 768, chunk (BitVec.ofNat 32 x.val) = BitVec.ofNat 32 (x.val / 64) := by decide +kernel

/-- The bias row of a distance: the distance clipped to ±128, counted from −128. -/
def row (d : BitVec 32) : BitVec 32 := IntOp.addi (IntOp.minsi 128#32 (IntOp.maxsi 4294967168#32 d)) 128#32

/-- jnp's reading of a negative row from the table's end. -/
def wrap (w : BitVec 32) : BitVec 32 := Scalar.select (IntOp.cmpi .slt w 0#32) (IntOp.addi w 257#32) w

theorem wrap_row : ∀ e : Fin 1023, wrap (row (BitVec.ofNat 32 e.val - 255#32)) = BitVec.ofNat 32 (min (e.val - 127) 256) := by
  decide +kernel

/-- The distance of query place `q` and key place `k`, moved up by 255. -/
theorem distance_word (q k : ℕ) (hq : q < 256) (hk : k < 768) :
    BitVec.ofNat 32 q + 512#32 - BitVec.ofNat 32 k = BitVec.ofNat 32 (767 + q - k) - 255#32 := by
  apply BitVec.eq_of_toNat_eq
  simp only [BitVec.toNat_sub, BitVec.toNat_add, BitVec.toNat_ofNat]
  omega

/-- The bias row of query place `q` and key place `k`, the band starting 512 rows before. -/
theorem wrap_row_distance (q k : ℕ) (hq : q < 256) (hk : k < 768) :
    wrap (row (IntOp.subi (IntOp.addi (BitVec.ofNat 32 q) 512#32) (BitVec.ofNat 32 k))) = BitVec.ofNat 32 (Band.rel q k) := by
  have h := wrap_row ⟨767 + q - k, by omega⟩
  show wrap (row (BitVec.ofNat 32 q + 512#32 - BitVec.ofNat 32 k)) = _
  rw [distance_word q k hq hk, h]
  congr 1
  dsimp only
  unfold Band.rel
  omega

/-- The same with the sum the other way round. -/
theorem wrap_row_distance' (q k : ℕ) (hq : q < 256) (hk : k < 768) :
    wrap (row (IntOp.subi (IntOp.addi 512#32 (BitVec.ofNat 32 q)) (BitVec.ofNat 32 k))) = BitVec.ofNat 32 (Band.rel q k) := by
  rw [← wrap_row_distance q k hq hk]
  congr 3
  exact BitVec.add_comm _ _

/-- The band's test on two chunk words: key chunk `b` is at most the query's chunk `a` plus eight, and not before it. -/
theorem allowed_chunks : ∀ (a : Fin 4) (b : Fin 12),
    (IntOp.andi (IntOp.cmpi .sge (IntOp.subi (IntOp.addi (BitVec.ofNat 32 a.val) 8#32) (BitVec.ofNat 32 b.val)) 0#32)
        (IntOp.cmpi .sle (IntOp.subi (IntOp.addi (BitVec.ofNat 32 a.val) 8#32) (BitVec.ofNat 32 b.val)) 8#32) = 1
      ↔ b.val ≤ a.val + 8 ∧ a.val ≤ b.val) := by decide +kernel

/-- The band's test on two places. -/
theorem allowed_iff (r : Fin 256) (x : Fin 768) :
    IntOp.andi
        (IntOp.cmpi .sge (IntOp.subi (IntOp.addi (chunk (BitVec.ofNat 32 r.val)) 8#32) (chunk (BitVec.ofNat 32 x.val))) 0#32)
        (IntOp.cmpi .sle (IntOp.subi (IntOp.addi (chunk (BitVec.ofNat 32 r.val)) 8#32) (chunk (BitVec.ofNat 32 x.val))) 8#32) = 1
      ↔ x.val / 64 ≤ r.val / 64 + 8 ∧ r.val / 64 ≤ x.val / 64 := by
  have hr := chunk_ofNat ⟨r.val, by omega⟩
  dsimp only at hr
  rw [hr, chunk_ofNat x]
  exact allowed_chunks ⟨r.val / 64, by omega⟩ ⟨x.val / 64, by omega⟩

/-- Whole rows of a table taken at a rectangle of row numbers: element (i, j, y) is the table's at row `b`, the number at
    (i, j), and column `y`. -/
theorem take_rows {α : Type} {nb B n k : ℕ} (d : GatherDims ⟨2, ![nb, B]⟩ ⟨3, ![n, k, 1]⟩ ⟨3, ![n, k, B]⟩)
    (hoff : d.offsetDims = [2]) (hcoll : d.collapsedSliceDims = [0]) (hob : d.operandBatchingDims = [])
    (hsim : d.startIndexMap = [0]) (hivd : d.indexVectorDim = 2) (x : (⟨2, ![nb, B]⟩ : Shape).Idx → α)
    (idx : IVec ⟨3, ![n, k, 1]⟩ 32) (i : Fin n) (j : Fin k) (y : Fin B) (b : Fin nb)
    (hb : idx (ix3 i j (0 : Fin 1)) = BitVec.ofNat 32 b.val) (hnb : nb < 2 ^ 31) :
    Host.gather d x idx (ix3 i j y) = x (ix2 b y) := by
  unfold Host.gather
  refine congrArg x (funext fun a => Fin.ext ?_)
  have hbN : ∀ a', a' ∉ d.operandBatchingDims := fun a' => by rw [hob]; exact List.not_mem_nil
  have hone : (1 : Fin 2) ∉ [(0 : Fin 2)] := by decide
  match a with
  | ⟨0, _⟩ =>
    have hk : (0 : Fin 2) ∉ d.sKept := fun h => ((d.mem_sKept 0).1 h).1 (by rw [hcoll]; exact List.mem_singleton.2 rfl)
    have hm : (0 : Fin 2) ∈ d.startIndexMap := by rw [hsim]; exact List.mem_singleton.2 rfl
    have hsl : d.sliceSizes 0 = 1 := d.slice_collapsed 0 (by rw [hcoll]; exact List.mem_singleton.2 rfl)
    show d.start (ix3 i j y) idx 0 + d.batchCoord (ix3 i j y) 0 + d.offCoord (ix3 i j y) 0 = b.val
    rw [d.batchCoord_eq_zero _ _ (hbN 0), d.offCoord_eq_zero _ _ hk]
    simp only [Nat.add_zero]
    unfold GatherDims.start
    rw [dif_pos hm]
    have hsi : d.siIdx (ix3 i j y) ⟨d.startIndexMap.idxOf 0, List.idxOf_lt_length_iff.2 hm⟩ = ix3 i j (0 : Fin 1) := by
      obtain ⟨off, coll, ob, sb, sim, iv, ss, wf⟩ := d
      dsimp only at hoff hsim hivd
      subst hoff hsim hivd
      funext b'
      match b' with
      | ⟨0, _⟩ => exact Fin.ext rfl
      | ⟨1, _⟩ => exact Fin.ext rfl
      | ⟨2, _⟩ => exact Fin.ext rfl
    have hbl := b.isLt
    rw [hsi, hb, hsl, StableHlo.Predicate.toInt_ofNat_small _ (by omega)]
    show min ((b.val : Int)).toNat (nb - 1) = b.val
    omega
  | ⟨1, _⟩ =>
    have hk : (1 : Fin 2) ∈ d.sKept := (d.mem_sKept 1).2 ⟨by rw [hcoll]; exact hone, hbN 1⟩
    have hm : (1 : Fin 2) ∉ d.startIndexMap := by rw [hsim]; exact hone
    show d.start (ix3 i j y) idx 1 + d.batchCoord (ix3 i j y) 1 + d.offCoord (ix3 i j y) 1 = y.val
    rw [d.batchCoord_eq_zero _ _ (hbN 1), Nat.add_zero]
    unfold GatherDims.start GatherDims.offCoord
    rw [dif_neg hm, dif_pos hk, Nat.zero_add]
    have hm2 : ∀ z ∈ d.offsetDims, z = (2 : Fin 3) := fun z hz => by rw [hoff] at hz; exact List.mem_singleton.1 hz
    have e2 : ∀ z : Fin 3, z = 2 → (ix3 i j y z).val = y.val := fun z h => by subst h; rfl
    exact e2 _ (hm2 _ (List.getElem_mem _))

end Cert.Proof.Words

end
-- ==== Proof.KernelTable.lean ====
/-
  The bias operand the kernel's host code prepares: `[8, 256, 768]`, at head `h`, query place `r` and key place `x` the bias
  of their clipped distance where the key's chunk is in the query's band, `⊥` elsewhere.
-/
module

public import proofs.«01_k».proof.Proof.KernelBand
public import proofs.«01_k».proof.Proof.Words
public import Idealize.ShloMosaic.Lib.StableHlo.ReadAt

@[expose] public section

set_option maxRecDepth 16384

noncomputable section

namespace Cert.Proof.KernelTable

open Idealize.ShloMosaic Cert.AttnAIdeal Cert.AttnAIdeal.Gen Idealize.ShloMosaic.TcCoe Idealize.SL.Sem
open Cert.Proof.Words

variable (m : (ℓ : Loc nD τ sig) → Buf (Elt Ideal) ℓ)

theorem operand_apply (c : Dev nD) (h : Fin 8) (r : Fin 256) (x : Fin 768) :
    Gen.V (F := Ideal) m c main_v33 (ix3 h r x) = KernelBand.table (m ((c.tc : Thread nD τ).loc main_arg3)) h r x := by
  unfold Gen.V
  after_reads_at
  show Scalar.select (IntOp.andi
        (IntOp.cmpi .sge (IntOp.subi (IntOp.addi (chunk (BitVec.ofNat 32 r.val)) 8#32) (chunk (BitVec.ofNat 32 x.val))) 0#32)
        (IntOp.cmpi .sle (IntOp.subi (IntOp.addi (chunk (BitVec.ofNat 32 r.val)) 8#32) (chunk (BitVec.ofNat 32 x.val))) 8#32))
      _ (Ideal.ofBits .f32 0xFF800000#32) = _
  rw [KernelRow.ofBits_negInf, Scalar.select_def]
  unfold KernelBand.table
  refine if_congr (allowed_iff r x) ?_ rfl
  rw [Band.rd_of_lt _ _ _ (Band.rel_lt r x) h.isLt]
  refine take_rows _ rfl rfl rfl rfl rfl _ _ r x h ⟨Band.rel r x, Band.rel_lt r x⟩ ?_ (by norm_num)
  pointwise
  exact wrap_row_distance r x r.isLt x.isLt

end Cert.Proof.KernelTable

end
-- ==== Proof.KernelBlocks.lean ====
/-
  The blocks of one grid point: which rows, lanes and heads of the arguments each window holds, and what the two scratch
  buffers (the previous 512 rows, then the current 512) read at a row.
-/
module

public import proofs.«01_k».proof.Proof.KernelTable
public import Idealize.ShloMosaic.Lib.Pipeline.ValueKit
public import Idealize.ShloMosaic.Lib.Pipeline.ReadBack

@[expose] public section

set_option maxRecDepth 16384

noncomputable section

namespace Cert.Proof.KernelBlocks

open Idealize.ShloMosaic Cert.AttnAIdeal Cert.AttnAIdeal.Gen Idealize.ShloMosaic.TcCoe Idealize.SL.Sem
open Idealize.ShloMosaic.Pipeline (Dat)
open Cert.Proof.Band

variable (m : (ℓ : Loc nD τ sig) → Buf (Elt Ideal) ℓ)

/-- The lane pair of a point. -/
abbrev pair (t : Fin cfg0.N) : Fin 4 := grid0.coords t 0

/-- The row tile of a point. -/
abbrev tile (t : Fin cfg0.N) : Fin 32 := grid0.coords t 1

theorem idx (t : Fin cfg0.N) :
    win0_0.index t = ![(tile t).val, (pair t).val] ∧ win0_1.index t = ![(tile t).val - 1, (pair t).val]
      ∧ win0_2.index t = ![(tile t).val, (pair t).val] ∧ win0_3.index t = ![(tile t).val - 1, (pair t).val]
      ∧ win0_4.index t = ![(tile t).val, (pair t).val] ∧ win0_5.index t = ![(pair t).val, 0, 0]
      ∧ win0_6.index t = ![(tile t).val, (pair t).val] :=
  (by decide +kernel : ∀ t : Fin grid0.N,
    win0_0.index t = ![(tile t).val, (pair t).val] ∧ win0_1.index t = ![(tile t).val - 1, (pair t).val]
      ∧ win0_2.index t = ![(tile t).val, (pair t).val] ∧ win0_3.index t = ![(tile t).val - 1, (pair t).val]
      ∧ win0_4.index t = ![(tile t).val, (pair t).val] ∧ win0_5.index t = ![(pair t).val, 0, 0]
      ∧ win0_6.index t = ![(tile t).val, (pair t).val]) t

variable (c : Dev nD) (t : Fin cfg0.N)

/-- The query block. -/
theorem query (a : Fin 512) (b : Fin 128) : iblk m c 0 t (ix2 a b)
    = rd (m ((c.tc : Thread nD τ).loc main_arg0)) (512 * tile t + a) (128 * pair t + b) := by
  have h0 := (tile t).isLt
  have h1 := (pair t).isLt
  rw [rd_of_lt _ _ _ (by omega) (by omega)]
  blk_ext [iblk, V, idx t]

/-- The block of keys before the tile's. -/
theorem key_before (a : Fin 512) (b : Fin 128) : iblk m c 1 t (ix2 a b)
    = rd (m ((c.tc : Thread nD τ).loc main_arg1)) (512 * ((tile t).val - 1) + a) (128 * pair t + b) := by
  have h0 := (tile t).isLt
  have h1 := (pair t).isLt
  rw [rd_of_lt _ _ _ (by omega) (by omega)]
  blk_ext [iblk, V, idx t]

/-- The tile's keys. -/
theorem key_here (a : Fin 512) (b : Fin 128) : iblk m c 2 t (ix2 a b)
    = rd (m ((c.tc : Thread nD τ).loc main_arg1)) (512 * tile t + a) (128 * pair t + b) := by
  have h0 := (tile t).isLt
  have h1 := (pair t).isLt
  rw [rd_of_lt _ _ _ (by omega) (by omega)]
  blk_ext [iblk, V, idx t]

/-- The block of values before the tile's. -/
theorem value_before (a : Fin 512) (b : Fin 128) : iblk m c 3 t (ix2 a b)
    = rd (m ((c.tc : Thread nD τ).loc main_arg2)) (512 * ((tile t).val - 1) + a) (128 * pair t + b) := by
  have h0 := (tile t).isLt
  have h1 := (pair t).isLt
  rw [rd_of_lt _ _ _ (by omega) (by omega)]
  blk_ext [iblk, V, idx t]

/-- The tile's values. -/
theorem value_here (a : Fin 512) (b : Fin 128) : iblk m c 4 t (ix2 a b)
    = rd (m ((c.tc : Thread nD τ).loc main_arg2)) (512 * tile t + a) (128 * pair t + b) := by
  have h0 := (tile t).isLt
  have h1 := (pair t).isLt
  rw [rd_of_lt _ _ _ (by omega) (by omega)]
  blk_ext [iblk, V, idx t]

/-- The bias block: the two heads of the lane pair. -/
theorem bias (e : Fin 2) (r : Fin 256) (x : Fin 768) : iblk m c 5 t (ix3 e r x)
    = KernelBand.table (m ((c.tc : Thread nD τ).loc main_arg3)) (2 * pair t + e) r x := by
  have h1 := (pair t).isLt
  refine Eq.trans ?_ (KernelTable.operand_apply m c ⟨2 * pair t + e, by omega⟩ r x)
  blk_ext [iblk, idx t]

/-- An index is a unit-stride rectangle's `x`-th when each coordinate is the offset plus `x`'s. -/
theorem eq_unit_emb {s : Shape} {off size : Fin s.rank → ℕ} (y : s.Idx) (inb : ∀ a, off a + size a ≤ s.size a)
    (x : (Rect.unit off size inb).shape.Idx) (h : ∀ a, (y a).val = off a + (x a).val) :
    y = (Rect.unit off size inb).emb x :=
  funext fun a => Fin.ext (by
    show (y a).val = off a + 1 * (x a).val
    rw [h a, Nat.one_mul])

section Scratch

variable {e : EltTy} (v : View sig .tc .vmem S1024x128 e) (before here : S512x128.Idx → Elt Ideal e)
variable (inb1 : ∀ a : Fin 2, (![512, 0] : Fin 2 → ℕ) a + (![512, 128] : Fin 2 → ℕ) a ≤ S1024x128.size a)
variable (inb0 : ∀ a : Fin 2, (![0, 0] : Fin 2 → ℕ) a + (![512, 128] : Fin 2 → ℕ) a ≤ S1024x128.size a)

/-- The scratch's rows from 512 on are the tile's, -/
theorem canon_here (y : S1024x128.Idx) (a : Fin 512) (b : Fin 128) (h0 : (y 0).val = 512 + a) (h1 : (y 1).val = b) :
    View.canon (Val := Elt Ideal) [⟨Rect.unit (s := S1024x128) ![512, 0] ![512, 128] inb1, here⟩,
      ⟨Rect.unit (s := S1024x128) ![0, 0] ![512, 128] inb0, before⟩] y = here (ix2 a b) := by
  rw [show y = (Rect.unit (s := S1024x128) ![512, 0] ![512, 128] inb1).emb (ix2 a b) from ?_]
  · exact View.canon_cons_emb _ _ _ _
  · exact eq_unit_emb y inb1 (ix2 a b) (Fin.forall_fin_two.mpr ⟨h0, by rw [h1]; exact (Nat.zero_add _).symm⟩)

/-- and the rows below are those before. -/
theorem canon_before (y : S1024x128.Idx) (a : Fin 512) (b : Fin 128) (h0 : (y 0).val = a) (h1 : (y 1).val = b) :
    View.canon (Val := Elt Ideal) [⟨Rect.unit (s := S1024x128) ![512, 0] ![512, 128] inb1, here⟩,
      ⟨Rect.unit (s := S1024x128) ![0, 0] ![512, 128] inb0, before⟩] y = before (ix2 a b) := by
  rw [View.canon_cons_of_not_mem]
  · rw [show y = (Rect.unit (s := S1024x128) ![0, 0] ![512, 128] inb0).emb (ix2 a b) from ?_]
    · exact View.canon_cons_emb _ _ _ _
    · exact eq_unit_emb y inb0 (ix2 a b)
        (Fin.forall_fin_two.mpr ⟨by rw [h0]; exact (Nat.zero_add _).symm, by rw [h1]; exact (Nat.zero_add _).symm⟩)
  · rw [Rect.mem_set_unit]
    intro h
    have := (h 0).1
    have ha := a.isLt
    change 512 ≤ (y 0).val at this
    omega

end Scratch

end Cert.Proof.KernelBlocks

end
-- ==== Proof.KernelValue.lean ====
/-
  The kernel's result: every element of the launch's array is the band's.
-/
module

public import proofs.«01_k».proof.Proof.KernelBlocks

@[expose] public section

set_option maxRecDepth 16384

noncomputable section

namespace Cert.Proof.KernelValue

open Idealize.ShloMosaic Cert.AttnAIdeal Cert.AttnAIdeal.Gen Idealize.ShloMosaic.TcCoe Idealize.SL.Sem
open Idealize.ShloMosaic.Pipeline (Dat)
open Cert.Proof.Band Cert.Proof.KernelBlocks

variable (m : (ℓ : Loc nD τ sig) → Buf (Elt Ideal) ℓ) (c : Dev nD)

/-- The band of the four arguments. -/
def result : S16384x512.Idx → EReal := fun i =>
  band (m ((c.tc : Thread nD τ).loc main_arg0)) (m ((c.tc : Thread nD τ).loc main_arg1))
    (m ((c.tc : Thread nD τ).loc main_arg2)) (m ((c.tc : Thread nD τ).loc main_arg3)) (i 0).val (i 1).val

/-- A scratch after its two stores: the rows before the tile, then the tile's. -/
abbrev scratch (before here : S512x128.Idx → Elt Ideal .bf16) : S1024x128.Idx → Elt Ideal .bf16 :=
  View.canon (Val := Elt Ideal) (e := .bf16) [⟨Rect.unit (s := S1024x128) ![512, 0] ![512, 128] inb_S1024x128_S512x128_512_0, here⟩,
    ⟨Rect.unit (s := S1024x128) ![0, 0] ![512, 128] inb_S1024x128_S512x128_0_0, before⟩]

/-- A row of a scratch, from what its two pieces hold: it is row `512·j + o - 512` of the array where that is a row. -/
theorem scratch_row (X : (⟨2, ![16384, 512]⟩ : Shape).Idx → EReal) (t : Fin cfg0.N)
    (before here : S512x128.Idx → Elt Ideal .bf16)
    (hb : ∀ (a : Fin 512) (b : Fin 128), before (ix2 a b) = rd X (512 * ((tile t).val - 1) + a) (128 * pair t + b))
    (hh : ∀ (a : Fin 512) (b : Fin 128), here (ix2 a b) = rd X (512 * tile t + a) (128 * pair t + b))
    (o : Fin 1024) (b : Fin 128) (ho : 512 ≤ 512 * (tile t).val + o) :
    scratch before here (ix2 o b) = rd X (512 * tile t + o - 512) (128 * pair t + b) := by
  by_cases h : o.val < 512
  · refine (canon_before before here _ _ (ix2 o b) ⟨o, h⟩ b rfl rfl).trans ?_
    rw [hb]
    congr 1
    dsimp only
    omega
  · refine (canon_here before here _ _ (ix2 o b) ⟨o.val - 512, by omega⟩ b (by show o.val = _; dsimp only; omega) rfl).trans ?_
    rw [hh]
    congr 1
    dsimp only
    omega

theorem keys_before (t : Fin cfg0.N) (a : Fin 512) (b : Fin 128) : k0_pay2 (iblk m c 1 t) (ix2 a b)
    = rd (m ((c.tc : Thread nD τ).loc main_arg1)) (512 * ((tile t).val - 1) + a) (128 * pair t + b) := by
  refine Eq.trans ?_ (key_before m c t a b)
  pointwise [k0_pay2]

theorem keys_here (t : Fin cfg0.N) (a : Fin 512) (b : Fin 128) : k0_pay3 (iblk m c 2 t) (ix2 a b)
    = rd (m ((c.tc : Thread nD τ).loc main_arg1)) (512 * tile t + a) (128 * pair t + b) := by
  refine Eq.trans ?_ (key_here m c t a b)
  pointwise [k0_pay3]

theorem values_before (t : Fin cfg0.N) (a : Fin 512) (b : Fin 128) : k0_pay4 (iblk m c 3 t) (ix2 a b)
    = rd (m ((c.tc : Thread nD τ).loc main_arg2)) (512 * ((tile t).val - 1) + a) (128 * pair t + b) := by
  refine Eq.trans ?_ (value_before m c t a b)
  pointwise [k0_pay4]

theorem values_here (t : Fin cfg0.N) (a : Fin 512) (b : Fin 128) : k0_pay5 (iblk m c 4 t) (ix2 a b)
    = rd (m ((c.tc : Thread nD τ).loc main_arg2)) (512 * tile t + a) (128 * pair t + b) := by
  refine Eq.trans ?_ (value_here m c t a b)
  pointwise [k0_pay5]

/-- Place `(r, z)` of the rows from `o` on is `(o + r, z)`. -/
theorem rows_emb {M n : ℕ} (o : ℕ) (r : Fin n) (z : Fin 128) (i : Fin M)
    (inb : ∀ a : Fin 2, (![o, 0] : Fin 2 → ℕ) a + (![n, 128] : Fin 2 → ℕ) a ≤ (![M, 128] : Fin 2 → ℕ) a) (h : i.val = o + r.val) :
    ix2 i z = (Rect.unit (s := ⟨2, ![M, 128]⟩) ![o, 0] ![n, 128] inb).emb (ix2 r z) :=
  eq_unit_emb _ inb _ (Fin.forall_fin_two.mpr ⟨h, (Nat.zero_add _).symm⟩)

/-- Place `(0, r, x)` of the one-slab block at `e` is `(e, r, x)`. -/
theorem slab_emb (e : Fin 2) (r : Fin 256) (x : Fin 768) (f : ℕ)
    (inb : ∀ a : Fin 3, (![f, 0, 0] : Fin 3 → ℕ) a + (![1, 256, 768] : Fin 3 → ℕ) a ≤ (![2, 256, 768] : Fin 3 → ℕ) a)
    (h : e.val = f := by rfl) :
    ix3 e r x = (Rect.unit (s := ⟨3, ![2, 256, 768]⟩) ![f, 0, 0] ![1, 256, 768] inb).emb (ix3 0 r x) :=
  eq_unit_emb _ inb _ fun a => by
    match a with
    | ⟨0, _⟩ => exact h
    | ⟨1, _⟩ => exact (Nat.zero_add _).symm
    | ⟨2, _⟩ => exact (Nat.zero_add _).symm

/-- A group's stored element, from where its loads lie in the point's blocks and scratches. -/
theorem group_eq (t : Fin cfg0.N) (g : Fin 2) (r : Fin 256) (l : Fin 128) (q : Vec Ideal S256x128 .bf16)
    (k v : Vec Ideal S768x128 .bf16) (b0 b1 : Vec Ideal S1x256x768 .f32)
    (hq : ∀ z, q (ix2 r z) = iblk m c 0 t (ix2 ⟨256 * g + r, by omega⟩ z))
    (hk : ∀ x z, k (ix2 x z) = scratch (k0_pay2 (iblk m c 1 t)) (k0_pay3 (iblk m c 2 t)) (ix2 ⟨256 * g + x, by omega⟩ z))
    (hv : ∀ x z, v (ix2 x z) = scratch (k0_pay4 (iblk m c 3 t)) (k0_pay5 (iblk m c 4 t)) (ix2 ⟨256 * g + x, by omega⟩ z))
    (h0 : ∀ x, b0 (ix3 0 r x) = iblk m c 5 t (ix3 0 r x)) (h1 : ∀ x, b1 (ix3 0 r x) = iblk m c 5 t (ix3 1 r x)) :
    KernelRow.stored (BitVec.ofNat 32 (256 * g.val)) (BitVec.ofNat 32 (tile t).val) q k v b0 b1 r l
      = band (m ((c.tc : Thread nD τ).loc main_arg0)) (m ((c.tc : Thread nD τ).loc main_arg1))
        (m ((c.tc : Thread nD τ).loc main_arg2)) (m ((c.tc : Thread nD τ).loc main_arg3))
        (512 * tile t + (256 * g + r)) (128 * pair t + l) := by
  rw [← Nat.add_assoc]
  refine KernelBand.stored_eq _ _ _ _ (pair t) (tile t) g q k v b0 b1 r l (fun z => ?_) (fun x z hx => ?_)
    (fun x z hx => ?_) (fun x => (h0 x).trans (bias m c t 0 r x)) fun x => (h1 x).trans (bias m c t 1 r x)
  · rw [hq, query, Nat.add_assoc]
  · rw [hk, Nat.add_assoc]
    exact scratch_row _ t _ _ (keys_before m c t) (keys_here m c t) _ z (by dsimp only; omega)
  · rw [hv, Nat.add_assoc]
    exact scratch_row _ t _ _ (values_before m c t) (values_here m c t) _ z (by dsimp only; omega)

/-- The launch's array is the band: each of a tile's two stores is a block of it. -/
theorem final : (dats (F := Ideal) m 0 c).arrAt 6 cfg0.N = result m c := by
  refine (dats m 0 c).arrAt_eq_of_covers 6 _ (by decide +kernel) fun t hf y => ?_
  blk_simp
  rw [after0_6]
  unfold outsAt0
  frame_out
  have hy0 : (y 0).val < 512 := (y 0).isLt
  have hy1 : (y 1).val < 128 := (y 1).isLt
  have hG : result m c (((View.whole main_v34).slice (win0_6.rect t)).emb y)
      = band (m ((c.tc : Thread nD τ).loc main_arg0)) (m ((c.tc : Thread nD τ).loc main_arg1))
        (m ((c.tc : Thread nD τ).loc main_arg2)) (m ((c.tc : Thread nD τ).loc main_arg3))
        (512 * tile t + y 0) (128 * pair t + y 1) := by
    unfold result
    congr 1
    · blk_simp [idx t]
      simp [Nat.mul_comm]
    · blk_simp [idx t]
      simp [Nat.mul_comm]
  rw [hG]
  by_cases h : (y 0).val < 256
  · rw [View.canon_cons_of_not_mem]
    · have hy : y = (Rect.unit (s := S512x128) ![0, 0] ![256, 128] inb_S512x128_S256x128_0_0).emb (ix2 ⟨y 0, h⟩ ⟨y 1, hy1⟩) :=
        eq_unit_emb y _ _ (Fin.forall_fin_two.mpr ⟨(Nat.zero_add _).symm, (Nat.zero_add _).symm⟩)
      refine (congrArg _ hy).trans ((View.canon_cons_emb _ _ _ _).trans ((KernelRow.group0_apply _ _ _ _ _ _ _ _).trans
        ((group_eq m c t 0 ⟨y 0, h⟩ ⟨y 1, hy1⟩ _ _ _ _ _ (fun z => ?_) (fun x z => ?_) (fun x z => ?_) (fun x => ?_) fun x => ?_).trans ?_)))
      · exact congrArg (iblk m c 0 t) (rows_emb 0 _ _ _ _ (by dsimp only; omega)).symm
      · rw [View.readCov_eq_canon']
        exact congrArg (scratch _ _) (rows_emb 0 _ _ _ _ (by dsimp only; omega)).symm
      · rw [View.readCov_eq_canon']
        exact congrArg (scratch _ _) (rows_emb 0 _ _ _ _ (by dsimp only; omega)).symm
      · exact congrArg (iblk m c 5 t) (slab_emb 0 _ _ _ _).symm
      · exact congrArg (iblk m c 5 t) (slab_emb 1 _ _ _ _).symm
      · rw [show 256 * (0 : Fin 2).val + (y 0).val = (y 0).val from Nat.zero_add _]
    · rw [Rect.mem_set_unit]
      intro hc
      have := (hc 0).1
      change 256 ≤ (y 0).val at this
      omega
  · have hy : y = (Rect.unit (s := S512x128) ![256, 0] ![256, 128] inb_S512x128_S256x128_256_0).emb
        (ix2 ⟨(y 0).val - 256, by omega⟩ ⟨y 1, hy1⟩) :=
      eq_unit_emb y _ _ (Fin.forall_fin_two.mpr ⟨by show (y 0).val = 256 + ((y 0).val - 256); omega, (Nat.zero_add _).symm⟩)
    refine (congrArg _ hy).trans ((View.canon_cons_emb _ _ _ _).trans ((KernelRow.group1_apply _ _ _ _ _ _ _ _).trans
      ((group_eq m c t 1 ⟨(y 0).val - 256, by omega⟩ ⟨y 1, hy1⟩ _ _ _ _ _ (fun z => ?_) (fun x z => ?_) (fun x z => ?_)
        (fun x => ?_) fun x => ?_).trans ?_)))
    · exact congrArg (iblk m c 0 t) (rows_emb 256 _ _ _ _ rfl).symm
    · rw [View.readCov_eq_canon']
      exact congrArg (scratch _ _) (rows_emb 256 _ _ _ _ rfl).symm
    · rw [View.readCov_eq_canon']
      exact congrArg (scratch _ _) (rows_emb 256 _ _ _ _ rfl).symm
    · exact congrArg (iblk m c 5 t) (slab_emb 0 _ _ _ _).symm
    · exact congrArg (iblk m c 5 t) (slab_emb 1 _ _ _ _).symm
    · rw [show 256 * (1 : Fin 2).val + ((y 0).val - 256) = (y 0).val by show 256 * 1 + _ = _; omega]

end Cert.Proof.KernelValue

end
-- ==== Proof.RefValue.lean ====
/-
  The reference's result: every element is the band's, where the queries, keys and biases are real numbers (the reference
  divides the weights before it sums the values, the kernel after).
-/
module

public import proofs.«01_k».proof.Proof.Gen.AttnARefIdeal.Read
public import proofs.«01_k».proof.Proof.KernelRow
public import proofs.«01_k».proof.Proof.Band
public import proofs.«01_k».proof.Proof.Words

@[expose] public section

set_option maxRecDepth 16384

noncomputable section

namespace Cert.Proof.RefValue

open Idealize.ShloMosaic Cert.AttnARefIdeal Cert.AttnARefIdeal.Read Cert.Proof.Attend Cert.Proof.Band Cert.Proof.Words

variable (x0 x1 x2 : (⟨2, ![16384, 512]⟩ : Shape).Idx → EReal) (x3 : (⟨2, ![257, 8]⟩ : Shape).Idx → EReal)

/-! ## The windows of keys and values -/

/-- The padded keys, past the eight padding chunks. -/
theorem padded_key (n : Fin 264) (k : Fin 64) (h : Fin 8) (d : Fin 64) (hn : 8 ≤ n.val) :
    val_main_v4 (F := Ideal) x1 (ix4 n k h d) = rd x1 (64 * n + k - 512) (64 * h + d) := by
  pointwise [val_main_v4, val_main_v3, val_main_v2]
  rw [dif_pos ⟨hn, by omega⟩, rd_of_lt _ _ _ (by omega) (by omega)]
  congr 2 <;> exact Fin.ext (by dsimp only; omega)

/-- The padded values, past the eight padding chunks. -/
theorem padded_value (n : Fin 264) (k : Fin 64) (h : Fin 8) (d : Fin 64) (hn : 8 ≤ n.val) :
    val_main_v7 (F := Ideal) x2 (ix4 n k h d) = rd x2 (64 * n + k - 512) (64 * h + d) := by
  pointwise [val_main_v7, val_main_v6, val_main_v5]
  rw [dif_pos ⟨hn, by omega⟩, rd_of_lt _ _ _ (by omega) (by omega)]
  congr 2 <;> exact Fin.ext (by dsimp only; omega)

/-- The window of chunk `n` is the nine chunks from `n` of the padded keys. -/
theorem window_key (n : Fin 256) (k : Fin 576) (h : Fin 8) (d : Fin 64) :
    val_main_v17 (F := Ideal) x1 (ix4 n k h d)
      = val_main_v4 (F := Ideal) x1 (ix4 ⟨n + k / 64, by omega⟩ ⟨k % 64, by omega⟩ h d) := by
  unfold val_main_v17 val_main_v8 val_main_v9 val_main_v10 val_main_v11 val_main_v12 val_main_v13 val_main_v14 val_main_v15 val_main_v16
  generalize val_main_v4 (F := Ideal) x1 = y
  pointwise
  split_ifs <;> (congr 2 <;> exact Fin.ext (by dsimp only; omega))

/-- The window of chunk `n` is the nine chunks from `n` of the padded values. -/
theorem window_value (n : Fin 256) (k : Fin 576) (h : Fin 8) (d : Fin 64) :
    val_main_v27 (F := Ideal) x2 (ix4 n k h d)
      = val_main_v7 (F := Ideal) x2 (ix4 ⟨n + k / 64, by omega⟩ ⟨k % 64, by omega⟩ h d) := by
  unfold val_main_v27 val_main_v18 val_main_v19 val_main_v20 val_main_v21 val_main_v22 val_main_v23 val_main_v24 val_main_v25 val_main_v26
  generalize val_main_v7 (F := Ideal) x2 = y
  pointwise
  split_ifs <;> (congr 2 <;> exact Fin.ext (by dsimp only; omega))

theorem key (n : Fin 256) (k : Fin 576) (h : Fin 8) (d : Fin 64) (hv : 512 ≤ 64 * n.val + k.val) :
    val_main_v17 (F := Ideal) x1 (ix4 n k h d) = rd x1 (64 * n + k - 512) (64 * h + d) := by
  refine (window_key x1 n k h d).trans ((padded_key x1 _ _ h d (by dsimp only; omega)).trans
    (congrArg (fun i => rd x1 i (64 * h.val + d.val)) ?_))
  dsimp only
  omega

theorem value (n : Fin 256) (k : Fin 576) (h : Fin 8) (d : Fin 64) (hv : 512 ≤ 64 * n.val + k.val) :
    val_main_v27 (F := Ideal) x2 (ix4 n k h d) = rd x2 (64 * n + k - 512) (64 * h + d) := by
  refine (window_value x2 n k h d).trans ((padded_value x2 _ _ h d (by dsimp only; omega)).trans
    (congrArg (fun i => rd x2 i (64 * h.val + d.val)) ?_))
  dsimp only
  omega

/-! ## The logits -/

/-- The bias of a query and a key place. -/
theorem bias (q : Fin 64) (k : Fin 576) (h : Fin 8) :
    val_main_v47 (F := Ideal) x3 (ix3 q k h) = rd x3 (rel q k) h := by
  rw [rd_of_lt _ _ _ (rel_lt q k) h.isLt]
  refine take_rows _ rfl rfl rfl rfl rfl x3 _ q k h ⟨rel q k, rel_lt q k⟩ ?_ (by norm_num)
  pointwise [val_main_v46, val_main_v45, val_main_v44, val_main_v43, val_main_c_6, val_main_v42, val_main_v41, val_main_c_5,
    val_main_v40, val_main_v39, val_main_c_4, val_main_v38, val_main_call2_v4, val_main_call2_v3, val_main_c_3,
    val_main_call2_v2, val_main_call2_v1, val_main_call2_v0, val_main_c_2, val_main_v37, val_main_v36, val_main_v35,
    val_main_v34, val_main_v33, val_main_v32, val_main_c_1, val_main_v31, val_main_v30, val_main_v29]
  exact wrap_row_distance' q k (by omega) (by omega)

theorem counted : ∀ (n : Fin 256) (b : Fin 9),
    (IntOp.cmpi .sge (IntOp.addi (IntOp.subi (BitVec.ofNat 32 n.val) 8#32) (BitVec.ofNat 32 b.val)) 0#32 = 1
      ↔ 8 ≤ n.val + b.val) := by decide +kernel

/-- A key place counts where its row lies in the sequence. -/
theorem valid_iff (n : Fin 256) (k : Fin 576) :
    val_main_v62 (F := Ideal) (ix2 n k) = 1 ↔ 512 ≤ 64 * n.val + k.val := by
  have hk : val_main_v57 (F := Ideal) (ix2 0 k) = BitVec.ofNat 32 (k.val / 64) := chunk_ofNat ⟨k.val, by omega⟩
  have hn : val_main_v55 (F := Ideal) (ix2 n 0) = IntOp.subi (BitVec.ofNat 32 n.val) 8#32 := rfl
  pointwise [val_main_v62, val_main_v61, val_main_c_9, val_main_v60, val_main_v59, val_main_v58]
  rw [hk, hn, counted n ⟨k.val / 64, by omega⟩]
  dsimp only
  omega

/-- The reference's logits are the band's. -/
theorem logits (n : Fin 256) (h : Fin 8) (q : Fin 64) (k : Fin 576) :
    val_main_v64 (F := Ideal) x0 x1 x3 (ix4 n h q k) = logit x0 x1 x3 (64 * n + q) h k := by
  have hs : (64 * n.val + q.val) / 64 = n.val := by omega
  have hq : (64 * n.val + q.val) % 64 = q.val := by omega
  pointwise [val_main_v64, val_main_call4_v1, val_main_v63, val_main_call4_v2, val_main_v51,
    val_main_v50, val_main_v49, val_main_v48, val_main_v28, val_main_v1, val_main_v0]
  rw [show val_main_call4_v0 (F := Ideal) ix0 = ⊥ from KernelRow.ofBits_negInf, Scalar.select_def, bias]
  unfold logit
  rw [hs, hq]
  by_cases hv : 512 ≤ 64 * n.val + k.val
  · rw [if_pos ((valid_iff n k).mpr hv), if_pos hv]
    congr 1
    refine Finset.sum_congr rfl fun d _ => ?_
    rw [key _ _ _ _ _ hv, rd_of_lt x0 _ _ (by omega) (by omega)]
    congr 3 <;> exact Fin.ext (by dsimp only; omega)
  · rw [if_neg fun e => hv ((valid_iff n k).mp e), if_neg hv]

/-! ## The softmax -/

/-- The greatest logit of a row. -/
theorem top_eq (n : Fin 256) (h : Fin 8) (q : Fin 64) :
    val_main_v65 (F := Ideal) x0 x1 x3 (ix3 n h q) = top fun k : Fin 576 => logit x0 x1 x3 (64 * n + q) h k := by
  have hl := logits x0 x1 x3 n h q
  unfold val_main_v65
  generalize val_main_v64 (F := Ideal) x0 x1 x3 = y at hl
  pointwise [val_main_cst_10]
  simp only [hl]
  rw [KernelRow.ofBits_negInf]
  rfl

/-- The weights. -/
theorem weights (n : Fin 256) (h : Fin 8) (q : Fin 64) (k : Fin 576) :
    val_main_v71 (F := Ideal) x0 x1 x3 (ix4 n h q k) = weight (fun k : Fin 576 => logit x0 x1 x3 (64 * n + q) h k) k := by
  rw [val_main_v71_apply, val_main_v70_apply, logits, val_main_v69_apply, val_main_v68_apply, val_main_v67_apply,
    val_main_v66_apply]
  have hi : idx_main_v68 (idx_main_v69 (ix4 n h q k)) = ix3 n h q := funext fun a => by
    match a with
    | ⟨0, _⟩ => rfl
    | ⟨1, _⟩ => rfl
    | ⟨2, _⟩ => rfl
  rw [hi, top_eq]
  show Ideal.exp (_ - max (Ideal.ofBits .f32 0xFF800000#32) _) = _
  rw [KernelRow.ofBits_negInf, max_eq_right bot_le]
  rfl

/-- The weights over their total. -/
theorem shares (n : Fin 256) (h : Fin 8) (q : Fin 64) (k : Fin 576) :
    val_main_v75 (F := Ideal) x0 x1 x3 (ix4 n h q k)
      = Ideal.div (weight (fun k : Fin 576 => logit x0 x1 x3 (64 * n + q) h k) k)
        (total fun k : Fin 576 => logit x0 x1 x3 (64 * n + q) h k) := by
  have hw := weights x0 x1 x3 n h q
  unfold val_main_v75 val_main_v74 val_main_v73 val_main_v72
  generalize val_main_v71 (F := Ideal) x0 x1 x3 = y at hw
  pointwise [val_main_cst_12]
  simp only [hw]
  rfl

/-- The reference's result. -/
theorem result (hQ : Band.Real x0) (hK : Band.Real x1) (hB : Band.Real x3) (s : Fin 16384) (n : Fin 512) :
    val_main_v79 (F := Ideal) x0 x1 x2 x3 (ix2 s n) = band x0 x1 x2 x3 s n := by
  pointwise [val_main_v79, val_main_v78, val_main_v77, val_main_v76]
  have hs : 64 * (s.val / 64) + s.val % 64 = s.val := by omega
  unfold band
  rw [← attend_congr (fun k : Fin 576 => logit x0 x1 x3 s (n.val / 64) k) _
      (fun k => rd x2 (64 * (s.val / 64) + k - 512) n)
      (fun k => val_main_v27 (F := Ideal) x2 (ix4 ⟨s.val / 64, by omega⟩ k ⟨n.val / 64, by omega⟩ ⟨n.val % 64, by omega⟩))
      (fun _ => rfl) fun k hk => ?_,
    ← sum_div_mul _ _ (sound x0 x1 x3 hQ hK hB s (n.val / 64))]
  · refine Finset.sum_congr rfl fun k _ => ?_
    rw [shares, mul_comm]
    dsimp only
    rw [hs]
  · have hv : 512 ≤ 64 * (s.val / 64) + k.val := by
      by_contra hc
      exact hk (if_neg hc)
    rw [value _ _ _ _ _ hv]
    congr 1
    dsimp only
    omega

end Cert.Proof.RefValue

end
-- ==== Proof.Finite.lean ====
/-
  The precondition: every query, key and bias is a real number.
-/
module

public import proofs.«01_k».proof.Proof.Gen.Pre_finite
public import proofs.«01_k».proof.Proof.Band
public import Idealize.ShloMosaic.Lib.ReduceAll

@[expose] public section

noncomputable section

namespace Cert.Proof.Finite

open Idealize.ShloMosaic Cert.Pre_finite Cert.Pre_finite.Gen

instance : Subsingleton S_.Idx := ⟨fun _ _ => funext fun a => a.elim0⟩

theorem ofBits_inf : Ideal.ofBits .f32 0x7F800000#32 = ⊤ := by simp [Ideal.ofBits, Ideal.ieee]

/-- A number whose absolute value is below +∞ is real. -/
theorem real_of_abs {x : EReal} (h : Ideal.cmp .olt (max x (-x)) ⊤ = 1#1) : x ≠ ⊤ ∧ x ≠ ⊥ := by
  constructor
  · rintro rfl
    simp [Ideal.cmp] at h
  · rintro rfl
    simp [Ideal.cmp] at h

/-- An element whose comparison with +∞ the predicate found 1 is real. -/
theorem real_of_compare {x : EReal} (h : Ideal.cmp .olt (max x (-x)) (Ideal.ofBits .f32 0x7F800000#32) = 1#1) :
    x ≠ ⊤ ∧ x ≠ ⊥ :=
  real_of_abs (ofBits_inf ▸ h)

/-- The precondition says that the queries, the keys and the biases are real. -/
theorem real_of_pre (q k v : FVec Ideal S16384x512 .bf16) (b : FVec Ideal S257x8 .f32)
    (h : fn q k v b = fun _ => 1#1) :
    Band.Real q ∧ Band.Real k ∧ Band.Real b := by
  have e := congrFun h (fun a : Fin 0 => a.elim0)
  dsimp only [fn] at e
  obtain ⟨e, eb⟩ := IntOp.andi_eq_one.mp e
  obtain ⟨eq, ek⟩ := IntOp.andi_eq_one.mp e
  exact ⟨fun i => real_of_compare (Host.reduce_andi_all _ _ _ _ _ eq i),
    fun i => real_of_compare (Host.reduce_andi_all _ _ _ _ _ ek i),
    fun i => real_of_compare (Host.reduce_andi_all _ _ _ _ _ eb i)⟩

end Cert.Proof.Finite

end
-- ==== Proof.TileWords.lean ====
/-
  The expert kernel's control words, as numbers: the tests "this tile is filled" and "this tile's expert is another than
  the tile before's", and the block indices of its windows.
-/
module

public import Idealize.ShloMosaic.PureOps
public import Idealize.ShloMosaic.Lib.StableHlo

@[expose] public section

namespace Cert.Proof.TileWords

open Idealize.ShloMosaic

theorem toInt_small (v : BitVec 32) (h : v.toNat < 2 ^ 31) : v.toInt = (v.toNat : Int) := by
  rw [BitVec.toInt_eq_toNat_cond]; split <;> omega

theorem toNat_ofNat_small (i : ℕ) (h : i < 2 ^ 31) : (BitVec.ofNat 32 i).toNat = i := by
  rw [BitVec.toNat_ofNat]; omega

theorem slt_iff (i : ℕ) (v : BitVec 32) (hi : i < 288) (hv : v.toNat ≤ 288) :
    Scalar.cmpi .slt (BitVec.ofNat 32 i) v = 1#1 ↔ i < v.toNat := by
  have h1 := toInt_small (BitVec.ofNat 32 i) (by rw [toNat_ofNat_small i (by omega)]; omega)
  have h2 := toInt_small v (by omega)
  rw [toNat_ofNat_small i (by omega)] at h1
  show BitVec.ofBool ((BitVec.ofNat 32 i).slt v) = 1#1 ↔ _
  rw [BitVec.slt, h1, h2]
  by_cases h : i < v.toNat
  · have : ((i : ℕ) : Int) < (v.toNat : Int) := by exact_mod_cast h
    simp [this, h]
  · have : ¬ ((i : ℕ) : Int) < (v.toNat : Int) := by exact_mod_cast h
    simp [this, h]

/-- A test's bit, widened and compared with 0, is the bit. -/
theorem widened : ∀ b : BitVec 1, Scalar.cmpi .ne (Scalar.extui b) 0#32 = 1#1 ↔ b = 1#1 := by decide

theorem filled_iff (i : ℕ) (v : BitVec 32) (hi : i < 288) (hv : v.toNat ≤ 288) :
    Scalar.cmpi .ne (Scalar.extui (Scalar.cmpi .slt (BitVec.ofNat 32 i) v)) 0#32 = 1#1 ↔ i < v.toNat :=
  (widened _).trans (slt_iff i v hi hv)

theorem andi_iff : ∀ a b : BitVec 1, Scalar.andi a b = 1#1 ↔ a = 1#1 ∧ b = 1#1 := by decide
theorem ori_iff : ∀ a b : BitVec 1, Scalar.ori a b = 1#1 ↔ a = 1#1 ∨ b = 1#1 := by decide

theorem eq_iff (a b : BitVec 32) : Scalar.cmpi .eq a b = 1#1 ↔ a = b := by
  show BitVec.ofBool (a == b) = 1#1 ↔ _
  by_cases h : a = b
  · simp [h]
  · rw [beq_false_of_ne h]; simp [h]

theorem ne_iff (a b : BitVec 32) : Scalar.cmpi .ne a b = 1#1 ↔ a ≠ b := by
  show BitVec.ofBool (!(a == b)) = 1#1 ↔ _
  by_cases h : a = b
  · simp [h]
  · rw [beq_false_of_ne h]; simp [h]

theorem fresh_iff (i : ℕ) (v a b : BitVec 32) (hi : i < 288) (hv : v.toNat ≤ 288) :
    Scalar.cmpi .ne (Scalar.extui (Scalar.andi (Scalar.cmpi .slt (BitVec.ofNat 32 i) v)
        (Scalar.ori (Scalar.cmpi .eq (BitVec.ofNat 32 i) 0#32) (Scalar.cmpi .ne a b)))) 0#32 = 1#1
      ↔ i < v.toNat ∧ (i = 0 ∨ a ≠ b) := by
  rw [widened, andi_iff, ori_iff, slt_iff i v hi hv, eq_iff, ne_iff]
  have : BitVec.ofNat 32 i = 0#32 ↔ i = 0 := by
    rw [← BitVec.toNat_inj, toNat_ofNat_small i (by omega)]; simp
  rw [this]

/-- The row block of tile `i`: its own, and past the last filled tile the last filled one's. -/
theorem rowBlock (i : ℕ) (v : BitVec 32) (hi : i < 288) (h1 : 1 ≤ v.toNat) (hv : v.toNat ≤ 288) :
    (Scalar.minsi (BitVec.ofNat 32 i) (Scalar.subi v 1#32)).toNat = min i (v.toNat - 1) := by
  have e1 : (Scalar.subi v 1#32).toNat = v.toNat - 1 := by
    show (v - 1#32).toNat = _
    rw [BitVec.toNat_sub]; simp only [BitVec.toNat_ofNat]; omega
  have h1' := toInt_small (BitVec.ofNat 32 i) (by rw [toNat_ofNat_small i (by omega)]; omega)
  have h2' := toInt_small (Scalar.subi v 1#32) (by omega)
  rw [toNat_ofNat_small i (by omega)] at h1'
  show (if (BitVec.ofNat 32 i).slt (Scalar.subi v 1#32) then BitVec.ofNat 32 i else Scalar.subi v 1#32 : BitVec 32).toNat = _
  rw [BitVec.slt, h1', h2', e1]
  split
  · rename_i h
    rw [toNat_ofNat_small i (by omega)]
    have : i < v.toNat - 1 := by
      have := of_decide_eq_true h
      omega
    omega
  · rename_i h
    rw [e1]
    have : ¬ i < v.toNat - 1 := fun c => h (decide_eq_true (by omega))
    omega

theorem zero_add (v : BitVec 32) : (Scalar.addi 0#32 v) = v := BitVec.zero_add v

end Cert.Proof.TileWords

end
-- ==== Proof.ExpertFrame.lean ====
/-
  The expert kernel's frame, at any tables whose experts are in range and whose number of filled tiles is between one and
  all of them: the output's blocks are left unnamed.
-/
module

public import proofs.«01_k».proof.Proof.ExpertTables
public import proofs.«01_k».proof.Proof.Gen.Expert.Launch
public import Idealize.ShloMosaic.Lib.Pipeline.Quiescent
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Claim
public import Idealize.ShloMosaic.Lib.Tactic
public import Idealize.ShloMosaic.Adequacy
public import Idealize.ShloMosaic.Init

@[expose] public section

set_option maxRecDepth 16384
set_option Elab.async false

noncomputable section

namespace Cert.Proof.ExpertFrame

open Cert.Expert Cert.Expert.Gen Cert.Proof.ExpertTables
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's resources. -/
abbrev Res := MT nD τ sig Unit (Elt Bits) ℕ (UR sig nD τ) ℕ

variable (T0 : S288.Idx → BitVec 32) (T1 : S1.Idx → BitVec 32) (h : Good T0 T1)
variable (m : (ℓ : Loc nD τ sig) → Buf (Elt Bits) ℓ) (ρ : Dev nD → PrngReg)

/-- The tables as the pipeline's admissible contents, and the pipeline at them. -/
def adm : (pcfg0 (F := Bits)).Adm := ⟨tables T0 T1, ok T0 T1 h⟩
abbrev pipe : Pipeline.Cfg sig Λ₀ := cfg0 (F := Bits) (adm T0 T1 h)

abbrev crd (t : Fin (pipe T0 T1 h).N) : (pipe T0 T1 h).grid.Coords := (pipe T0 T1 h).grid.coords t

/-- Each window's staging memref at a point, whole. -/
abbrev stg0 (t : Fin (pipe T0 T1 h).N) : Memref sig .tc .vmem S256x1024 .f32 := spec0_0.stage ((pipe T0 T1 h).slots t (0 : Fin 6))
abbrev whole0 (t : Fin (pipe T0 T1 h).N) : (stg0 T0 T1 h t).IsWhole := hstage0_0 (((pipe T0 T1 h).slots t (0 : Fin 6)).cast nbuf0_0)
abbrev stg1 (t : Fin (pipe T0 T1 h).N) : Memref sig .tc .vmem S1x1024x2048 .f32 := spec0_1.stage ((pipe T0 T1 h).slots t (1 : Fin 6))
abbrev whole1 (t : Fin (pipe T0 T1 h).N) : (stg1 T0 T1 h t).IsWhole := hstage0_1 (((pipe T0 T1 h).slots t (1 : Fin 6)).cast nbuf0_1)
abbrev stg2 (t : Fin (pipe T0 T1 h).N) : Memref sig .tc .vmem S1x1x2048 .f32 := spec0_2.stage ((pipe T0 T1 h).slots t (2 : Fin 6))
abbrev whole2 (t : Fin (pipe T0 T1 h).N) : (stg2 T0 T1 h t).IsWhole := hstage0_2 (((pipe T0 T1 h).slots t (2 : Fin 6)).cast nbuf0_2)
abbrev stg3 (t : Fin (pipe T0 T1 h).N) : Memref sig .tc .vmem S1x1024x1024 .f32 := spec0_3.stage ((pipe T0 T1 h).slots t (3 : Fin 6))
abbrev whole3 (t : Fin (pipe T0 T1 h).N) : (stg3 T0 T1 h t).IsWhole := hstage0_3 (((pipe T0 T1 h).slots t (3 : Fin 6)).cast nbuf0_3)
abbrev stg4 (t : Fin (pipe T0 T1 h).N) : Memref sig .tc .vmem S1x1x1024 .f32 := spec0_4.stage ((pipe T0 T1 h).slots t (4 : Fin 6))
abbrev whole4 (t : Fin (pipe T0 T1 h).N) : (stg4 T0 T1 h t).IsWhole := hstage0_4 (((pipe T0 T1 h).slots t (4 : Fin 6)).cast nbuf0_4)
abbrev stg5 (t : Fin (pipe T0 T1 h).N) : Memref sig .tc .vmem S256x1024 .f32 := spec0_5.stage ((pipe T0 T1 h).slots t (5 : Fin 6))
abbrev whole5 (t : Fin (pipe T0 T1 h).N) : (stg5 T0 T1 h t).IsWhole := hstage0_5 (((pipe T0 T1 h).slots t (5 : Fin 6)).cast nbuf0_5)

/-- Window `w`'s block at point `t`, of its array at launch. -/
def block (c : Dev nD) (w : Fin (pipe T0 T1 h).W) (t : Fin (pipe T0 T1 h).N) :
    (((pipe T0 T1 h).win w).xblock (crd T0 T1 h t)).Idx → Elt Bits ((pipe T0 T1 h).win w).elt :=
  (((pipe T0 T1 h).win w).blk t).view.read (Elt Bits) ((s₀ m ρ).mem (((pipe T0 T1 h).win w).arr.view.loc (c : Thread nD τ)))

/-- The invariant: the scratches at anything, the tables at their words. -/
def inv (c : Dev nD) : sProp Res :=
  iprop(Pipeline.ΦA (U := UR sig nD τ) (Val := Elt Bits) spec0 c ∗ Pipeline.ΦT (U := UR sig nD τ) pre0 (tables T0 T1) c)

/-- The proof data: each input's block of its array, the output unnamed. -/
def dats (_ : Fin 1) (c : Dev nD) : Dat τ (Elt Bits) Unit ℕ (UR sig nD τ) ℕ (pipe T0 T1 h) c where
  A w := (s₀ m ρ).mem (((pipe T0 T1 h).win w).arr.view.loc (c : Thread nD τ))
  after w t := match w with
    | ⟨0, _⟩ => block T0 T1 h m ρ c (0 : Fin 6) t
    | ⟨1, _⟩ => block T0 T1 h m ρ c (1 : Fin 6) t
    | ⟨2, _⟩ => block T0 T1 h m ρ c (2 : Fin 6) t
    | ⟨3, _⟩ => block T0 T1 h m ρ c (3 : Fin 6) t
    | ⟨4, _⟩ => block T0 T1 h m ρ c (4 : Fin 6) t
    | ⟨5, _⟩ => block T0 T1 h m ρ c (5 : Fin 6) t
  Φ t := inv T0 T1 c
  q _ := fullShare
  owed _ := 0

/-- The windows whose blocks are left unnamed: the output. -/
def unnamed : Fin 6 → Bool := fun | 5 => true | _ => false

theorem before0 (c : Dev nD) (t : Fin (pipe T0 T1 h).N) (d) : (dats T0 T1 h m ρ 0 c).before (0 : Fin 6) t d = block T0 T1 h m ρ c (0 : Fin 6) t :=
  ((dats T0 T1 h m ρ 0 c).before_in_eq_fetched (0 : Fin 6) rfl (fun _ => rfl) (fun _ _ _ => rfl) (fun t => by unfold Dat.blockOf; rfl) t d).trans
    (by unfold Dat.fetched Dat.blockOf block; rfl)
theorem before1 (c : Dev nD) (t : Fin (pipe T0 T1 h).N) (d) : (dats T0 T1 h m ρ 0 c).before (1 : Fin 6) t d = block T0 T1 h m ρ c (1 : Fin 6) t :=
  ((dats T0 T1 h m ρ 0 c).before_in_eq_fetched (1 : Fin 6) rfl (fun _ => rfl) (fun _ _ _ => rfl) (fun t => by unfold Dat.blockOf; rfl) t d).trans
    (by unfold Dat.fetched Dat.blockOf block; rfl)
theorem before2 (c : Dev nD) (t : Fin (pipe T0 T1 h).N) (d) : (dats T0 T1 h m ρ 0 c).before (2 : Fin 6) t d = block T0 T1 h m ρ c (2 : Fin 6) t :=
  ((dats T0 T1 h m ρ 0 c).before_in_eq_fetched (2 : Fin 6) rfl (fun _ => rfl) (fun _ _ _ => rfl) (fun t => by unfold Dat.blockOf; rfl) t d).trans
    (by unfold Dat.fetched Dat.blockOf block; rfl)
theorem before3 (c : Dev nD) (t : Fin (pipe T0 T1 h).N) (d) : (dats T0 T1 h m ρ 0 c).before (3 : Fin 6) t d = block T0 T1 h m ρ c (3 : Fin 6) t :=
  ((dats T0 T1 h m ρ 0 c).before_in_eq_fetched (3 : Fin 6) rfl (fun _ => rfl) (fun _ _ _ => rfl) (fun t => by unfold Dat.blockOf; rfl) t d).trans
    (by unfold Dat.fetched Dat.blockOf block; rfl)
theorem before4 (c : Dev nD) (t : Fin (pipe T0 T1 h).N) (d) : (dats T0 T1 h m ρ 0 c).before (4 : Fin 6) t d = block T0 T1 h m ρ c (4 : Fin 6) t :=
  ((dats T0 T1 h m ρ 0 c).before_in_eq_fetched (4 : Fin 6) rfl (fun _ => rfl) (fun _ _ _ => rfl) (fun t => by unfold Dat.blockOf; rfl) t d).trans
    (by unfold Dat.fetched Dat.blockOf block; rfl)

/-- The tables as the body is handed them, one by one. -/
theorem tables_held (c : Dev nD) (q : Fin 2 → PosShare TreeShare) (v : pre0.Contents (Elt Bits)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body at point `t`. -/
abbrev bodyAt (t : Fin (pipe T0 T1 h).N) : Prog (TpuEff nD τ sig (Elt Bits) Λ₀ .tc) PUnit :=
  cc0_expert_mlp (crd T0 T1 h t) tbM0_0 (Memref.isWhole_whole _) tbM0_1 (Memref.isWhole_whole _) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) scM0_0 (Memref.isWhole_whole _) scM0_1 (Memref.isWhole_whole _)

/-- What the body is handed and hands back at point `t`, beside the debts. -/
def held (c : Dev nD) (t : Fin (pipe T0 T1 h).N) : sProp Res :=
  iprop(owns (c : Thread nD τ) (stg0 T0 T1 h t) fullShare (block T0 T1 h m ρ c (0 : Fin 6) t)
    ∗ owns (c : Thread nD τ) (stg1 T0 T1 h t) fullShare (block T0 T1 h m ρ c (1 : Fin 6) t)
    ∗ owns (c : Thread nD τ) (stg2 T0 T1 h t) fullShare (block T0 T1 h m ρ c (2 : Fin 6) t)
    ∗ owns (c : Thread nD τ) (stg3 T0 T1 h t) fullShare (block T0 T1 h m ρ c (3 : Fin 6) t)
    ∗ owns (c : Thread nD τ) (stg4 T0 T1 h t) fullShare (block T0 T1 h m ρ c (4 : Fin 6) t)
    ∗ (∃ X, owns (c : Thread nD τ) (stg5 T0 T1 h t) fullShare X))

set_option maxHeartbeats 4000000 in
/-- The body keeps what it is handed, whichever way its tests go. -/
theorem body_keeps (c : Dev nD) (t : Fin (pipe T0 T1 h).N) (O : sProp Res) :
    iprop(inv T0 T1 c ∗ O ∗ held T0 T1 h m ρ c t)
      ⊢ wp frame (wpE (defs₀ (F := Bits)) Variants.none c none) Set.univ (bodyAt T0 T1 h t) fun _ =>
          iprop(inv T0 T1 c ∗ O ∗ held T0 T1 h m ρ c t) := by
  unfold inv held Pipeline.ΦA Pipeline.ΦT
  rw [tables_held, scopedRest0_eq]
  by_cases q0 : Takes T0 T1 (crd T0 T1 h t)
  · have q1 : Computes T1 (crd T0 T1 h t) := computes_of_takes T0 T1 h _ q0
    iintro ⟨⟨⟨⟨⟨%a0, HS0⟩, ⟨%a1, HS1⟩⟩, Hr⟩, HT0, HT1⟩, Ho, H0, H1, H2, H3, H4, H5⟩
    iapply ((kernelRun0_A c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) q0 q1).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexact H5
    isplitl [HS0]; · iexact HS0
    isplitl [HS1]; · iexact HS1
    iintro ⟨H0, H1, H2, H3, H4, HT0, HT1, ⟨%e5, H5⟩, HS0, HS1⟩
    isplitl [HS0 HS1 HT0 HT1 Hr]
    · isplitl [HS0 HS1 Hr]
      · isplitl [HS0 HS1]
        · isplitl [HS0]
          · iexists _; iexact HS0
          iexists _; iexact HS1
        iexact Hr
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; iexists _; isplitr; swap
    · iexact H5
    · ipureintro; rfl
  · by_cases q1 : Computes T1 (crd T0 T1 h t)
    · iintro ⟨⟨⟨⟨⟨%a0, HS0⟩, ⟨%a1, HS1⟩⟩, Hr⟩, HT0, HT1⟩, Ho, H0, H1, H2, H3, H4, H5⟩
      iapply ((kernelRun0_B c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) a0 a1 q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, ⟨%e5, H5⟩, HS0, HS1⟩
      isplitl [HS0 HS1 HT0 HT1 Hr]
      · isplitl [HS0 HS1 Hr]
        · isplitl [HS0 HS1]
          · isplitl [HS0]
            · iexists _; iexact HS0
            iexists _; iexact HS1
          iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      unfold owns; iexists _; iexists _; isplitr; swap
      · iexact H5
      · ipureintro; rfl
    · iintro ⟨⟨⟨⟨⟨%a0, HS0⟩, ⟨%a1, HS1⟩⟩, Hr⟩, HT0, HT1⟩, Ho, H0, H1, H2, H3, H4, ⟨%X, H5⟩⟩
      iapply ((kernelRun0_C c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) a0 a1 q0 q1).2.2 X _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1 Hr]
      · isplitl [HS0 HS1 Hr]
        · isplitl [HS0 HS1]
          · isplitl [HS0]
            · iexists _; iexact HS0
            iexists _; iexact HS1
          iexact Hr
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      iexists X; iexact H5

set_option maxHeartbeats 4000000 in
/-- The library's obligation on the body. -/
theorem obligation (c : Dev nD) :
    BodyObligationLoose (dats T0 T1 h m ρ 0 c) (defs₀ (F := Bits)) Variants.none () Set.univ unnamed := fun t => by
  rw [bigSep_W0]
  rw [bigSep_W0]
  refine BIBase.Entails.trans ?_ (BIBase.Entails.trans (body_keeps T0 T1 h m ρ c t ((dats T0 T1 h m ρ 0 c).owesAt () t.castSucc)) ?_)
  · unfold held
    simp only [before0, before1, before2, before3, before4]
    rw [show (dats T0 T1 h m ρ 0 c).Φ t.castSucc = inv T0 T1 c from rfl, show unnamed 0 = false from rfl,
      show unnamed 1 = false from rfl, show unnamed 2 = false from rfl, show unnamed 3 = false from rfl,
      show unnamed 4 = false from rfl, show unnamed 5 = true from rfl]
    iintro ⟨HΦ, Ho, ⟨%d0, H0⟩, ⟨%d1, H1⟩, ⟨%d2, H2⟩, ⟨%d3, H3⟩, ⟨%d4, H4⟩, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · exact .rfl

theorem share_full (c : Dev nD) (w : Fin (pipe T0 T1 h).W) : (dats T0 T1 h m ρ 0 c).share w = fullShare := by
  unfold Dat.share; split <;> rfl

include h in
set_option backward.isDefEq.respectTransparency.types false in
set_option maxHeartbeats 4000000 in
/-- From any memory whose tables are good the kernel faults nowhere, ends quiescent, and leaves its arguments as they were. -/
theorem frame (hT0 : ∀ c : Dev nD, m ((c : Thread nD τ).loc main_arg0) = T0) (hT1 : ∀ c : Dev nD, m ((c : Thread nD τ).loc main_arg1) = T1) :
    θ_run (defs (F := Bits)) (onTc (τ := τ) (main (F := Bits))) ⟨m, fun _ => 0, ρ⟩ (fun r =>
      (∀ c : Dev nD,
        r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0) := by
  refine Pipeline.θ_run_frameP_forget (pcs := pcfgs (F := Bits)) (a := fun _ => adm T0 T1 h) (dats := dats T0 T1 h m ρ) (p := 0)
    (kit := launch0) (defs₀ := defs₀) (𝒱₀ := Variants.none) (fgt := unnamed) (m := m) (g := ρ) (main := main)
    (hbody := obligation T0 T1 h m ρ)
    (hshare := fun c w => share_full T0 T1 h m ρ c w)
    (howed := fun _ _ => rfl)
    (V := fun c b => m ((c : Thread nD τ).loc b))
    (hmain := Pipeline.hmainP_region _ _ _ _ _ _ fun _ => rfl)
    (hA := fun _ _ => rfl)
    (Q' := _) (hpf := ?_) (hΦ := fun _ _ => rfl) (hQ' := ?_)
  · intro c k
    match k with
    | ⟨0, _⟩ => exact hT0 c
    | ⟨1, _⟩ => exact hT1 c
  · rintro r ⟨hr, hs⟩
    refine ⟨fun c => ⟨(hr c).2 main_arg0 (show main_arg0 ∈ Pipeline.restRefs sig spec0 by decide), (hr c).2 main_arg1 (show main_arg1 ∈ Pipeline.restRefs sig spec0 by decide), ?_, ?_, ?_, ?_, ?_⟩, hs⟩
    · exact Pipeline.RDat.FramePost.arr_in hr c (0 : Fin 6) rfl
    · exact Pipeline.RDat.FramePost.arr_in hr c (1 : Fin 6) rfl
    · exact Pipeline.RDat.FramePost.arr_in hr c (2 : Fin 6) rfl
    · exact Pipeline.RDat.FramePost.arr_in hr c (3 : Fin 6) rfl
    · exact Pipeline.RDat.FramePost.arr_in hr c (4 : Fin 6) rfl

end Cert.Proof.ExpertFrame

end
-- ==== Proof.ExpertIdealTables.lean ====
/-
  The expert kernel's two tables: what its index maps and its tests read of them.
-/
module

public import proofs.«01_k».proof.Proof.Gen.Expert
public import proofs.«01_k».proof.Proof.Gen.ExpertIdeal.Flash.Runs
public import proofs.«01_k».proof.Proof.TileWords
public import Idealize.ShloMosaic.Lib.Pointwise

@[expose] public section

set_option maxRecDepth 16384

noncomputable section

namespace Cert.Proof.ExpertIdealTables

open Idealize.ShloMosaic Cert.ExpertIdeal Cert.ExpertIdeal.Gen

variable (T0 : S288.Idx → BitVec 32) (T1 : S1.Idx → BitVec 32)

/-- The experts' table and the number of filled tiles, as the call's prefetched contents. -/
def tables : pre0.Contents (Elt Ideal) := fun | ⟨0, _⟩ => T0 | ⟨1, _⟩ => T1 | ⟨_ + 2, h⟩ => absurd h (by simp)

/-- The number of filled tiles. -/
def filled : ℕ := (T1 (ix1 0)).toNat

/-- The expert of tile `i`. -/
def expert (i : Fin 288) : ℕ := (T0 (ix1 i)).toNat

/-- Every tile's expert is one of the 128, and between one and all of the tiles are filled. -/
structure Good : Prop where
  expert : ∀ i, expert T0 i < 128
  pos : 1 ≤ filled T1
  le : filled T1 ≤ 288

theorem only (x y : S1.Idx) : x = y := funext fun a => match a with
  | ⟨0, _⟩ => Fin.ext (by have := (x 0).isLt; have := (y 0).isLt; simp at *; omega)

theorem place (i : grid0.Coords) : (BitVec.ofNat 32 (i 0).val).toNat = (i 0).val := by
  have h : (i 0).val < 288 := (i 0).isLt
  exact TileWords.toNat_ofNat_small _ (by omega)

/-- The tile before, the first tile's being itself. -/
theorem place_before (i : grid0.Coords) :
    (Scalar.maxsi (Scalar.subi (BitVec.ofNat 32 (i 0).val) 1#32) 0#32).toNat = (i 0).val - 1 := by
  have h : ∀ n : Fin 288, (Scalar.maxsi (Scalar.subi (BitVec.ofNat 32 n.val) 1#32) 0#32).toNat = n.val - 1 := by decide +kernel
  exact h (i 0)

theorem at_filled : (tables T0 T1).at 1 (Rect.unit (s := S1) ![0] S1.size inb_S1_S1_0) numel1_S1 = T1 (ix1 0) :=
  congrArg T1 (only _ _)

theorem atD_filled : (tables T0 T1).atD 1 ![0] = T1 (ix1 0) := by
  unfold Pipeline.Prefetch.Contents.atD
  split
  · exact congrArg T1 (only _ _)
  · rename_i h
    exact absurd (fun a => by match a with | ⟨0, _⟩ => exact Nat.le_refl 1) h

theorem at_expert (i : grid0.Coords) :
    (tables T0 T1).at 0 (Rect.unit (s := S288) (k0_off1 i) S1.size (k0_off1_inb i)) numel1_S1 = T0 (ix1 (i 0)) := by
  refine congrArg T0 (funext fun a => Fin.ext ?_)
  match a with
  | ⟨0, _⟩ =>
    show (k0_off1 i) 0 + _ = (i 0).val
    exact (place i)

theorem transform_0 (h : Good T0 T1) (i : grid0.Coords) :
    cc0_transform_0 inb_S1_S1_0 numel1_S1 (tables T0 T1) i = ![min (i 0).val (filled T1 - 1), 0] := by
  unfold cc0_transform_0
  dsimp only
  rw [at_filled, TileWords.rowBlock _ _ (i 0).isLt h.pos h.le]
  rfl

theorem transform_5 (h : Good T0 T1) (i : grid0.Coords) :
    cc0_transform_5 inb_S1_S1_0 numel1_S1 (tables T0 T1) i = ![min (i 0).val (filled T1 - 1), 0] :=
  transform_0 T0 T1 h i

theorem transform_1 (i : grid0.Coords) :
    cc0_transform_1 k0_off1_inb numel1_S1 (tables T0 T1) i = ![expert T0 (i 0), 0, 0] := by
  unfold cc0_transform_1
  dsimp only
  erw [at_expert, TileWords.zero_add]
  rfl

theorem transform_2 (i : grid0.Coords) :
    cc0_transform_2 k0_off1_inb numel1_S1 (tables T0 T1) i = ![expert T0 (i 0), 0, 0] := transform_1 T0 T1 i
theorem transform_3 (i : grid0.Coords) :
    cc0_transform_3 k0_off1_inb numel1_S1 (tables T0 T1) i = ![expert T0 (i 0), 0, 0] := transform_1 T0 T1 i
theorem transform_4 (i : grid0.Coords) :
    cc0_transform_4 k0_off1_inb numel1_S1 (tables T0 T1) i = ![expert T0 (i 0), 0, 0] := transform_1 T0 T1 i

/-- A row block lies in the rows. -/
theorem rows_inside (h : Good T0 T1) (i : grid0.Coords) :
    ∀ a, ((![min (i 0).val (filled T1 - 1), 0] : Fin 2 → ℕ) a + 1) * S256x1024.size a ≤ S73728x1024.size a := fun a =>
  match a with
  | ⟨0, _⟩ => by
    have h1 := h.le
    show (min (i 0).val (filled T1 - 1) + 1) * 256 ≤ 73728
    omega
  | ⟨1, _⟩ => Nat.le_refl 1024

/-- The blocks of every window lie in its array. -/
theorem ok (h : Good T0 T1) : ok0 (F := Ideal) (tables T0 T1) :=
  ⟨fun i => ⟨by rw [transform_0 T0 T1 h]; exact rows_inside T0 T1 h i, .inl rfl⟩,
   fun i => ⟨by
      rw [transform_1]; have he := h.expert (i 0)
      exact fun a => match a with
        | ⟨0, _⟩ => by show (expert T0 (i 0) + 1) * 1 ≤ 128; omega
        | ⟨1, _⟩ => Nat.le_refl 1024
        | ⟨2, _⟩ => Nat.le_refl 2048, .inl rfl⟩,
   fun i => ⟨by
      rw [transform_2]; have he := h.expert (i 0)
      exact fun a => match a with
        | ⟨0, _⟩ => by show (expert T0 (i 0) + 1) * 1 ≤ 128; omega
        | ⟨1, _⟩ => Nat.le_refl 1
        | ⟨2, _⟩ => Nat.le_refl 2048, .inl rfl⟩,
   fun i => ⟨by
      rw [transform_3]; have he := h.expert (i 0)
      exact fun a => match a with
        | ⟨0, _⟩ => by show (expert T0 (i 0) + 1) * 1 ≤ 128; omega
        | ⟨1, _⟩ => Nat.le_refl 1024
        | ⟨2, _⟩ => Nat.le_refl 1024, .inl rfl⟩,
   fun i => ⟨by
      rw [transform_4]; have he := h.expert (i 0)
      exact fun a => match a with
        | ⟨0, _⟩ => by show (expert T0 (i 0) + 1) * 1 ≤ 128; omega
        | ⟨1, _⟩ => Nat.le_refl 1
        | ⟨2, _⟩ => Nat.le_refl 1024, .inl rfl⟩,
   fun i => ⟨by rw [transform_5 T0 T1 h]; exact rows_inside T0 T1 h i, .inl rfl⟩⟩

/-! ## The words the body reads -/

/-- The word of the number of filled tiles. -/
abbrev wordFilled : BitVec 32 :=
  View.readAt (Elt Ideal) (tbM0_1).view (Rect.unit (s := S1) ![0] S1.size inb_S1_S1_0).toLoadRect T1 (Shape.Idx.first (numel1_S1.symm ▸ Nat.one_pos))

/-- The word of a tile's expert, and of the tile before's. -/
abbrev wordExpert (i : grid0.Coords) : BitVec 32 :=
  View.readAt (Elt Ideal) (tbM0_0).view (Rect.unit (s := S288) (k0_off1 i) S1.size (k0_off1_inb i)).toLoadRect T0 (Shape.Idx.first (numel1_S1.symm ▸ Nat.one_pos))
abbrev wordBefore (i : grid0.Coords) : BitVec 32 :=
  View.readAt (Elt Ideal) (tbM0_0).view (Rect.unit (s := S288) (k0_off2 i) S1.size (k0_off2_inb i)).toLoadRect T0 (Shape.Idx.first (numel1_S1.symm ▸ Nat.one_pos))

theorem wordFilled_eq : wordFilled T1 = T1 (ix1 0) := congrArg T1 (only _ _)

theorem wordExpert_eq (i : grid0.Coords) : wordExpert T0 i = T0 (ix1 (i 0)) := by
  refine congrArg T0 (funext fun a => Fin.ext ?_)
  match a with
  | ⟨0, _⟩ => exact (place i)

theorem wordBefore_eq (i : grid0.Coords) :
    wordBefore T0 i = T0 (ix1 ⟨(i 0).val - 1, Nat.lt_of_le_of_lt (Nat.sub_le _ _) (i 0).isLt⟩) := by
  refine congrArg T0 (funext fun a => Fin.ext ?_)
  match a with
  | ⟨0, _⟩ => exact (place_before i)

/-- The test for taking an expert's weights: tile `i` is filled, and the first or of another expert than the one before. -/
abbrev Takes (i : grid0.Coords) : Prop :=
  Scalar.cmpi .ne (Scalar.extui (Scalar.andi (Scalar.cmpi .slt (BitVec.ofNat 32 (i 0).val) (wordFilled T1))
    (Scalar.ori (Scalar.cmpi .eq (BitVec.ofNat 32 (i 0).val) 0#32) (Scalar.cmpi .ne (wordExpert T0 i) (wordBefore T0 i))))) 0#32 = 1#1

/-- The test for computing: tile `i` is filled. -/
abbrev Computes (i : grid0.Coords) : Prop := k0_cond2 i (wordFilled T1) = 1#1

theorem computes_iff (h : Good T0 T1) (i : grid0.Coords) : Computes T1 i ↔ (i 0).val < filled T1 := by
  show k0_cond2 i (wordFilled T1) = 1#1 ↔ _
  rw [wordFilled_eq]
  exact TileWords.filled_iff _ _ (i 0).isLt h.le

theorem takes_iff (h : Good T0 T1) (i : grid0.Coords) :
    Takes T0 T1 i ↔ (i 0).val < filled T1 ∧ ((i 0).val = 0 ∨
      T0 (ix1 (i 0)) ≠ T0 (ix1 ⟨(i 0).val - 1, Nat.lt_of_le_of_lt (Nat.sub_le _ _) (i 0).isLt⟩)) := by
  unfold Takes
  rw [wordFilled_eq, wordExpert_eq, wordBefore_eq]
  exact TileWords.fresh_iff _ _ _ _ (i 0).isLt h.le

theorem computes_of_takes (h : Good T0 T1) (i : grid0.Coords) (ht : Takes T0 T1 i) : Computes T1 i :=
  (computes_iff T0 T1 h i).2 ((takes_iff T0 T1 h i).1 ht).1

end Cert.Proof.ExpertIdealTables

end
-- ==== Proof.ExpertTile.lean ====
/-
  What the expert kernel's body leaves at one tile: the two scratches hold the expert's weights, the output's block the MLP
  of the tile's rows.
-/
module

public import proofs.«01_k».proof.Proof.ExpertIdealTables
public import Idealize.ShloMosaic.Lib.Pointwise
public import Idealize.ShloMosaic.Lib.Pipeline.ValueKit
public import Idealize.ShloMosaic.Lib.Pipeline.ReadBack
public import Idealize.ShloMosaic.Lib.Pipeline.ValueKit.Tiles

@[expose] public section

set_option maxRecDepth 16384
set_option Elab.async false

noncomputable section

namespace Cert.Proof.ExpertTile

open Cert.ExpertIdeal Cert.ExpertIdeal.Gen Cert.Proof.ExpertIdealTables
open Idealize.ShloMosaic
open Idealize.ShloMosaic.TcCoe

/-! ## The weights in the scratches -/

/-- An expert's first and second weights, as the scratches hold them. -/
def first (x : S1x1024x2048.Idx → EReal) : S1024x2048.Idx → EReal := fun j => x (ix3 0 (j 0) (j 1))
def second (x : S1x1024x1024.Idx → EReal) : S1024x1024.Idx → EReal := fun j => x (ix3 0 (j 0) (j 1))

/-- Stores to a whole buffer that held anything, as the buffer's contents. -/
theorem stores_whole {κ : Kind} (b : Ref sig κ) (L : List (View.Piece (Elt Ideal) b.ty.shape b.ty.elt)) :
    (View.whole b).writes (Elt Ideal) (View.whole b).junk L = View.canon L :=
  (View.read_whole b _).symm.trans (View.read_writes_junk_eq_canon (View.whole b) L)

theorem pay1 (v : S1x128x2048.Idx → EReal) (x : S128x2048.Idx) : k0_pay1 (F := Ideal) v x = v (ix3 0 (x 0) (x 1)) := by
  pointwise [k0_pay1]
theorem pay2 (v : S1x128x1024.Idx → EReal) (x : S128x1024.Idx) : k0_pay2 (F := Ideal) v x = v (ix3 0 (x 0) (x 1)) := by
  pointwise [k0_pay2]

variable (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S288.Idx → Elt Ideal .i32)) (T1 : (S1.Idx → Elt Ideal .i32))
     (x0 : (S256x1024.Idx → Elt Ideal .f32)) (x1 : (S1x1024x2048.Idx → Elt Ideal .f32)) (x2 : (S1x1x2048.Idx → Elt Ideal .f32)) (x3 : (S1x1024x1024.Idx → Elt Ideal .f32)) (x4 : (S1x1x1024.Idx → Elt Ideal .f32))

/-- One trip's 128 rows of the weights. -/
theorem copied1 (x : S1x1024x2048.Idx → EReal) (o : ℕ) (inb : ∀ a, (![0, o, 0] : Fin 3 → ℕ) a + S1x128x2048.size a ≤ S1x1024x2048.size a)
    (j : S1024x2048.Idx) (y : S128x2048.Idx) (h0 : (j 0).val = o + (y 0).val) (h1 : (j 1).val = (y 1).val) :
    k0_pay1 (F := Ideal) (arg4.view.readAt (Elt Ideal) (Rect.unit (s := S1x1024x2048) ![0, o, 0] S1x128x2048.size inb).toLoadRect (arg4.view.rep x)) y
      = first x j := by
  rw [pay1, View.readAt_rep]
  refine congrArg x (funext fun a => Fin.ext ?_)
  match a with
  | ⟨0, _⟩ => rfl
  | ⟨1, _⟩ => show o + 1 * (y 0).val = (j 0).val; omega
  | ⟨2, _⟩ => show 0 + 1 * (y 1).val = (j 1).val; omega

theorem copied2 (x : S1x1024x1024.Idx → EReal) (o : ℕ) (inb : ∀ a, (![0, o, 0] : Fin 3 → ℕ) a + S1x128x1024.size a ≤ S1x1024x1024.size a)
    (j : S1024x1024.Idx) (y : S128x1024.Idx) (h0 : (j 0).val = o + (y 0).val) (h1 : (j 1).val = (y 1).val) :
    k0_pay2 (F := Ideal) (arg6.view.readAt (Elt Ideal) (Rect.unit (s := S1x1024x1024) ![0, o, 0] S1x128x1024.size inb).toLoadRect (arg6.view.rep x)) y
      = second x j := by
  rw [pay2, View.readAt_rep]
  refine congrArg x (funext fun a => Fin.ext ?_)
  match a with
  | ⟨0, _⟩ => rfl
  | ⟨1, _⟩ => show o + 1 * (y 0).val = (j 0).val; omega
  | ⟨2, _⟩ => show 0 + 1 * (y 1).val = (j 1).val; omega

/-- The eight trips' stores are the weights. -/
theorem stored1 (x : S1x1024x2048.Idx → EReal) : View.canon (kernelRun0_A.sl.HS0_8 arg4 x) = first x := by
  funext j
  unfold kernelRun0_A.sl.HS0_8
  canon_tiles x h
  · exact copied1 arg4 _ 896 _ j x h0 h1
  · exact copied1 arg4 _ 768 _ j x h0 h1
  · exact copied1 arg4 _ 640 _ j x h0 h1
  · exact copied1 arg4 _ 512 _ j x h0 h1
  · exact copied1 arg4 _ 384 _ j x h0 h1
  · exact copied1 arg4 _ 256 _ j x h0 h1
  · exact copied1 arg4 _ 128 _ j x h0 h1
  · exact copied1 arg4 _ 0 _ j x (h0.trans (Nat.zero_add _).symm) h1

theorem stored2 (x : S1x1024x1024.Idx → EReal) : View.canon (kernelRun0_A.sl.HS1_8 arg6 x) = second x := by
  funext j
  unfold kernelRun0_A.sl.HS1_8
  canon_tiles x h
  · exact copied2 arg6 _ 896 _ j x h0 h1
  · exact copied2 arg6 _ 768 _ j x h0 h1
  · exact copied2 arg6 _ 640 _ j x h0 h1
  · exact copied2 arg6 _ 512 _ j x h0 h1
  · exact copied2 arg6 _ 384 _ j x h0 h1
  · exact copied2 arg6 _ 256 _ j x h0 h1
  · exact copied2 arg6 _ 128 _ j x h0 h1
  · exact copied2 arg6 _ 0 _ j x (h0.trans (Nat.zero_add _).symm) h1

/-! ## A tile that takes its expert's weights -/

theorem taken1 (q0 : Takes T0 T1 i) (q1 : Computes T1 i) :
    (kernelRun0_A c i arg3 harg3 arg4 harg4 arg5 harg5 arg6 harg6 arg7 harg7 arg8 harg8 T0 T1 x0 x1 x2 x3 x4 q0 q1).2.1 = first x1 := by
  unfold kernelRun0_A
  dsimp only
  refine (stores_whole cc0_scratch0 _).trans (funext fun j => ?_)
  exact congrFun (stored1 arg4 x1) j

theorem taken2 (q0 : Takes T0 T1 i) (q1 : Computes T1 i) :
    (kernelRun0_A c i arg3 harg3 arg4 harg4 arg5 harg5 arg6 harg6 arg7 harg7 arg8 harg8 T0 T1 x0 x1 x2 x3 x4 q0 q1).2.2.1 = second x3 := by
  unfold kernelRun0_A
  dsimp only
  refine (stores_whole cc0_scratch1 _).trans (funext fun j => ?_)
  exact congrFun (stored2 arg6 x3) j

/-- The weights read back whole. -/
theorem loaded1 : kernelRun0_A.sl.v20 arg4 x1 = first x1 := by
  unfold kernelRun0_A.sl.v20
  rw [View.readCov_eq_canon', stored1]
  funext j
  refine congrArg (first x1) (funext fun a => Fin.ext ?_)
  match a with
  | ⟨0, _⟩ => show 0 + 1 * (j 0).val = (j 0).val; omega
  | ⟨1, _⟩ => show 0 + 1 * (j 1).val = (j 1).val; omega

theorem loaded2 : kernelRun0_A.sl.v42 arg6 x3 = second x3 := by
  unfold kernelRun0_A.sl.v42
  rw [View.readCov_eq_canon', stored2]
  funext j
  refine congrArg (second x3) (funext fun a => Fin.ext ?_)
  match a with
  | ⟨0, _⟩ => show 0 + 1 * (j 0).val = (j 0).val; omega
  | ⟨1, _⟩ => show 0 + 1 * (j 1).val = (j 1).val; omega

theorem out_taken (q0 : Takes T0 T1 i) (q1 : Computes T1 i) :
    out0_A_5 c i arg3 harg3 arg4 harg4 arg5 harg5 arg6 harg6 arg7 harg7 arg8 harg8 T0 T1 x0 x1 x2 x3 x4 q0 q1
      = k0_pay3 x0 (first x1) x2 (second x3) x4 := by
  unfold out0_A_5 kernelRun0_A
  dsimp only
  clear q0 q1
  unfold kernelRun0_A.sl.HO5_1
  rw [View.read_writes_junk_eq_canon, loaded1, loaded2]
  frame_out
  rw [View.read_rep, View.read_rep, View.read_rep]

/-! ## A tile of the expert before -/

theorem kept1 (a0 : Buf (Elt Ideal) ((c : Thread nD τ).loc cc0_scratch0)) (a1 : Buf (Elt Ideal) ((c : Thread nD τ).loc cc0_scratch1))
    (q0 : ¬ Takes T0 T1 i) (q1 : Computes T1 i) :
    (kernelRun0_B c i arg3 harg3 arg4 harg4 arg5 harg5 arg6 harg6 arg7 harg7 arg8 harg8 T0 T1 x0 x1 x2 x3 x4 a0 a1 q0 q1).2.1 = a0 := rfl
theorem kept2 (a0 : Buf (Elt Ideal) ((c : Thread nD τ).loc cc0_scratch0)) (a1 : Buf (Elt Ideal) ((c : Thread nD τ).loc cc0_scratch1))
    (q0 : ¬ Takes T0 T1 i) (q1 : Computes T1 i) :
    (kernelRun0_B c i arg3 harg3 arg4 harg4 arg5 harg5 arg6 harg6 arg7 harg7 arg8 harg8 T0 T1 x0 x1 x2 x3 x4 a0 a1 q0 q1).2.2.1 = a1 := rfl

theorem out_kept (a0 : Buf (Elt Ideal) ((c : Thread nD τ).loc cc0_scratch0)) (a1 : Buf (Elt Ideal) ((c : Thread nD τ).loc cc0_scratch1))
    (q0 : ¬ Takes T0 T1 i) (q1 : Computes T1 i) :
    out0_B_5 c i arg3 harg3 arg4 harg4 arg5 harg5 arg6 harg6 arg7 harg7 arg8 harg8 T0 T1 x0 x1 x2 x3 x4 a0 a1 q0 q1 = k0_pay3 x0 a0 x2 a1 x4 := by
  unfold out0_B_5 kernelRun0_B
  dsimp only
  clear q0 q1
  frame_out
  rw [View.read_rep, View.read_rep, View.read_rep]
  rfl

/-! ## A tile that is not filled -/

theorem left1 (a0 : Buf (Elt Ideal) ((c : Thread nD τ).loc cc0_scratch0)) (a1 : Buf (Elt Ideal) ((c : Thread nD τ).loc cc0_scratch1))
    (q0 : ¬ Takes T0 T1 i) (q1 : ¬ Computes T1 i) :
    (kernelRun0_C c i arg3 harg3 arg4 harg4 arg5 harg5 arg6 harg6 arg7 harg7 arg8 harg8 T0 T1 x0 x1 x2 x3 x4 a0 a1 q0 q1).1 = a0 := rfl
theorem left2 (a0 : Buf (Elt Ideal) ((c : Thread nD τ).loc cc0_scratch0)) (a1 : Buf (Elt Ideal) ((c : Thread nD τ).loc cc0_scratch1))
    (q0 : ¬ Takes T0 T1 i) (q1 : ¬ Computes T1 i) :
    (kernelRun0_C c i arg3 harg3 arg4 harg4 arg5 harg5 arg6 harg6 arg7 harg7 arg8 harg8 T0 T1 x0 x1 x2 x3 x4 a0 a1 q0 q1).2.1 = a1 := rfl

end Cert.Proof.ExpertTile

end
-- ==== Proof.ExpertRun.lean ====
/-
  The expert kernel's run at any good tables: the scratches hold the weights of the expert of the last filled tile met, the
  output's block the MLP of that tile's rows.
-/
module

public import proofs.«01_k».proof.Proof.ExpertTile
public import proofs.«01_k».proof.Proof.Gen.ExpertIdeal.Launch
public import Idealize.ShloMosaic.Lib.Pipeline.Quiescent
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Claim
public import Idealize.ShloMosaic.Lib.Tactic
public import Idealize.ShloMosaic.Adequacy
public import Idealize.ShloMosaic.Init

@[expose] public section

set_option maxRecDepth 16384
set_option Elab.async false

noncomputable section

namespace Cert.Proof.ExpertRun

open Cert.ExpertIdeal Cert.ExpertIdeal.Gen Cert.Proof.ExpertIdealTables Cert.Proof.ExpertTile
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's resources. -/
abbrev Res := MT nD τ sig Unit (Elt Ideal) ℕ (UR sig nD τ) ℕ

variable (T0 : S288.Idx → BitVec 32) (T1 : S1.Idx → BitVec 32) (h : Good T0 T1)
variable (m : (ℓ : Loc nD τ sig) → Buf (Elt Ideal) ℓ) (ρ : Dev nD → PrngReg)

/-- The tables as the pipeline's admissible contents, and the pipeline at them. -/
def adm : (pcfg0 (F := Ideal)).Adm := ⟨tables T0 T1, ok T0 T1 h⟩
abbrev pipe : Pipeline.Cfg sig Λ₀ := cfg0 (F := Ideal) (adm T0 T1 h)

abbrev crd (t : Fin (pipe T0 T1 h).N) : (pipe T0 T1 h).grid.Coords := (pipe T0 T1 h).grid.coords t

/-- Each window's staging memref at a point, whole. -/
abbrev stg0 (t : Fin (pipe T0 T1 h).N) : Memref sig .tc .vmem S256x1024 .f32 := spec0_0.stage ((pipe T0 T1 h).slots t (0 : Fin 6))
abbrev whole0 (t : Fin (pipe T0 T1 h).N) : (stg0 T0 T1 h t).IsWhole := hstage0_0 (((pipe T0 T1 h).slots t (0 : Fin 6)).cast nbuf0_0)
abbrev stg1 (t : Fin (pipe T0 T1 h).N) : Memref sig .tc .vmem S1x1024x2048 .f32 := spec0_1.stage ((pipe T0 T1 h).slots t (1 : Fin 6))
abbrev whole1 (t : Fin (pipe T0 T1 h).N) : (stg1 T0 T1 h t).IsWhole := hstage0_1 (((pipe T0 T1 h).slots t (1 : Fin 6)).cast nbuf0_1)
abbrev stg2 (t : Fin (pipe T0 T1 h).N) : Memref sig .tc .vmem S1x1x2048 .f32 := spec0_2.stage ((pipe T0 T1 h).slots t (2 : Fin 6))
abbrev whole2 (t : Fin (pipe T0 T1 h).N) : (stg2 T0 T1 h t).IsWhole := hstage0_2 (((pipe T0 T1 h).slots t (2 : Fin 6)).cast nbuf0_2)
abbrev stg3 (t : Fin (pipe T0 T1 h).N) : Memref sig .tc .vmem S1x1024x1024 .f32 := spec0_3.stage ((pipe T0 T1 h).slots t (3 : Fin 6))
abbrev whole3 (t : Fin (pipe T0 T1 h).N) : (stg3 T0 T1 h t).IsWhole := hstage0_3 (((pipe T0 T1 h).slots t (3 : Fin 6)).cast nbuf0_3)
abbrev stg4 (t : Fin (pipe T0 T1 h).N) : Memref sig .tc .vmem S1x1x1024 .f32 := spec0_4.stage ((pipe T0 T1 h).slots t (4 : Fin 6))
abbrev whole4 (t : Fin (pipe T0 T1 h).N) : (stg4 T0 T1 h t).IsWhole := hstage0_4 (((pipe T0 T1 h).slots t (4 : Fin 6)).cast nbuf0_4)
abbrev stg5 (t : Fin (pipe T0 T1 h).N) : Memref sig .tc .vmem S256x1024 .f32 := spec0_5.stage ((pipe T0 T1 h).slots t (5 : Fin 6))
abbrev whole5 (t : Fin (pipe T0 T1 h).N) : (stg5 T0 T1 h t).IsWhole := hstage0_5 (((pipe T0 T1 h).slots t (5 : Fin 6)).cast nbuf0_5)

/-- Window `w`'s block at point `t`, of its array at launch. -/
def block (c : Dev nD) (w : Fin (pipe T0 T1 h).W) (t : Fin (pipe T0 T1 h).N) :
    (((pipe T0 T1 h).win w).xblock (crd T0 T1 h t)).Idx → Elt Ideal ((pipe T0 T1 h).win w).elt :=
  (((pipe T0 T1 h).win w).blk t).view.read (Elt Ideal) ((s₀ m ρ).mem (((pipe T0 T1 h).win w).arr.view.loc (c : Thread nD τ)))

/-! ## The arrays and their blocks -/

abbrev arrX (c : Dev nD) : S73728x1024.Idx → EReal := m ((c : Thread nD τ).loc main_arg2)
abbrev arrW1 (c : Dev nD) : S128x1024x2048.Idx → EReal := m ((c : Thread nD τ).loc main_arg3)
abbrev arrB1 (c : Dev nD) : S128x1x2048.Idx → EReal := m ((c : Thread nD τ).loc main_arg4)
abbrev arrW2 (c : Dev nD) : S128x1024x1024.Idx → EReal := m ((c : Thread nD τ).loc main_arg5)
abbrev arrB2 (c : Dev nD) : S128x1x1024.Idx → EReal := m ((c : Thread nD τ).loc main_arg6)

/-- A tile's rows. -/
def rows (X : S73728x1024.Idx → EReal) (p : Fin 288) : S256x1024.Idx → EReal := fun j =>
  X (ix2 ⟨256 * p.val + (j 0).val, by have := p.isLt; have h0 : (j 0).val < 256 := (j 0).isLt; omega⟩ (j 1))

/-- An expert's weights and biases. -/
def weights1 (W : S128x1024x2048.Idx → EReal) (e : Fin 128) : S1024x2048.Idx → EReal := fun j => W (ix3 e (j 0) (j 1))
def bias1 (B : S128x1x2048.Idx → EReal) (e : Fin 128) : S1x1x2048.Idx → EReal := fun j => B (ix3 e 0 (j 2))
def weights2 (W : S128x1024x1024.Idx → EReal) (e : Fin 128) : S1024x1024.Idx → EReal := fun j => W (ix3 e (j 0) (j 1))
def bias2 (B : S128x1x1024.Idx → EReal) (e : Fin 128) : S1x1x1024.Idx → EReal := fun j => B (ix3 e 0 (j 2))

/-- The point's tile and its expert. -/
abbrev place (t : Fin (pipe T0 T1 h).N) : Fin 288 := crd T0 T1 h t 0
abbrev expertOf (p : Fin 288) : Fin 128 := ⟨expert T0 p, h.expert p⟩

theorem place_val : ∀ t : Fin grid0.N, (grid0.coords t 0).val = t.val := by decide +kernel

theorem block1 (c : Dev nD) (t : Fin (pipe T0 T1 h).N) :
    first (block T0 T1 h m ρ c (1 : Fin 6) t) = weights1 (arrW1 m c) (expertOf T0 T1 h (place T0 T1 h t)) := by
  funext j
  refine congrArg (m ((c : Thread nD τ).loc main_arg3)) (funext fun a => Fin.ext ?_)
  have e := transform_1 T0 T1 (crd T0 T1 h t)
  match a with
  | ⟨0, _⟩ =>
    show cc0_transform_1 k0_off1_inb numel1_S1 (tables T0 T1) (crd T0 T1 h t) 0 * 1 + 1 * 0 = expert T0 (place T0 T1 h t)
    rw [e]; exact Nat.mul_one _
  | ⟨1, _⟩ =>
    show cc0_transform_1 k0_off1_inb numel1_S1 (tables T0 T1) (crd T0 T1 h t) 1 * 1024 + 1 * (j 0).val = (j 0).val
    rw [e]; show 0 * 1024 + 1 * (j 0).val = _; omega
  | ⟨2, _⟩ =>
    show cc0_transform_1 k0_off1_inb numel1_S1 (tables T0 T1) (crd T0 T1 h t) 2 * 2048 + 1 * (j 1).val = (j 1).val
    rw [e]; show 0 * 2048 + 1 * (j 1).val = _; omega

theorem block2 (c : Dev nD) (t : Fin (pipe T0 T1 h).N) :
    block T0 T1 h m ρ c (2 : Fin 6) t = bias1 (arrB1 m c) (expertOf T0 T1 h (place T0 T1 h t)) := by
  funext j
  refine congrArg (m ((c : Thread nD τ).loc main_arg4)) (funext fun a => Fin.ext ?_)
  have e := transform_2 T0 T1 (crd T0 T1 h t)
  match a with
  | ⟨0, _⟩ =>
    show cc0_transform_2 k0_off1_inb numel1_S1 (tables T0 T1) (crd T0 T1 h t) 0 * 1 + 1 * (j 0).val = expert T0 (place T0 T1 h t)
    have j0 : (j 0).val < 1 := (j 0).isLt
    rw [e, show (j 0).val = 0 by omega]; exact Nat.mul_one _
  | ⟨1, _⟩ =>
    show cc0_transform_2 k0_off1_inb numel1_S1 (tables T0 T1) (crd T0 T1 h t) 1 * 1 + 1 * (j 1).val = 0
    have j1 : (j 1).val < 1 := (j 1).isLt
    rw [e, show (j 1).val = 0 by omega]; rfl
  | ⟨2, _⟩ =>
    show cc0_transform_2 k0_off1_inb numel1_S1 (tables T0 T1) (crd T0 T1 h t) 2 * 2048 + 1 * (j 2).val = (j 2).val
    rw [e]; show 0 * 2048 + 1 * (j 2).val = _; omega

theorem block3 (c : Dev nD) (t : Fin (pipe T0 T1 h).N) :
    second (block T0 T1 h m ρ c (3 : Fin 6) t) = weights2 (arrW2 m c) (expertOf T0 T1 h (place T0 T1 h t)) := by
  funext j
  refine congrArg (m ((c : Thread nD τ).loc main_arg5)) (funext fun a => Fin.ext ?_)
  have e := transform_3 T0 T1 (crd T0 T1 h t)
  match a with
  | ⟨0, _⟩ =>
    show cc0_transform_3 k0_off1_inb numel1_S1 (tables T0 T1) (crd T0 T1 h t) 0 * 1 + 1 * 0 = expert T0 (place T0 T1 h t)
    rw [e]; exact Nat.mul_one _
  | ⟨1, _⟩ =>
    show cc0_transform_3 k0_off1_inb numel1_S1 (tables T0 T1) (crd T0 T1 h t) 1 * 1024 + 1 * (j 0).val = (j 0).val
    rw [e]; show 0 * 1024 + 1 * (j 0).val = _; omega
  | ⟨2, _⟩ =>
    show cc0_transform_3 k0_off1_inb numel1_S1 (tables T0 T1) (crd T0 T1 h t) 2 * 1024 + 1 * (j 1).val = (j 1).val
    rw [e]; show 0 * 1024 + 1 * (j 1).val = _; omega

theorem block4 (c : Dev nD) (t : Fin (pipe T0 T1 h).N) :
    block T0 T1 h m ρ c (4 : Fin 6) t = bias2 (arrB2 m c) (expertOf T0 T1 h (place T0 T1 h t)) := by
  funext j
  refine congrArg (m ((c : Thread nD τ).loc main_arg6)) (funext fun a => Fin.ext ?_)
  have e := transform_4 T0 T1 (crd T0 T1 h t)
  match a with
  | ⟨0, _⟩ =>
    show cc0_transform_4 k0_off1_inb numel1_S1 (tables T0 T1) (crd T0 T1 h t) 0 * 1 + 1 * (j 0).val = expert T0 (place T0 T1 h t)
    have j0 : (j 0).val < 1 := (j 0).isLt
    rw [e, show (j 0).val = 0 by omega]; exact Nat.mul_one _
  | ⟨1, _⟩ =>
    show cc0_transform_4 k0_off1_inb numel1_S1 (tables T0 T1) (crd T0 T1 h t) 1 * 1 + 1 * (j 1).val = 0
    have j1 : (j 1).val < 1 := (j 1).isLt
    rw [e, show (j 1).val = 0 by omega]; rfl
  | ⟨2, _⟩ =>
    show cc0_transform_4 k0_off1_inb numel1_S1 (tables T0 T1) (crd T0 T1 h t) 2 * 1024 + 1 * (j 2).val = (j 2).val
    rw [e]; show 0 * 1024 + 1 * (j 2).val = _; omega

/-- A filled tile's rows. -/
theorem block0 (c : Dev nD) (t : Fin (pipe T0 T1 h).N) (ht : t.val < filled T1) :
    block T0 T1 h m ρ c (0 : Fin 6) t = rows (arrX m c) (place T0 T1 h t) := by
  funext j
  refine congrArg (m ((c : Thread nD τ).loc main_arg2)) (funext fun a => Fin.ext ?_)
  have e := transform_0 T0 T1 h (crd T0 T1 h t)
  have hp : (place T0 T1 h t).val = t.val := place_val t
  match a with
  | ⟨0, _⟩ =>
    show cc0_transform_0 inb_S1_S1_0 numel1_S1 (tables T0 T1) (crd T0 T1 h t) 0 * 256 + 1 * (j 0).val = 256 * (place T0 T1 h t).val + (j 0).val
    rw [e]
    show min (place T0 T1 h t).val (filled T1 - 1) * 256 + 1 * (j 0).val = _
    rw [hp, Nat.min_eq_left (by omega)]; omega
  | ⟨1, _⟩ =>
    show cc0_transform_0 inb_S1_S1_0 numel1_S1 (tables T0 T1) (crd T0 T1 h t) 1 * 1024 + 1 * (j 1).val = (j 1).val
    rw [e]; show 0 * 1024 + 1 * (j 1).val = _; omega

/-! ## The tiles, and the schedule of the output's blocks -/

/-- The MLP of a tile's rows under its expert. -/
def tile (c : Dev nD) (p : Fin 288) : S256x1024.Idx → EReal :=
  k0_pay3 (F := Ideal) (rows (arrX m c) p) (weights1 (arrW1 m c) (expertOf T0 T1 h p)) (bias1 (arrB1 m c) (expertOf T0 T1 h p))
    (weights2 (arrW2 m c) (expertOf T0 T1 h p)) (bias2 (arrB2 m c) (expertOf T0 T1 h p))

/-- The last filled tile at or before a point. -/
def lastTile (n : ℕ) : Fin 288 := ⟨min n (filled T1 - 1), by have := h.le; have := h.pos; omega⟩

/-- The scratches before point `n`: anything before the first, then the weights of the last filled tile's expert. -/
def scratches (c : Dev nD) (n : ℕ) : sProp Res :=
  iprop(∃ (a0 : Buf (Elt Ideal) ((c : Thread nD τ).loc cc0_scratch0)) (a1 : Buf (Elt Ideal) ((c : Thread nD τ).loc cc0_scratch1)),
    ⌜n ≠ 0 → a0 = weights1 (arrW1 m c) (expertOf T0 T1 h (lastTile T0 T1 h (n - 1)))
      ∧ a1 = weights2 (arrW2 m c) (expertOf T0 T1 h (lastTile T0 T1 h (n - 1)))⌝
    ∗ (((c : Thread nD τ).loc cc0_scratch0) ↦{fullShare} a0) ∗ (((c : Thread nD τ).loc cc0_scratch1) ↦{fullShare} a1))

/-- The invariant. -/
def inv (c : Dev nD) (n : ℕ) : sProp Res :=
  iprop(scratches T0 T1 h m c n ∗ (∃ r, prngReg c r) ∗ Pipeline.ΦT (U := UR sig nD τ) pre0 (tables T0 T1) c)

/-- The proof data: each input's block of its array, the output's the last filled tile. -/
def dats (_ : Fin 1) (c : Dev nD) : Dat τ (Elt Ideal) Unit ℕ (UR sig nD τ) ℕ (pipe T0 T1 h) c where
  A w := (s₀ m ρ).mem (((pipe T0 T1 h).win w).arr.view.loc (c : Thread nD τ))
  after w t := match w with
    | ⟨0, _⟩ => block T0 T1 h m ρ c (0 : Fin 6) t
    | ⟨1, _⟩ => block T0 T1 h m ρ c (1 : Fin 6) t
    | ⟨2, _⟩ => block T0 T1 h m ρ c (2 : Fin 6) t
    | ⟨3, _⟩ => block T0 T1 h m ρ c (3 : Fin 6) t
    | ⟨4, _⟩ => block T0 T1 h m ρ c (4 : Fin 6) t
    | ⟨5, _⟩ => tile T0 T1 h m c (lastTile T0 T1 h t.val)
  Φ t := inv T0 T1 h m c t.val
  q _ := fullShare
  owed _ := 0

theorem after5 (c : Dev nD) (t : Fin (pipe T0 T1 h).N) : (dats T0 T1 h m ρ 0 c).after (5 : Fin 6) t = tile T0 T1 h m c (lastTile T0 T1 h t.val) := rfl

/-- The output is idle where the tile is not filled. -/
theorem idle5 (t : Fin (pipe T0 T1 h).N) : (pipe T0 T1 h).idle (5 : Fin 6) (crd T0 T1 h t) = decide (filled T1 ≤ t.val) := by
  show (!(k0_cond2 (crd T0 T1 h t) ((tables T0 T1).atD 1 ![0]) == 1#1)) = _
  have hp : (place T0 T1 h t).val = t.val := place_val t
  have e := TileWords.filled_iff (place T0 T1 h t).val (T1 (ix1 0)) (place T0 T1 h t).isLt h.le
  rw [atD_filled]
  by_cases hc : k0_cond2 (crd T0 T1 h t) (T1 (ix1 0)) = 1#1
  · have := e.1 hc
    rw [hp] at this
    rw [hc, decide_eq_false (by show ¬ (T1 (ix1 0)).toNat ≤ _; omega)]; rfl
  · have : ¬ (place T0 T1 h t).val < (T1 (ix1 0)).toNat := fun q => hc (e.2 q)
    rw [hp] at this
    rw [decide_eq_true (by show (T1 (ix1 0)).toNat ≤ _; omega), beq_false_of_ne hc]; rfl

/-- The output's block is written back at the filled tiles but the last, and at the last point. -/
theorem flush5 (t : Fin (pipe T0 T1 h).N) :
    ((pipe T0 T1 h).win (5 : Fin 6)).flush t = decide (t.val + 1 < filled T1 ∨ t.val + 1 = 288) := by
  rw [Pipeline.Window.flush_eq_flushOf]
  unfold Pipeline.Window.flushOf
  have row : ∀ t : Fin (pipe T0 T1 h).N, ix0 (tables T0 T1) 5 (crd T0 T1 h t) = ![min t.val (filled T1 - 1), 0] := fun t => by
    have e := transform_5 T0 T1 h (crd T0 T1 h t)
    rw [show (crd T0 T1 h t 0).val = t.val from place_val t] at e
    exact e
  have hN : (pipe T0 T1 h).grid.N = 288 := N_0
  have hout : ((pipe T0 T1 h).win (5 : Fin 6)).isOut = true := rfl
  have hp := h.pos
  have hl := h.le
  have moved : (∃ h1 : t.val + 1 < (pipe T0 T1 h).grid.N,
      ((pipe T0 T1 h).win (5 : Fin 6)).indexMap ((pipe T0 T1 h).grid.coords ⟨t.val + 1, h1⟩)
        ≠ ((pipe T0 T1 h).win (5 : Fin 6)).indexMap ((pipe T0 T1 h).grid.coords t)) ↔ t.val + 1 < filled T1 := by
    constructor
    · rintro ⟨h1, hne⟩
      by_contra hlt
      refine hne ((row ⟨t.val + 1, h1⟩).trans ((congrArg (fun n : ℕ => (![n, 0] : Fin 2 → ℕ)) ?_).trans (row t).symm))
      show min (t.val + 1) (filled T1 - 1) = min t.val (filled T1 - 1)
      omega
    · intro hlt
      refine ⟨by omega, fun he => ?_⟩
      have e0 : min (t.val + 1) (filled T1 - 1) = min t.val (filled T1 - 1) :=
        congrFun ((row ⟨t.val + 1, _⟩).symm.trans (he.trans (row t))) 0
      omega
  rw [hout, Bool.true_and, ← Bool.decide_or]
  refine decide_eq_decide.2 ?_
  rw [moved]
  constructor <;> intro hh <;> omega

/-- Where nothing has been stored in the output's block since it was last written back. -/
theorem fresh5 (n : ℕ) (hn : n ≤ (pipe T0 T1 h).N) :
    (pipe T0 T1 h).fresh (5 : Fin 6) n = decide (n < filled T1 ∨ n = 288) := by
  refine Pipeline.Cfg.fresh_tab (pipe T0 T1 h) (5 : Fin 6) (fun n => decide (n < filled T1 ∨ n = 288)) ?_ ?_ n hn
  · have := h.pos
    exact decide_eq_true (Or.inl (by omega))
  · intro t
    have hl := h.le
    have hp := h.pos
    have ht : t.val < 288 := t.isLt
    show decide _ = (_ || (_ && decide _))
    rw [flush5, idle5, ← Bool.decide_and, ← Bool.decide_or]
    refine decide_eq_decide.2 ?_
    omega

/-- What the last filled tile's point left is carried through the points after it. -/
theorem carry5 (c : Dev nD) (t : Fin (pipe T0 T1 h).N) (ht : t.val ≠ 0)
    (hi : (pipe T0 T1 h).idle (5 : Fin 6) ((pipe T0 T1 h).grid.coords t) = true) :
    (dats T0 T1 h m ρ 0 c).after (5 : Fin 6) t = (dats T0 T1 h m ρ 0 c).after (5 : Fin 6) ⟨t.val - 1, by omega⟩ := by
  rw [idle5] at hi
  have hf := of_decide_eq_true hi
  refine congrArg (tile T0 T1 h m c) (Fin.ext ?_)
  show min t.val (filled T1 - 1) = min (t.val - 1) (filled T1 - 1)
  have hp := h.pos
  omega

/-- At a point whose tile is not filled the output's block holds the last filled tile. -/
theorem before5 (c : Dev nD) (t : Fin (pipe T0 T1 h).N) (hf : filled T1 ≤ t.val) (d) :
    (dats T0 T1 h m ρ 0 c).before (5 : Fin 6) t d = (dats T0 T1 h m ρ 0 c).after (5 : Fin 6) t := by
  have hp := h.pos
  have ht : t.val < 288 := t.isLt
  rw [(dats T0 T1 h m ρ 0 c).before_out_traj (5 : Fin 6) rfl (fun _ _ => rfl) (fun t ht hi _ => carry5 T0 T1 h m ρ c t ht hi) t.val t rfl d,
    fresh5 T0 T1 h t.val (le_of_lt t.isLt), if_neg (by rw [decide_eq_true_iff]; omega)]
  exact (carry5 T0 T1 h m ρ c t (by omega) ((idle5 T0 T1 h t).trans (decide_eq_true hf))).symm

end Cert.Proof.ExpertRun

end
-- ==== Proof.ExpertBody.lean ====
/-
  The expert kernel's body at any point of the grid, and its run: the output's blocks are the tiles' MLPs.
-/
module

public import proofs.«01_k».proof.Proof.ExpertRun
public import Idealize.ShloMosaic.Lib.Pipeline.Quiescent
public import Idealize.ShloMosaic.Lib.Pipeline.Kit
public import Idealize.ShloMosaic.Lib.Pipeline.Frame
public import Idealize.ShloMosaic.Lib.Pipeline.TableIdle
public import Idealize.ShloMosaic.Lib.Pipeline.FrameBody
public import Idealize.ShloMosaic.Lib.Claim
public import Idealize.ShloMosaic.Lib.Tactic
public import Idealize.ShloMosaic.Adequacy
public import Idealize.ShloMosaic.Init

@[expose] public section

set_option maxRecDepth 16384
set_option Elab.async false

noncomputable section

namespace Cert.Proof.ExpertBody

open Cert.ExpertIdeal Cert.ExpertIdeal.Gen Cert.Proof.ExpertIdealTables Cert.Proof.ExpertTile Cert.Proof.ExpertRun
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (T0 : S288.Idx → BitVec 32) (T1 : S1.Idx → BitVec 32) (h : Good T0 T1)
variable (m : (ℓ : Loc nD τ sig) → Buf (Elt Ideal) ℓ) (ρ : Dev nD → PrngReg)

theorem before0 (c : Dev nD) (t : Fin (pipe T0 T1 h).N) (d) : (dats T0 T1 h m ρ 0 c).before (0 : Fin 6) t d = block T0 T1 h m ρ c (0 : Fin 6) t :=
  ((dats T0 T1 h m ρ 0 c).before_in_eq_fetched (0 : Fin 6) rfl (fun _ => rfl) (fun _ _ _ => rfl) (fun t => by unfold Dat.blockOf; rfl) t d).trans
    (by unfold Dat.fetched Dat.blockOf block; rfl)
theorem before1 (c : Dev nD) (t : Fin (pipe T0 T1 h).N) (d) : (dats T0 T1 h m ρ 0 c).before (1 : Fin 6) t d = block T0 T1 h m ρ c (1 : Fin 6) t :=
  ((dats T0 T1 h m ρ 0 c).before_in_eq_fetched (1 : Fin 6) rfl (fun _ => rfl) (fun _ _ _ => rfl) (fun t => by unfold Dat.blockOf; rfl) t d).trans
    (by unfold Dat.fetched Dat.blockOf block; rfl)
theorem before2 (c : Dev nD) (t : Fin (pipe T0 T1 h).N) (d) : (dats T0 T1 h m ρ 0 c).before (2 : Fin 6) t d = block T0 T1 h m ρ c (2 : Fin 6) t :=
  ((dats T0 T1 h m ρ 0 c).before_in_eq_fetched (2 : Fin 6) rfl (fun _ => rfl) (fun _ _ _ => rfl) (fun t => by unfold Dat.blockOf; rfl) t d).trans
    (by unfold Dat.fetched Dat.blockOf block; rfl)
theorem before3 (c : Dev nD) (t : Fin (pipe T0 T1 h).N) (d) : (dats T0 T1 h m ρ 0 c).before (3 : Fin 6) t d = block T0 T1 h m ρ c (3 : Fin 6) t :=
  ((dats T0 T1 h m ρ 0 c).before_in_eq_fetched (3 : Fin 6) rfl (fun _ => rfl) (fun _ _ _ => rfl) (fun t => by unfold Dat.blockOf; rfl) t d).trans
    (by unfold Dat.fetched Dat.blockOf block; rfl)
theorem before4 (c : Dev nD) (t : Fin (pipe T0 T1 h).N) (d) : (dats T0 T1 h m ρ 0 c).before (4 : Fin 6) t d = block T0 T1 h m ρ c (4 : Fin 6) t :=
  ((dats T0 T1 h m ρ 0 c).before_in_eq_fetched (4 : Fin 6) rfl (fun _ => rfl) (fun _ _ _ => rfl) (fun t => by unfold Dat.blockOf; rfl) t d).trans
    (by unfold Dat.fetched Dat.blockOf block; rfl)

/-- The tables as the body is handed them, one by one. -/
theorem tables_held (c : Dev nD) (q : Fin 2 → PosShare TreeShare) (v : pre0.Contents (Elt Ideal)) :
    (Pipeline.prefHeld (Ix := Unit) (Name := ℕ) (U := UR sig nD τ) (Lvl := ℕ) pre0 c q v : sProp Res)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The body at point `t`. -/
abbrev bodyAt (t : Fin (pipe T0 T1 h).N) : Prog (TpuEff nD τ sig (Elt Ideal) Λ₀ .tc) PUnit :=
  cc0_expert_mlp (crd T0 T1 h t) tbM0_0 (Memref.isWhole_whole _) tbM0_1 (Memref.isWhole_whole _) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) scM0_0 (Memref.isWhole_whole _) scM0_1 (Memref.isWhole_whole _)

/-- The input blocks at point `t`, held. -/
def inputs (c : Dev nD) (t : Fin (pipe T0 T1 h).N) : sProp Res :=
  iprop(owns (c : Thread nD τ) (stg0 T0 T1 h t) fullShare (block T0 T1 h m ρ c (0 : Fin 6) t)
    ∗ owns (c : Thread nD τ) (stg1 T0 T1 h t) fullShare (block T0 T1 h m ρ c (1 : Fin 6) t)
    ∗ owns (c : Thread nD τ) (stg2 T0 T1 h t) fullShare (block T0 T1 h m ρ c (2 : Fin 6) t)
    ∗ owns (c : Thread nD τ) (stg3 T0 T1 h t) fullShare (block T0 T1 h m ρ c (3 : Fin 6) t)
    ∗ owns (c : Thread nD τ) (stg4 T0 T1 h t) fullShare (block T0 T1 h m ρ c (4 : Fin 6) t))

/-! ## Which expert's weights the scratches hold -/

theorem last_filled (t : Fin (pipe T0 T1 h).N) (ht : t.val < filled T1) : lastTile T0 T1 h t.val = place T0 T1 h t := by
  refine Fin.ext ?_
  show min t.val (filled T1 - 1) = (place T0 T1 h t).val
  rw [show (place T0 T1 h t).val = t.val from place_val t]; omega

theorem last_unfilled (n : ℕ) (hn : filled T1 ≤ n) : lastTile T0 T1 h (n - 1) = lastTile T0 T1 h n := by
  refine Fin.ext ?_
  show min (n - 1) (filled T1 - 1) = min n (filled T1 - 1)
  omega

theorem expert_before (t : Fin (pipe T0 T1 h).N) (ht : t.val < filled T1) (q0 : ¬ Takes T0 T1 (crd T0 T1 h t)) :
    t.val ≠ 0 ∧ expertOf T0 T1 h (lastTile T0 T1 h (t.val - 1)) = expertOf T0 T1 h (place T0 T1 h t) := by
  have hp : (place T0 T1 h t).val = t.val := place_val t
  have q := fun a => q0 ((takes_iff T0 T1 h (crd T0 T1 h t)).2 ⟨lt_of_eq_of_lt hp ht, a⟩)
  have n0 : t.val ≠ 0 := fun e => q (Or.inl (hp.trans e))
  refine ⟨n0, Fin.ext ?_⟩
  have e : T0 (ix1 (place T0 T1 h t)) = T0 (ix1 ⟨(place T0 T1 h t).val - 1, Nat.lt_of_le_of_lt (Nat.sub_le _ _) (place T0 T1 h t).isLt⟩) := by
    by_contra hne
    exact q (Or.inr hne)
  show (T0 (ix1 (lastTile T0 T1 h (t.val - 1)))).toNat = (T0 (ix1 (place T0 T1 h t))).toNat
  rw [e]
  refine congrArg (fun p : Fin 288 => (T0 (ix1 p)).toNat) (Fin.ext ?_)
  show min (t.val - 1) (filled T1 - 1) = (place T0 T1 h t).val - 1
  omega

/-- What the scratches hold after a tile, in each of the three cases. -/
abbrev Holds (c : Dev nD) (p : Fin 288) (a0 : S1024x2048.Idx → EReal) (a1 : S1024x1024.Idx → EReal) : Prop :=
  a0 = weights1 (arrW1 m c) (expertOf T0 T1 h p) ∧ a1 = weights2 (arrW2 m c) (expertOf T0 T1 h p)

theorem scratch_taken (c : Dev nD) (t : Fin (pipe T0 T1 h).N) (ht : t.val < filled T1) (q0 : Takes T0 T1 (crd T0 T1 h t)) (q1 : Computes T1 (crd T0 T1 h t)) :
    Holds T0 T1 h m c (lastTile T0 T1 h (t.val + 1 - 1))
      (kernelRun0_A c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) q0 q1).2.1
      (kernelRun0_A c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) q0 q1).2.2.1 := by
  rw [Nat.add_sub_cancel, last_filled T0 T1 h t ht]
  exact ⟨(taken1 _ _ _ _ _ _ _ _ _ _ _ _ _ _ _ _ _ _ _ _ _ _ _).trans (block1 T0 T1 h m ρ c t), (taken2 _ _ _ _ _ _ _ _ _ _ _ _ _ _ _ _ _ _ _ _ _ _ _).trans (block3 T0 T1 h m ρ c t)⟩

theorem scratch_kept (c : Dev nD) (t : Fin (pipe T0 T1 h).N) (ht : t.val < filled T1) (q0 : ¬ Takes T0 T1 (crd T0 T1 h t))
    (a0 : S1024x2048.Idx → EReal) (a1 : S1024x1024.Idx → EReal) (ha : t.val ≠ 0 → Holds T0 T1 h m c (lastTile T0 T1 h (t.val - 1)) a0 a1) :
    Holds T0 T1 h m c (lastTile T0 T1 h (t.val + 1 - 1)) a0 a1 := by
  have e := expert_before T0 T1 h t ht q0
  rw [Nat.add_sub_cancel, last_filled T0 T1 h t ht]
  have := ha e.1
  unfold Holds at this
  rwa [e.2] at this

theorem scratch_left (c : Dev nD) (t : Fin (pipe T0 T1 h).N) (ht : filled T1 ≤ t.val)
    (a0 : S1024x2048.Idx → EReal) (a1 : S1024x1024.Idx → EReal) (ha : t.val ≠ 0 → Holds T0 T1 h m c (lastTile T0 T1 h (t.val - 1)) a0 a1) :
    Holds T0 T1 h m c (lastTile T0 T1 h (t.val + 1 - 1)) a0 a1 := by
  have hp := h.pos
  rw [Nat.add_sub_cancel, ← last_unfilled T0 T1 h t.val ht]
  exact ha (by omega)

theorem tile_of (c : Dev nD) (t : Fin (pipe T0 T1 h).N) (ht : t.val < filled T1) :
    k0_pay3 (F := Ideal) (block T0 T1 h m ρ c (0 : Fin 6) t) (weights1 (arrW1 m c) (expertOf T0 T1 h (place T0 T1 h t))) (block T0 T1 h m ρ c (2 : Fin 6) t)
      (weights2 (arrW2 m c) (expertOf T0 T1 h (place T0 T1 h t))) (block T0 T1 h m ρ c (4 : Fin 6) t) = tile T0 T1 h m c (lastTile T0 T1 h t.val) := by
  rw [last_filled T0 T1 h t ht, block0 T0 T1 h m ρ c t ht, block2, block4]
  rfl

set_option maxHeartbeats 4000000 in
/-- The body at point `t`: the scratches end with the last filled tile's expert, the output's block with that tile's MLP. -/
theorem body_computes (c : Dev nD) (t : Fin (pipe T0 T1 h).N) (O : sProp Res) :
    iprop(inv T0 T1 h m c t.val ∗ O ∗ inputs T0 T1 h m ρ c t
        ∗ (∃ X, ⌜filled T1 ≤ t.val → X = tile T0 T1 h m c (lastTile T0 T1 h t.val)⌝ ∗ owns (c : Thread nD τ) (stg5 T0 T1 h t) fullShare X))
      ⊢ wp frame (wpE (defs₀ (F := Ideal)) Variants.none c none) Set.univ (bodyAt T0 T1 h t) fun _ =>
          iprop(inv T0 T1 h m c (t.val + 1) ∗ O ∗ inputs T0 T1 h m ρ c t
            ∗ owns (c : Thread nD τ) (stg5 T0 T1 h t) fullShare (tile T0 T1 h m c (lastTile T0 T1 h t.val))) := by
  have hp : (place T0 T1 h t).val = t.val := place_val t
  unfold ExpertRun.inv scratches inputs Pipeline.ΦT
  rw [tables_held]
  by_cases q0 : Takes T0 T1 (crd T0 T1 h t)
  · have q1 : Computes T1 (crd T0 T1 h t) := computes_of_takes T0 T1 h _ q0
    have ht : t.val < filled T1 := lt_of_eq_of_lt hp.symm ((computes_iff T0 T1 h _).1 q1)
    iintro ⟨⟨⟨%a0, %a1, -, HS0, HS1⟩, Hr, HT0, HT1⟩, Ho, ⟨H0, H1, H2, H3, H4⟩, ⟨%X, -, H5⟩⟩
    iapply ((kernelRun0_A c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) q0 q1).2.2.2 a0 a1 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists X; iexact H5
    isplitl [HS0]; · iexact HS0
    isplitl [HS1]; · iexact HS1
    iintro ⟨H0, H1, H2, H3, H4, HT0, HT1, ⟨%e5, H5⟩, HS0, HS1⟩
    isplitl [HS0 HS1 HT0 HT1 Hr]
    · isplitl [HS0 HS1]
      · iexists _; iexists _; isplitr; swap
        · isplitl [HS0]
          · iexact HS0
          iexact HS1
        · ipureintro
          exact fun _ => scratch_taken T0 T1 h m ρ c t ht q0 q1
      isplitl [Hr]; · iexact Hr
      isplitl [HT0]; · iexact HT0
      iexact HT1
    isplitl [Ho]; · iexact Ho
    isplitl [H0 H1 H2 H3 H4]
    · isplitl [H0]; · iapply owns_of_rep; iexact H0
      isplitl [H1]; · iapply owns_of_rep; iexact H1
      isplitl [H2]; · iapply owns_of_rep; iexact H2
      isplitl [H3]; · iapply owns_of_rep; iexact H3
      iapply owns_of_rep; iexact H4
    unfold owns; iexists _; isplitr; swap
    · iexact H5
    · ipureintro
      refine (View.read_writes_of_cover _ _ _ _ _ (cover0_A_5 c _ _ _ _ _ _ _ _ _ _ _ _ _ _ _ _ _ _ _ _ _ _)).trans ((out_taken _ _ _ _ _ _ _ _ _ _ _ _ _ _ _ _ _ _ _ _ _ _ _).trans ?_)
      rw [block1, block3]
      exact tile_of T0 T1 h m ρ c t ht
  · by_cases q1 : Computes T1 (crd T0 T1 h t)
    · have ht : t.val < filled T1 := lt_of_eq_of_lt hp.symm ((computes_iff T0 T1 h _).1 q1)
      iintro ⟨⟨⟨%a0, %a1, %ha, HS0, HS1⟩, Hr, HT0, HT1⟩, Ho, ⟨H0, H1, H2, H3, H4⟩, ⟨%X, -, H5⟩⟩
      iapply ((kernelRun0_B c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) a0 a1 q0 q1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists X; iexact H5
      isplitl [HS0]; · iexact HS0
      isplitl [HS1]; · iexact HS1
      iintro ⟨H0, H1, H2, H3, H4, HT0, HT1, ⟨%e5, H5⟩, HS0, HS1⟩
      isplitl [HS0 HS1 HT0 HT1 Hr]
      · isplitl [HS0 HS1]
        · iexists _; iexists _; isplitr; swap
          · isplitl [HS0]
            · iexact HS0
            iexact HS1
          · ipureintro
            exact fun _ => scratch_kept T0 T1 h m c t ht q0 a0 a1 ha
        isplitl [Hr]; · iexact Hr
        isplitl [HT0]; · iexact HT0
        iexact HT1
      isplitl [Ho]; · iexact Ho
      isplitl [H0 H1 H2 H3 H4]
      · isplitl [H0]; · iapply owns_of_rep; iexact H0
        isplitl [H1]; · iapply owns_of_rep; iexact H1
        isplitl [H2]; · iapply owns_of_rep; iexact H2
        isplitl [H3]; · iapply owns_of_rep; iexact H3
        iapply owns_of_rep; iexact H4
      unfold owns; iexists _; isplitr; swap
      · iexact H5
      · ipureintro
        refine (View.read_writes_of_cover _ _ _ _ _ (cover0_B_5 c _ _ _ _ _ _ _ _ _ _ _ _ _ _ _ _ _ _ _ _ _ _ _ _)).trans ((out_kept _ _ _ _ _ _ _ _ _ _ _ _ _ _ _ _ _ _ _ _ _ _ _ _ _).trans ?_)
        have e := (expert_before T0 T1 h t ht q0)
        rw [(ha e.1).1, (ha e.1).2, e.2]
        exact tile_of T0 T1 h m ρ c t ht
    · have ht : filled T1 ≤ t.val := by
        by_contra hlt
        exact q1 ((computes_iff T0 T1 h _).2 (lt_of_eq_of_lt hp (by omega)))
      iintro ⟨⟨⟨%a0, %a1, %ha, HS0, HS1⟩, Hr, HT0, HT1⟩, Ho, ⟨H0, H1, H2, H3, H4⟩, ⟨%X, %hX, H5⟩⟩
      iapply ((kernelRun0_C c (crd T0 T1 h t) (stg0 T0 T1 h t) (whole0 T0 T1 h t) (stg1 T0 T1 h t) (whole1 T0 T1 h t) (stg2 T0 T1 h t) (whole2 T0 T1 h t) (stg3 T0 T1 h t) (whole3 T0 T1 h t) (stg4 T0 T1 h t) (whole4 T0 T1 h t) (stg5 T0 T1 h t) (whole5 T0 T1 h t) T0 T1 (block T0 T1 h m ρ c (0 : Fin 6) t) (block T0 T1 h m ρ c (1 : Fin 6) t) (block T0 T1 h m ρ c (2 : Fin 6) t) (block T0 T1 h m ρ c (3 : Fin 6) t) (block T0 T1 h m ρ c (4 : Fin 6) t) a0 a1 q0 q1).2.2 X _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexact H5
      isplitl [HS0]; · iexact HS0
      isplitl [HS1]; · iexact HS1
      iintro ⟨H0, H1, H2, H3, H4, HT0, HT1, H5, HS0, HS1⟩
      isplitl [HS0 HS1 HT0 HT1 Hr]
      · isplitl [HS0 HS1]
        · iexists _; iexists _; isplitr; swap
          · isplitl [HS0]
            · iexact HS0
            iexact HS1
          · ipureintro
            exact fun _ => scratch_left T0 T1 h m c t ht a0 a1 ha
        isplitl [Hr]; · iexact Hr
        isplitl [HT0]; · iexact HT0
        iexact HT1
      isplitl [Ho]; · iexact Ho
      isplitl [H0 H1 H2 H3 H4]
      · isplitl [H0]; · iapply owns_of_rep; iexact H0
        isplitl [H1]; · iapply owns_of_rep; iexact H1
        isplitl [H2]; · iapply owns_of_rep; iexact H2
        isplitl [H3]; · iapply owns_of_rep; iexact H3
        iapply owns_of_rep; iexact H4
      rw [← hX ht]
      iexact H5

/-- The input blocks one by one, and the output's as the schedule asks for it. -/
theorem handed_back (c : Dev nD) (t : Fin (pipe T0 T1 h).N) (Φ O X X' : sProp Res) (hx : X ⊢ X') :
    iprop(Φ ∗ O ∗ inputs T0 T1 h m ρ c t ∗ X) ⊢ iprop(Φ ∗ O ∗ owns (c : Thread nD τ) (stg0 T0 T1 h t) fullShare (block T0 T1 h m ρ c (0 : Fin 6) t)
      ∗ owns (c : Thread nD τ) (stg1 T0 T1 h t) fullShare (block T0 T1 h m ρ c (1 : Fin 6) t)
      ∗ owns (c : Thread nD τ) (stg2 T0 T1 h t) fullShare (block T0 T1 h m ρ c (2 : Fin 6) t)
      ∗ owns (c : Thread nD τ) (stg3 T0 T1 h t) fullShare (block T0 T1 h m ρ c (3 : Fin 6) t)
      ∗ owns (c : Thread nD τ) (stg4 T0 T1 h t) fullShare (block T0 T1 h m ρ c (4 : Fin 6) t) ∗ X') := by
  unfold inputs
  iintro ⟨HΦ, Ho, ⟨H0, H1, H2, H3, H4⟩, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iapply hx
  iexact H5

set_option maxHeartbeats 4000000 in
/-- The library's obligation on the body. -/
theorem obligation (c : Dev nD) :
    BodyObligation (dats T0 T1 h m ρ 0 c) (defs₀ (F := Ideal)) Variants.none () Set.univ := fun t => by
  rw [bigSep_W0]
  rw [bigSep_W0]
  refine BIBase.Entails.trans ?_ (BIBase.Entails.trans (body_computes T0 T1 h m ρ c t ((dats T0 T1 h m ρ 0 c).owesAt () t.castSucc)) ?_)
  · unfold inputs
    simp only [before0, before1, before2, before3, before4]
    rw [show (dats T0 T1 h m ρ 0 c).Φ t.castSucc = ExpertRun.inv T0 T1 h m c t.val from rfl]
    iintro ⟨HΦ, Ho, ⟨%d0, H0⟩, ⟨%d1, H1⟩, ⟨%d2, H2⟩, ⟨%d3, H3⟩, ⟨%d4, H4⟩, ⟨%d5, H5⟩⟩
    isplitl [HΦ]; · iexact HΦ
    isplitl [Ho]; · iexact Ho
    isplitl [H0 H1 H2 H3 H4]
    · isplitl [H0]; · iexact H0
      isplitl [H1]; · iexact H1
      isplitl [H2]; · iexact H2
      isplitl [H3]; · iexact H3
      iexact H4
    iexists _; isplitr; swap
    · iexact H5
    · ipureintro
      exact fun hf => before5 T0 T1 h m ρ c t hf d5
  · refine wp_mono _ _ _ fun _ => ?_
    refine handed_back T0 T1 h m ρ c t _ _ _ _ ?_
    by_cases hf : filled T1 ≤ t.val
    · have e : ExpertIdeal.idle0 (adm T0 T1 h).1 (5 : Fin 6) (((pcfg0 (F := Ideal)).gridAt (adm T0 T1 h).1).coords t) = true := (idle5 T0 T1 h t).trans (decide_eq_true hf)
      dsimp only
      rw [e]
      cases hw : ((pcfg0 (F := Ideal)).win (adm T0 T1 h) (5 : Fin 6)).flush t with
      | true => exact .rfl
      | false =>
        iintro H
        iexists (tile T0 T1 h m c (lastTile T0 T1 h t.val))
        rw [before5 T0 T1 h m ρ c t hf]
        iexact H
    · have e : ExpertIdeal.idle0 (adm T0 T1 h).1 (5 : Fin 6) (((pcfg0 (F := Ideal)).gridAt (adm T0 T1 h).1).coords t) = false := (idle5 T0 T1 h t).trans (decide_eq_false hf)
      dsimp only
      rw [e]
      exact .rfl

theorem share_full (c : Dev nD) (w : Fin (pipe T0 T1 h).W) : (dats T0 T1 h m ρ 0 c).share w = fullShare := by
  unfold Dat.share; split <;> rfl

set_option backward.isDefEq.respectTransparency.types false in
set_option maxHeartbeats 4000000 in
/-- The run: the output array holds the blocks written back, the arguments are as they were. -/
theorem run (hT0 : ∀ c : Dev nD, m ((c : Thread nD τ).loc main_arg0) = T0) (hT1 : ∀ c : Dev nD, m ((c : Thread nD τ).loc main_arg1) = T1) :
    θ_run (defs (F := Ideal)) (onTc (τ := τ) (main (F := Ideal))) ⟨m, fun _ => 0, ρ⟩ (fun r =>
      (∀ c : Dev nD,
        r.2.mem ((c : Thread nD τ).loc main_v0) = (dats T0 T1 h m ρ 0 c).arrAt (5 : Fin 6) (pipe T0 T1 h).N
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0) := by
  refine Pipeline.θ_run_frameP_track (pcs := pcfgs (F := Ideal)) (a := fun _ => adm T0 T1 h) (dats := dats T0 T1 h m ρ) (p := 0)
    (kit := launch0) (defs₀ := defs₀) (𝒱₀ := Variants.none) (m := m) (g := ρ) (main := main)
    (hbody := fun c => (obligation T0 T1 h m ρ c).loose)
    (hshare := fun c w => share_full T0 T1 h m ρ c w)
    (howed := fun _ _ => rfl)
    (V := fun c b => m ((c : Thread nD τ).loc b))
    (hmain := Pipeline.hmainP_region _ _ _ _ _ _ fun _ => rfl)
    (hA := fun _ _ => rfl)
    (Q' := _) (hpf := ?_) (hin := ?_) (hout := ?_) (hQ' := ?_)
  · intro c k
    match k with
    | ⟨0, _⟩ => exact hT0 c
    | ⟨1, _⟩ => exact hT1 c
  · intro c
    rw [show (dats T0 T1 h m ρ 0 c).Φ 0 = ExpertRun.inv T0 T1 h m c 0 from rfl]
    unfold ExpertRun.inv scratches Pipeline.ΦA
    rw [show (cfg0 (F := Ideal) (adm T0 T1 h)).spec = spec0 from rfl, scopedRest0_eq]
    iintro ⟨⟨⟨⟨%a0, HS0⟩, ⟨%a1, HS1⟩⟩, Hr⟩, HT⟩
    isplitl [HS0 HS1]
    · iexists a0; iexists a1; isplitr; swap
      · isplitl [HS0]
        · iexact HS0
        iexact HS1
      · ipureintro
        exact fun hn => absurd rfl hn
    isplitl [Hr]; · iexact Hr
    iexact HT
  · intro c
    rw [show (dats T0 T1 h m ρ 0 c).Φ (Fin.last (pipe T0 T1 h).N) = ExpertRun.inv T0 T1 h m c (pipe T0 T1 h).N from rfl]
    unfold ExpertRun.inv scratches Pipeline.ΦA
    rw [show (cfg0 (F := Ideal) (adm T0 T1 h)).spec = spec0 from rfl, scopedRest0_eq]
    iintro ⟨⟨%a0, %a1, -, HS0, HS1⟩, Hr, -⟩
    isplitl [HS0 HS1]
    · isplitl [HS0]
      · iexists a0; iexact HS0
      iexists a1; iexact HS1
    iexact Hr
  · rintro r ⟨hr, hs⟩
    refine ⟨fun c => ⟨(hr c).1 (5 : Fin 6), (hr c).2 main_arg0 (show main_arg0 ∈ Pipeline.restRefs sig spec0 by decide), (hr c).2 main_arg1 (show main_arg1 ∈ Pipeline.restRefs sig spec0 by decide), ?_, ?_, ?_, ?_, ?_⟩, hs⟩
    · exact ((hr c).1 (0 : Fin 6)).trans ((dats T0 T1 h m ρ 0 c).arrAt_in (0 : Fin 6) rfl _)
    · exact ((hr c).1 (1 : Fin 6)).trans ((dats T0 T1 h m ρ 0 c).arrAt_in (1 : Fin 6) rfl _)
    · exact ((hr c).1 (2 : Fin 6)).trans ((dats T0 T1 h m ρ 0 c).arrAt_in (2 : Fin 6) rfl _)
    · exact ((hr c).1 (3 : Fin 6)).trans ((dats T0 T1 h m ρ 0 c).arrAt_in (3 : Fin 6) rfl _)
    · exact ((hr c).1 (4 : Fin 6)).trans ((dats T0 T1 h m ρ 0 c).arrAt_in (4 : Fin 6) rfl _)

end Cert.Proof.ExpertBody

end
-- ==== Proof.ExpertMlp.lean ====
/-
  The expert MLP of one row, and that the kernel's payload is it.
-/
module

public import proofs.«01_k».proof.Proof.ExpertTile
public import Idealize.ShloMosaic.Lib.Pointwise

@[expose] public section

set_option maxRecDepth 16384
set_option Elab.async false

noncomputable section

namespace Cert.Proof.ExpertMlp

open Idealize.ShloMosaic

/-- The hidden features of a row: its product with the expert's first weights, and the bias. -/
def hidden (x : Fin 1024 → EReal) (w : Fin 1024 → Fin 2048 → EReal) (b : Fin 2048 → EReal) (f : Fin 2048) : EReal :=
  (∑ k : Fin 1024, x k * w k f) + b f

/-- The words of 7, −7 and 1.702. -/
abbrev seven : EReal := Ideal.ofBits .f32 0x40E00000#32
abbrev minusSeven : EReal := Ideal.ofBits .f32 0xC0E00000#32
abbrev alpha : EReal := Ideal.ofBits .f32 0x3FD9DB23#32

/-- The gated unit of a row: the lower features gate the upper ones. -/
def gated (h : Fin 2048 → EReal) (f : Fin 1024) : EReal :=
  min (h ⟨f.val, by omega⟩) seven * Ideal.logistic (alpha * min (h ⟨f.val, by omega⟩) seven)
    * (min seven (max minusSeven (h ⟨1024 + f.val, by omega⟩)) + 1)

/-- The MLP of a row. -/
def mlp (x : Fin 1024 → EReal) (w1 : Fin 1024 → Fin 2048 → EReal) (b1 : Fin 2048 → EReal) (w2 : Fin 1024 → Fin 1024 → EReal)
    (b2 : Fin 1024 → EReal) (d : Fin 1024) : EReal :=
  (∑ f : Fin 1024, gated (hidden x w1 b1) f * w2 f d) + b2 d

section
open Cert.ExpertIdeal Cert.ExpertIdeal.Gen

theorem payload (x : S256x1024.Idx → EReal) (w1 : S1024x2048.Idx → EReal) (b1 : S1x1x2048.Idx → EReal) (w2 : S1024x1024.Idx → EReal)
    (b2 : S1x1x1024.Idx → EReal) (j : S256x1024.Idx) :
    k0_pay3 (F := Ideal) x w1 b1 w2 b2 j
      = mlp (fun k => x (ix2 (j 0) k)) (fun k f => w1 (ix2 k f)) (fun f => b1 (ix3 0 0 f)) (fun f d => w2 (ix2 f d)) (fun d => b2 (ix3 0 0 d)) (j 1) := by
  pointwise [k0_pay3]
  rfl

end

end Cert.Proof.ExpertMlp

end
-- ==== Proof.ExpertValue.lean ====
/-
  The expert kernel's result at the rows of the filled tiles: each row's MLP under its tile's expert.
-/
module

public import proofs.«01_k».proof.Proof.ExpertBody
public import proofs.«01_k».proof.Proof.ExpertMlp

@[expose] public section

set_option maxRecDepth 16384
set_option Elab.async false

noncomputable section

namespace Cert.Proof.ExpertValue

open Cert.ExpertIdeal Cert.ExpertIdeal.Gen Cert.Proof.ExpertIdealTables Cert.Proof.ExpertTile Cert.Proof.ExpertRun Cert.Proof.ExpertBody
open Cert.Proof.ExpertMlp
open Idealize.ShloMosaic
open Idealize.ShloMosaic.TcCoe Idealize.ShloMosaic.Tactic
open Idealize.ShloMosaic.Pipeline (Dat Cfg Window)

variable (T0 : S288.Idx → BitVec 32) (T1 : S1.Idx → BitVec 32) (h : Good T0 T1)
variable (m : (ℓ : Loc nD τ sig) → Buf (Elt Ideal) ℓ) (ρ : Dev nD → PrngReg)

/-- Every tile's MLP, filled or not, as one array. -/
def all (c : Dev nD) : S73728x1024.Idx → EReal := fun i =>
  tile T0 T1 h m c ⟨(i 0).val / 256, by have h0 : (i 0).val < 73728 := (i 0).isLt; omega⟩ (ix2 ⟨(i 0).val % 256, by omega⟩ (i 1))

/-- An element of the output's block at point `t` in the array. -/
theorem emb5 (t : Fin (pipe T0 T1 h).N) (y : S256x1024.Idx) (a : Fin 2) :
    ((((pipe T0 T1 h).win (5 : Fin 6)).blk t).view.emb y a).val = (![256 * (lastTile T0 T1 h t.val).val, 0] : Fin 2 → ℕ) a + (y a).val := by
  have e := transform_5 T0 T1 h (crd T0 T1 h t)
  have hp : (place T0 T1 h t).val = t.val := place_val t
  match a with
  | ⟨0, _⟩ =>
    show cc0_transform_5 inb_S1_S1_0 numel1_S1 (tables T0 T1) (crd T0 T1 h t) 0 * 256 + 1 * (y 0).val = 256 * min t.val (filled T1 - 1) + (y 0).val
    rw [e]
    show min (place T0 T1 h t).val (filled T1 - 1) * 256 + 1 * (y 0).val = _
    rw [hp]; omega
  | ⟨1, _⟩ =>
    show cc0_transform_5 inb_S1_S1_0 numel1_S1 (tables T0 T1) (crd T0 T1 h t) 1 * 1024 + 1 * (y 1).val = 0 + (y 1).val
    rw [e]; show 0 * 1024 + 1 * (y 1).val = _; omega

/-- What a point writes back is its block of that array. -/
theorem flushed5 (c : Dev nD) (t : Fin (pipe T0 T1 h).N) :
    (dats T0 T1 h m ρ 0 c).flushed (5 : Fin 6) t = (((pipe T0 T1 h).win (5 : Fin 6)).blk t).view.read (Elt Ideal) (all T0 T1 h m c) := by
  funext y
  show tile T0 T1 h m c (lastTile T0 T1 h t.val) y = all T0 T1 h m c ((((pipe T0 T1 h).win (5 : Fin 6)).blk t).view.emb y)
  have e0 := emb5 T0 T1 h t y 0
  have e1 := emb5 T0 T1 h t y 1
  generalize (((pipe T0 T1 h).win (5 : Fin 6)).blk t).view.emb y = i at e0 e1
  have y0 : (y 0).val < 256 := (y 0).isLt
  have e0' : (i 0).val = 256 * (lastTile T0 T1 h t.val).val + (y 0).val := e0
  have e1' : (i 1).val = (y 1).val := e1.trans (Nat.zero_add _)
  unfold all
  refine congrArg₂ (tile T0 T1 h m c) (Fin.ext ?_) (funext fun a => Fin.ext ?_)
  · show (lastTile T0 T1 h t.val).val = (i 0).val / 256
    omega
  · match a with
    | ⟨0, _⟩ => show (y 0).val = (i 0).val % 256; omega
    | ⟨1, _⟩ => exact e1'.symm

/-- The result at a row of a filled tile. -/
theorem final (c : Dev nD) (i : S73728x1024.Idx) (hi : (i 0).val / 256 < filled T1) :
    (dats T0 T1 h m ρ 0 c).arrAt (5 : Fin 6) (pipe T0 T1 h).N i = all T0 T1 h m c i := by
  have hl := h.le
  have h0 : (i 0).val < 73728 := (i 0).isLt
  have key : ∀ t : Fin (pipe T0 T1 h).N, (t.val + 1 < filled T1 ∨ t.val + 1 = 288) → min t.val (filled T1 - 1) = (i 0).val / 256 →
      (dats T0 T1 h m ρ 0 c).arrAt (5 : Fin 6) (pipe T0 T1 h).N i = all T0 T1 h m c i := fun t hf he => by
    refine (dats T0 T1 h m ρ 0 c).arrAt_apply_of_mem (5 : Fin 6) (all T0 T1 h m c) (fun t _ => flushed5 T0 T1 h m ρ c t) _ t i t.isLt
      ((flush5 T0 T1 h t).trans (decide_eq_true hf)) ?_
    refine Finset.mem_map.2 ⟨ix2 ⟨(i 0).val % 256, by omega⟩ (i 1), Finset.mem_univ _, funext fun a => Fin.ext ?_⟩
    refine (emb5 T0 T1 h t _ a).trans ?_
    match a with
    | ⟨0, _⟩ => show 256 * min t.val (filled T1 - 1) + (i 0).val % 256 = (i 0).val; omega
    | ⟨1, _⟩ => exact Nat.zero_add _
  have hN : (pipe T0 T1 h).N = 288 := N_0
  by_cases hlast : (i 0).val / 256 + 1 < filled T1
  · exact key ⟨(i 0).val / 256, by omega⟩ (Or.inl hlast) (by show min ((i 0).val / 256) _ = _; omega)
  · exact key ⟨287, by omega⟩ (Or.inr rfl) (by show min 287 _ = _; omega)

/-- That array's elements, each its row's MLP. -/
theorem all_eq (c : Dev nD) (i : S73728x1024.Idx) (t : Fin 288) (r : Fin 256) (d : Fin 1024) (hi : (i 0).val = 256 * t.val + r.val) (hd : (i 1).val = d.val) :
    all T0 T1 h m c i = mlp (fun k => arrX m c (ix2 ⟨256 * t.val + r.val, by omega⟩ k)) (fun k f => arrW1 m c (ix3 (expertOf T0 T1 h t) k f))
      (fun f => arrB1 m c (ix3 (expertOf T0 T1 h t) 0 f)) (fun f d => arrW2 m c (ix3 (expertOf T0 T1 h t) f d))
      (fun d => arrB2 m c (ix3 (expertOf T0 T1 h t) 0 d)) d := by
  have e : all T0 T1 h m c i = tile T0 T1 h m c t (ix2 r d) := by
    unfold all
    refine congrArg₂ (tile T0 T1 h m c) (Fin.ext ?_) (funext fun a => Fin.ext ?_)
    · show (i 0).val / 256 = t.val; omega
    · match a with
      | ⟨0, _⟩ => show (i 0).val % 256 = r.val; omega
      | ⟨1, _⟩ => exact hd
  rw [e]
  unfold tile
  exact payload _ _ _ _ _ _

end Cert.Proof.ExpertValue

end
-- ==== Proof.ExpertRef.lean ====
/-
  The reference of the expert MLP, read at an element: the row's MLP under its tile's expert.
-/
module

public import proofs.«01_k».proof.Proof.ExpertMlp
public import proofs.«01_k».proof.Proof.Gen.ExpertRefIdeal.Read
public import Idealize.ShloMosaic.Lib.Pointwise

@[expose] public section

set_option maxRecDepth 16384
set_option Elab.async false

noncomputable section

namespace Cert.Proof.ExpertRef

open Idealize.ShloMosaic Cert.Proof.ExpertMlp

/-- Whole planes of a stack taken at a list of plane numbers: element (i, y, z) is the stack's at plane `b`, the number at
    `i`, and (y, z). -/
theorem take_planes {α : Type} {nb A B n : ℕ} (d : GatherDims ⟨3, ![nb, A, B]⟩ ⟨2, ![n, 1]⟩ ⟨3, ![n, A, B]⟩)
    (hoff : d.offsetDims = [1, 2]) (hcoll : d.collapsedSliceDims = [0]) (hob : d.operandBatchingDims = [])
    (hsim : d.startIndexMap = [0]) (hivd : d.indexVectorDim = 1) (x : (⟨3, ![nb, A, B]⟩ : Shape).Idx → α)
    (idx : IVec ⟨2, ![n, 1]⟩ 32) (i : Fin n) (y : Fin A) (z : Fin B) (b : Fin nb)
    (hb : (idx (ix2 i (0 : Fin 1))).toInt = b.val) :
    Host.gather d x idx (ix3 i y z) = x (ix3 b y z) := by
  unfold Host.gather
  refine congrArg x (funext fun a => Fin.ext ?_)
  have hbN : ∀ a', a' ∉ d.operandBatchingDims := fun a' => by rw [hob]; exact List.not_mem_nil
  have hs : d.sKept = [1, 2] := by unfold GatherDims.sKept; rw [hcoll, hob]; rfl
  match a with
  | ⟨0, _⟩ =>
    have hk : (0 : Fin 3) ∉ d.sKept := fun h => ((d.mem_sKept 0).1 h).1 (by rw [hcoll]; exact List.mem_singleton.2 rfl)
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 i y z) idx 0 + d.batchCoord (ix3 i y z) 0 + d.offCoord (ix3 i y z) 0 = b.val
    rw [d.batchCoord_eq_zero _ _ (hbN 0), d.offCoord_eq_zero _ _ hk]
    simp only [Nat.add_zero]
    unfold GatherDims.start
    rw [dif_pos hm]
    have hsi : d.siIdx (ix3 i y z) ⟨d.startIndexMap.idxOf 0, List.idxOf_lt_length_iff.2 hm⟩ = ix2 i (0 : Fin 1) := by
      obtain ⟨off, coll, ob, sb, sim, iv, ss, wf⟩ := d
      dsimp only at hoff hsim hivd
      subst hoff hsim hivd
      funext b'
      match b' with
      | ⟨0, _⟩ => exact Fin.ext rfl
      | ⟨1, _⟩ => exact Fin.ext rfl
    have hbl := b.isLt
    rw [hsi, hb, hsl]
    show min ((b.val : Int)).toNat (nb - 1) = b.val
    omega
  | ⟨1, _⟩ =>
    have hk : (1 : Fin 3) ∈ d.sKept := by rw [hs]; show (1 : Fin 3) ∈ ([1, 2] : List (Fin 3)); decide
    have hm : (1 : Fin 3) ∉ d.startIndexMap := by rw [hsim]; show (1 : Fin 3) ∉ ([0] : List (Fin 3)); decide
    show d.start (ix3 i y z) idx 1 + d.batchCoord (ix3 i y z) 1 + d.offCoord (ix3 i y z) 1 = y.val
    rw [d.batchCoord_eq_zero _ _ (hbN 1), Nat.add_zero]
    unfold GatherDims.start GatherDims.offCoord
    rw [dif_neg hm, dif_pos hk, Nat.zero_add]
    have e : ∀ w : Fin 3, w = 1 → (ix3 i y z w).val = y.val := fun w h => by subst h; rfl
    exact e _ (by simp [hoff, hs])
  | ⟨2, _⟩ =>
    have hk : (2 : Fin 3) ∈ d.sKept := by rw [hs]; show (2 : Fin 3) ∈ ([1, 2] : List (Fin 3)); decide
    have hm : (2 : Fin 3) ∉ d.startIndexMap := by rw [hsim]; show (2 : Fin 3) ∉ ([0] : List (Fin 3)); decide
    show d.start (ix3 i y z) idx 2 + d.batchCoord (ix3 i y z) 2 + d.offCoord (ix3 i y z) 2 = z.val
    rw [d.batchCoord_eq_zero _ _ (hbN 2), Nat.add_zero]
    unfold GatherDims.start GatherDims.offCoord
    rw [dif_neg hm, dif_pos hk, Nat.zero_add]
    have e : ∀ w : Fin 3, w = 2 → (ix3 i y z w).val = z.val := fun w h => by subst h; rfl
    exact e _ (by simp [hoff, hs])

open Cert.ExpertRefIdeal Cert.ExpertRefIdeal.Read

variable (x0 : S288.Idx → BitVec 32) (x2 : S73728x1024.Idx → EReal) (x3 : S128x1024x2048.Idx → EReal) (x4 : S128x1x2048.Idx → EReal)
  (x5 : S128x1024x1024.Idx → EReal) (x6 : S128x1x1024.Idx → EReal)

/-- A tile's expert, in range. -/
theorem toInt_expert (v : BitVec 32) (hv : v.toNat < 128) : v.toInt = v.toNat := by
  rw [BitVec.toInt_eq_toNat_cond, if_pos (by omega)]

theorem wrapped (v : BitVec 32) (hv : v.toNat < 128) :
    Scalar.select (IntOp.cmpi .slt v 0#32) (IntOp.addi v 128#32) v = v := by
  have h : ¬ v.toInt < (0#32).toInt := by rw [toInt_expert v hv, BitVec.toInt_zero]; omega
  have e : IntOp.cmpi .slt v 0#32 = 0#1 := by
    show BitVec.ofBool (v.slt 0#32) = 0#1
    rw [BitVec.slt, decide_eq_false h]; rfl
  rw [e]; rfl

variable (hx : ∀ t : Fin 288, (x0 (ix1 t)).toNat < 128)

/-- The expert of a tile. -/
abbrev owner (t : Fin 288) : Fin 128 := ⟨(x0 (ix1 t)).toNat, hx t⟩

theorem planes3 (t : Fin 288) (y : Fin 1024) (z : Fin 2048) : val_main_v7 (F := Ideal) x0 x3 (ix3 t y z) = x3 (ix3 (owner x0 hx t) y z) := by
  unfold val_main_v7
  refine take_planes _ rfl rfl rfl rfl rfl _ _ t y z (owner x0 hx t) ?_
  rw [val_main_v6_apply, val_main_v5_apply, val_main_v2_apply, val_main_v1_apply, val_main_c_apply, val_main_v4_apply, val_main_v3_apply, val_main_c_0_apply,
    show idx_main_v6 (ix2 t 0) = ix1 t from funext fun a => match a with | ⟨0, _⟩ => rfl, wrapped _ (hx t)]
  exact toInt_expert _ (hx t)

theorem planes4 (t : Fin 288) (y : Fin 1) (z : Fin 2048) : val_main_v15 (F := Ideal) x0 x4 (ix3 t y z) = x4 (ix3 (owner x0 hx t) y z) := by
  unfold val_main_v15
  refine take_planes _ rfl rfl rfl rfl rfl _ _ t y z (owner x0 hx t) ?_
  rw [val_main_v14_apply, val_main_v13_apply, val_main_v10_apply, val_main_v9_apply, val_main_c_1_apply, val_main_v12_apply, val_main_v11_apply, val_main_c_2_apply,
    show idx_main_v14 (ix2 t 0) = ix1 t from funext fun a => match a with | ⟨0, _⟩ => rfl, wrapped _ (hx t)]
  exact toInt_expert _ (hx t)

theorem planes5 (t : Fin 288) (y : Fin 1024) (z : Fin 1024) : val_main_v41 (F := Ideal) x0 x5 (ix3 t y z) = x5 (ix3 (owner x0 hx t) y z) := by
  unfold val_main_v41
  refine take_planes _ rfl rfl rfl rfl rfl _ _ t y z (owner x0 hx t) ?_
  rw [val_main_v40_apply, val_main_v39_apply, val_main_v36_apply, val_main_v35_apply, val_main_c_9_apply, val_main_v38_apply, val_main_v37_apply, val_main_c_10_apply,
    show idx_main_v40 (ix2 t 0) = ix1 t from funext fun a => match a with | ⟨0, _⟩ => rfl, wrapped _ (hx t)]
  exact toInt_expert _ (hx t)

theorem planes6 (t : Fin 288) (y : Fin 1) (z : Fin 1024) : val_main_v49 (F := Ideal) x0 x6 (ix3 t y z) = x6 (ix3 (owner x0 hx t) y z) := by
  unfold val_main_v49
  refine take_planes _ rfl rfl rfl rfl rfl _ _ t y z (owner x0 hx t) ?_
  rw [val_main_v48_apply, val_main_v47_apply, val_main_v44_apply, val_main_v43_apply, val_main_c_11_apply, val_main_v46_apply, val_main_v45_apply, val_main_c_12_apply,
    show idx_main_v48 (ix2 t 0) = ix1 t from funext fun a => match a with | ⟨0, _⟩ => rfl, wrapped _ (hx t)]
  exact toInt_expert _ (hx t)

/-- A row of a tile. -/
abbrev row (t : Fin 288) (r : Fin 256) (k : Fin 1024) : EReal := x2 (ix2 ⟨256 * t.val + r.val, by omega⟩ k)

theorem features (t : Fin 288) (r : Fin 256) (f : Fin 2048) :
    val_main_v17 (F := Ideal) x0 x2 x3 x4 (ix3 t r f)
      = hidden (row x2 t r) (fun k f => x3 (ix3 (owner x0 hx t) k f)) (fun f => x4 (ix3 (owner x0 hx t) 0 f)) f := by
  rw [val_main_v17_apply, val_main_v8_apply, val_main_v16_apply]
  refine congrArg₂ (fun a b : EReal => a + b) (Finset.sum_congr rfl fun k _ => congrArg₂ (fun a b : EReal => a * b) ?_ ?_) ?_
  · rw [val_main_v0_apply]
    refine congrArg x2 (funext fun a => Fin.ext ?_)
    match a with
    | ⟨0, _⟩ => show ((t.val * 256 + r.val) * 1024 + k.val) / 1024 = 256 * t.val + r.val; omega
    | ⟨1, _⟩ => show ((t.val * 256 + r.val) * 1024 + k.val) % 1024 = k.val; omega
  · rw [show ridx_main_v8 (ix3 t r f) k = ix3 t k f from funext fun a => match a with | ⟨0, _⟩ => rfl | ⟨1, _⟩ => rfl | ⟨2, _⟩ => rfl]
    exact planes3 x0 x3 hx t k f
  · rw [show idx_main_v16 (ix3 t r f) = ix3 t 0 f from funext fun a => match a with | ⟨0, _⟩ => rfl | ⟨1, _⟩ => rfl | ⟨2, _⟩ => rfl]
    exact planes4 x0 x4 hx t 0 f

theorem gates (t : Fin 288) (r : Fin 256) (f : Fin 1024) :
    val_main_v34 (F := Ideal) x0 x2 x3 x4 (ix3 t r f) = gated (fun f => val_main_v17 (F := Ideal) x0 x2 x3 x4 (ix3 t r f)) f := by
  rw [val_main_v34_apply, val_main_v31_apply, val_main_v33_apply, val_main_v32_apply, val_main_cst_8_apply, val_main_v22_apply,
    val_main_call0_v4_apply, val_main_call0_v3_apply, val_main_cst_4_apply, val_main_call0_v2_apply, val_main_call0_v1_apply, val_main_call0_v0_apply,
    val_main_cst_3_apply, val_main_v21_apply, val_main_v30_apply, val_main_v29_apply, val_main_cst_7_apply, val_main_v28_apply, val_main_v27_apply, val_main_cst_6_apply, val_main_v26_apply,
    val_main_v25_apply, val_main_v24_apply, val_main_v23_apply, val_main_cst_5_apply, val_main_v20_apply, val_main_v19_apply, val_main_cst_apply, val_main_v18_apply,
    show idx_main_v18 (ix3 t r f) = ix3 t r ⟨f.val, by omega⟩ from funext fun a => match a with | ⟨0, _⟩ => rfl | ⟨1, _⟩ => rfl | ⟨2, _⟩ => rfl,
    show idx_main_v21 (ix3 t r f) = ix3 t r ⟨1024 + f.val, by omega⟩ from funext fun a => match a with | ⟨0, _⟩ => rfl | ⟨1, _⟩ => rfl | ⟨2, _⟩ => rfl]
  unfold gated
  dsimp only
  rw [show (FloatOps.ofBits FTy.f32 0x3F800000#32 : Ideal .f32) = (1 : EReal) from Ideal.ofBits_one_f32]
  generalize val_main_v17 (F := Ideal) x0 x2 x3 x4 (ix3 t r ⟨f.val, _⟩) = a
  generalize val_main_v17 (F := Ideal) x0 x2 x3 x4 (ix3 t r ⟨1024 + f.val, _⟩) = b
  rfl

theorem result (i : S73728x1024.Idx) (t : Fin 288) (r : Fin 256) (d : Fin 1024) (hi : (i 0).val = 256 * t.val + r.val) (hd : (i 1).val = d.val) :
    val_main_v52 (F := Ideal) x0 x2 x3 x4 x5 x6 i
      = mlp (row x2 t r) (fun k f => x3 (ix3 (owner x0 hx t) k f)) (fun f => x4 (ix3 (owner x0 hx t) 0 f))
          (fun f d => x5 (ix3 (owner x0 hx t) f d)) (fun d => x6 (ix3 (owner x0 hx t) 0 d)) d := by
  have e : idx_main_v52 i = ix3 t r d := funext fun a => Fin.ext (by
    match a with
    | ⟨0, _⟩ => show ((i 0).val * 1024 + (i 1).val) / 262144 = t.val; omega
    | ⟨1, _⟩ => show ((i 0).val * 1024 + (i 1).val) / 1024 % 256 = r.val; omega
    | ⟨2, _⟩ => show ((i 0).val * 1024 + (i 1).val) % 1024 = d.val; omega)
  rw [val_main_v52_apply, e, val_main_v51_apply, val_main_v42_apply, val_main_v50_apply]
  refine congrArg₂ (fun a b : EReal => a + b) (Finset.sum_congr rfl fun f _ => congrArg₂ (fun a b : EReal => a * b) ?_ ?_) ?_
  · rw [show lidx_main_v42 (ix3 t r d) f = ix3 t r f from funext fun a => match a with | ⟨0, _⟩ => rfl | ⟨1, _⟩ => rfl | ⟨2, _⟩ => rfl]
    refine (gates x0 x2 x3 x4 t r f).trans ?_
    exact congrArg (fun g => gated g f) (funext fun f => features x0 x2 x3 x4 hx t r f)
  · rw [show ridx_main_v42 (ix3 t r d) f = ix3 t f d from funext fun a => match a with | ⟨0, _⟩ => rfl | ⟨1, _⟩ => rfl | ⟨2, _⟩ => rfl]
    exact planes5 x0 x5 hx t f d
  · rw [show idx_main_v50 (ix3 t r d) = ix3 t 0 d from funext fun a => match a with | ⟨0, _⟩ => rfl | ⟨1, _⟩ => rfl | ⟨2, _⟩ => rfl]
    exact planes6 x0 x6 hx t 0 d

end Cert.Proof.ExpertRef

end
-- ==== Proof.ExpertPre.lean ====
/-
  The expert program's precondition and mask as numbers: the tables name experts below 128, between 1 and 288 tiles are
  filled, and the mask's rows are those of the filled tiles.
-/
module

public import proofs.«01_k».proof.Proof.Gen.Pre_tables
public import proofs.«01_k».proof.Proof.Gen.On_filled_rows
public import proofs.«01_k».proof.Proof.TileWords
public import Idealize.ShloMosaic.Lib.ReduceAll
public import Idealize.ShloMosaic.Lib.Pointwise

@[expose] public section

noncomputable section

namespace Cert.Proof.ExpertPre

open Idealize.ShloMosaic Cert.Pre_tables Cert.Pre_tables.Gen Cert.Proof.TileWords

instance : Subsingleton S_.Idx := ⟨fun _ _ => funext fun a => a.elim0⟩

theorem ofBool_iff (b : Bool) : BitVec.ofBool b = 1#1 ↔ b = true := by cases b <;> decide

/-- A word that is not negative, as its comparison with 0 says, is its unsigned reading. -/
theorem toInt_of_sge (v : BitVec 32) (h : IntOp.cmpi .sge v 0#32 = 1#1) : v.toInt = (v.toNat : Int) := by
  have h' : (0#32).toInt ≤ v.toInt := by
    have := (ofBool_iff ((0#32).sle v)).mp h
    rwa [BitVec.sle, decide_eq_true_eq] at this
  rw [BitVec.toInt_zero] at h'
  rw [BitVec.toInt_eq_toNat_cond] at h' ⊢
  have := v.isLt
  split at h' <;> omega

theorem lt_of_tests (v : BitVec 32) (h : IntOp.cmpi .sge v 0#32 = 1#1) (h' : IntOp.cmpi .slt v 128#32 = 1#1) : v.toNat < 128 := by
  have e := toInt_of_sge v h
  have l := (ofBool_iff (v.slt 128#32)).mp h'
  rw [BitVec.slt, decide_eq_true_eq, e, show (128#32).toInt = 128 from by decide] at l
  omega

theorem range_of_tests (v : BitVec 32) (h : IntOp.cmpi .sge v 1#32 = 1#1) (h' : IntOp.cmpi .sle v 288#32 = 1#1) : 1 ≤ v.toNat ∧ v.toNat ≤ 288 := by
  have g := (ofBool_iff ((1#32).sle v)).mp h
  have l := (ofBool_iff (v.sle 288#32)).mp h'
  rw [BitVec.sle, decide_eq_true_eq, show (1#32).toInt = 1 from by decide] at g
  rw [BitVec.sle, decide_eq_true_eq, show (288#32).toInt = 288 from by decide] at l
  rw [BitVec.toInt_eq_toNat_cond] at g l
  have := v.isLt
  split at g <;> omega

/-- The precondition, read. -/
theorem read {F : FTy → Type} [FloatOps F] (T0 : IVec S288 32) (T1 : IVec S1 32) (X : FVec F S73728x1024 .f32) (W1 : FVec F S128x1024x2048 .f32)
    (B1 : FVec F S128x1x2048 .f32) (W2 : FVec F S128x1024x1024 .f32) (B2 : FVec F S128x1x1024 .f32)
    (h : fn T0 T1 X W1 B1 W2 B2 = fun _ => 1#1) :
    (∀ i : Fin 288, (T0 (ix1 i)).toNat < 128) ∧ 1 ≤ (T1 (ix1 0)).toNat ∧ (T1 (ix1 0)).toNat ≤ 288 := by
  have e := congrFun h (fun a : Fin 0 => a.elim0)
  dsimp only [fn] at e
  obtain ⟨e0, e1⟩ := IntOp.andi_eq_one.mp e
  refine ⟨fun i => ?_, ?_⟩
  · obtain ⟨a, b⟩ := IntOp.andi_eq_one.mp (Host.reduce_andi_all _ _ _ _ _ e0 (ix1 i))
    exact lt_of_tests _ a b
  · obtain ⟨a, b⟩ := IntOp.andi_eq_one.mp (Host.reduce_andi_all _ _ _ _ _ e1 (ix1 0))
    exact range_of_tests _ a b

/-- The sign of a word. -/
def sign (w : BitVec 32) : BitVec 32 := if w = 0 then 0 else if w.msb = true then -1 else 1

/-- The floor division of a word by 256, as jnp's `//` prints it. -/
def tileWord (w : BitVec 32) : BitVec 32 :=
  Scalar.select
    (IntOp.andi (IntOp.cmpi .ne (sign w) (sign 256#32)) (IntOp.cmpi .ne (IntOp.remsi ArithUnit.host w 256#32) 0#32))
    (IntOp.subi (IntOp.divsi ArithUnit.host w 256#32) 1#32) (IntOp.divsi ArithUnit.host w 256#32)

theorem select_off (a b : BitVec 32) (c d : BitVec 1) (h : c = 0#1 ∨ d = 0#1) : Scalar.select (IntOp.andi c d) a b = b := by
  have : IntOp.andi c d = 0#1 := by revert c d; decide
  rw [this]; rfl

/-- Of a word that is not negative it is the quotient. -/
theorem tileWord_toNat (w : BitVec 32) (hw : w.msb = false) : (tileWord w).toNat = w.toNat / 256 := by
  have hc : ¬ IntOp.SDivCorner w 256#32 := by
    rintro (hz | ⟨-, hm⟩)
    · exact absurd hz (by decide)
    · exact absurd hm (by decide)
  have hd : IntOp.divsi ArithUnit.host w 256#32 = w / 256#32 := by
    unfold IntOp.divsi
    rw [if_neg hc, BitVec.sdiv_eq, hw, show (256#32).msb = false from by decide]
    rfl
  unfold tileWord
  rw [select_off, hd, BitVec.toNat_udiv]; rfl
  by_cases h0 : w = 0
  · subst h0; exact Or.inr (by decide)
  · left
    have : sign w = sign 256#32 := by
      unfold sign; rw [if_neg h0, hw]; decide
    rw [this]; decide

open Cert.On_filled_rows.Gen in
/-- The mask at a row: the row's tile is filled. -/
theorem filled_of_mask {F : FTy → Type} [FloatOps F] (T0 : IVec S288 32) (T1 : IVec S1 32) (X : FVec F S73728x1024 .f32) (W1 : FVec F S128x1024x2048 .f32)
    (B1 : FVec F S128x1x2048 .f32) (W2 : FVec F S128x1024x1024 .f32) (B2 : FVec F S128x1x1024 .f32) (hT : (T1 (ix1 0)).toNat ≤ 288)
    (i : S73728x1024.Idx) (h : Cert.On_filled_rows.fn T0 T1 X W1 B1 W2 B2 i = 1#1) : (i 0).val / 256 < (T1 (ix1 0)).toNat := by
  have h0 : (i 0).val < 73728 := (i 0).isLt
  have e : IntOp.cmpi .slt (tileWord (BitVec.ofNat 32 (i 0).val)) (T1 (ix1 0)) = 1#1 := by
    refine Eq.trans (congrArg₂ (IntOp.cmpi .slt) rfl (congrArg T1 (funext fun a => ?_))) h
    match a with
    | ⟨0, _⟩ => exact Subsingleton.elim (α := Fin 1) _ _
  have hn : (BitVec.ofNat 32 (i 0).val).toNat = (i 0).val := toNat_ofNat_small _ (by omega)
  have hm : (BitVec.ofNat 32 (i 0).val).msb = false := by
    rw [BitVec.msb_eq_false_iff_two_mul_lt, hn]; omega
  have hq := tileWord_toNat _ hm
  rw [hn] at hq
  have l := (ofBool_iff ((tileWord (BitVec.ofNat 32 (i 0).val)).slt (T1 (ix1 0)))).mp e
  rw [BitVec.slt, decide_eq_true_eq, toInt_small _ (by omega), toInt_small _ (by omega), hq] at l
  exact_mod_cast l

end Cert.Proof.ExpertPre

end
-- ==== Proof.PrepValue.lean ====
/-
  The projection of the odd layers' queries, keys and values: what the kernel's three arrays hold, and that the reference's
  are the same.
-/
module

public import proofs.«01_k».proof.Proof.Gen.PrepCIdeal.Value
public import proofs.«01_k».proof.Proof.Gen.PrepCRefIdeal.Read
public import Idealize.ShloMosaic.Lib.Pointwise
public import Idealize.ShloMosaic.Lib.StableHlo.ReadAt
public import Idealize.ShloMosaic.Lib.Pipeline.ValueKit
public import Idealize.ShloMosaic.Lib.Pipeline.ReadBack

@[expose] public section

set_option maxRecDepth 16384
set_option Elab.async false

noncomputable section

namespace Cert.Proof.PrepValue

open Idealize.ShloMosaic Idealize.ShloMosaic.TcCoe Idealize.SL.Sem

/-- A row of the input by a column of the weights. -/
def proj (x : (⟨2, ![16384, 1024]⟩ : Shape).Idx → EReal) (w : (⟨2, ![1024, 3072]⟩ : Shape).Idx → EReal) (r : Fin 16384) (f : Fin 3072) : EReal :=
  ∑ k : Fin 1024, x (ix2 r k) * w (ix2 k f)

/-- The word of 1/8. -/
abbrev eighth : EReal := Ideal.ofBits .f32 0x3E000000#32

/-- The queries: the first 1024 columns, scaled. -/
def query (x : (⟨2, ![16384, 1024]⟩ : Shape).Idx → EReal) (w : (⟨2, ![1024, 3072]⟩ : Shape).Idx → EReal) : (⟨2, ![16384, 1024]⟩ : Shape).Idx → EReal :=
  fun i => proj x w (i 0) ⟨(i 1).val, Nat.lt_trans (i 1).isLt (by decide)⟩ * eighth

/-- The keys. -/
def key (x : (⟨2, ![16384, 1024]⟩ : Shape).Idx → EReal) (w : (⟨2, ![1024, 3072]⟩ : Shape).Idx → EReal) : (⟨2, ![16384, 1024]⟩ : Shape).Idx → EReal :=
  fun i => proj x w (i 0) ⟨1024 + (i 1).val, Nat.lt_of_lt_of_le (Nat.add_lt_add_left (i 1).isLt 1024) (by decide)⟩

/-- The values. -/
def value (x : (⟨2, ![16384, 1024]⟩ : Shape).Idx → EReal) (w : (⟨2, ![1024, 3072]⟩ : Shape).Idx → EReal) : (⟨2, ![16384, 1024]⟩ : Shape).Idx → EReal :=
  fun i => proj x w (i 0) ⟨2048 + (i 1).val, Nat.lt_of_lt_of_le (Nat.add_lt_add_left (i 1).isLt 2048) (by decide)⟩

section Kernel

open Cert.PrepCIdeal Cert.PrepCIdeal.Gen

variable (m : (ℓ : Loc nD τ sig) → Buf (Elt Ideal) ℓ) (c : Dev nD)

theorem query_payload (P0 : S512x1024.Idx → EReal) (P1 : S1024x3072.Idx → EReal) (r : Fin 512) (f : Fin 1024) :
    k0_pay2 (F := Ideal) P0 P1 (ix2 r f) = (∑ k : Fin 1024, P0 (ix2 r k) * P1 (ix2 k ⟨f.val, by omega⟩)) * eighth := by
  pointwise [k0_pay2, k0_pay1]

theorem key_payload (P0 : S512x1024.Idx → EReal) (P1 : S1024x3072.Idx → EReal) (r : Fin 512) (f : Fin 1024) :
    k0_pay3 (F := Ideal) P0 P1 (ix2 r f) = ∑ k : Fin 1024, P0 (ix2 r k) * P1 (ix2 k ⟨1024 + f.val, by omega⟩) := by
  pointwise [k0_pay3, k0_pay1]

theorem value_payload (P0 : S512x1024.Idx → EReal) (P1 : S1024x3072.Idx → EReal) (r : Fin 512) (f : Fin 1024) :
    k0_pay4 (F := Ideal) P0 P1 (ix2 r f) = ∑ k : Fin 1024, P0 (ix2 r k) * P1 (ix2 k ⟨2048 + f.val, by omega⟩) := by
  pointwise [k0_pay4, k0_pay1]

/-- The row tile of a point. -/
abbrev tile (t : Fin cfg0.N) : Fin 32 := grid0.coords t 0

theorem idx (t : Fin cfg0.N) :
    win0_0.index t = ![(tile t).val, 0] ∧ win0_1.index t = ![0, 0] ∧ win0_2.index t = ![(tile t).val, 0]
      ∧ win0_3.index t = ![(tile t).val, 0] ∧ win0_4.index t = ![(tile t).val, 0] :=
  (by decide +kernel : ∀ t : Fin grid0.N,
    win0_0.index t = ![(tile t).val, 0] ∧ win0_1.index t = ![0, 0] ∧ win0_2.index t = ![(tile t).val, 0]
      ∧ win0_3.index t = ![(tile t).val, 0] ∧ win0_4.index t = ![(tile t).val, 0]) t

/-- The input block. -/
theorem input (t : Fin cfg0.N) (a : Fin 512) (b : Fin 1024) : iblk m c 0 t (ix2 a b)
    = m ((c.tc : Thread nD τ).loc main_arg0) (ix2 ⟨512 * (tile t).val + a.val, by have := (tile t).isLt; omega⟩ b) := by
  blk_ext [iblk, V, idx t]

/-- The weights, cast. -/
theorem weights (t : Fin cfg0.N) (a : Fin 1024) (b : Fin 3072) : iblk m c 1 t (ix2 a b)
    = m ((c.tc : Thread nD τ).loc main_arg1) (ix2 a b) := by
  have h : Gen.V (F := Ideal) m c main_v0 (ix2 a b) = m ((c.tc : Thread nD τ).loc main_arg1) (ix2 a b) := by
    unfold Gen.V
    after_reads_at
  refine Eq.trans ?_ h
  blk_ext [iblk, idx t]

/-- A block's element, from the payload's. -/
theorem block (t : Fin cfg0.N) (r : Fin 512) (f : Fin 3072) (i : Fin 16384) (f' : Fin 3072) (hi : i.val = 512 * (tile t).val + r.val) (hf : f'.val = f.val) :
    ∑ k : Fin 1024, (show EReal from iblk m c 0 t (ix2 r k)) * (show EReal from iblk m c 1 t (ix2 k f))
      = proj (m ((c.tc : Thread nD τ).loc main_arg0)) (m ((c.tc : Thread nD τ).loc main_arg1)) i f' := by
  obtain rfl : f' = f := Fin.ext hf
  unfold proj
  refine Finset.sum_congr rfl fun k _ => ?_
  rw [input, weights]
  exact congrArg₂ (fun a b : EReal => a * b) (congrArg _ (congrArg (fun z => ix2 z k) (Fin.ext hi.symm))) rfl

/-- The query array. -/
theorem final2 : (dats (F := Ideal) m 0 c).arrAt 2 cfg0.N = query (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  refine (congrArg _ (ix2_eta y).symm).trans ((query_payload _ _ (y 0) (y 1)).trans ?_)
  unfold query
  refine congrArg (fun a : EReal => a * eighth) (block m c t (y 0) _ _ _ ?_ ?_)
  · blk_simp [idx t]
    simp [Nat.mul_comm]
  · blk_simp [idx t]

/-- The key array. -/
theorem final3 : (dats (F := Ideal) m 0 c).arrAt 3 cfg0.N = key (m ((c.tc : Thread nD τ).loc main_arg0)) (m ((c.tc : Thread nD τ).loc main_arg1)) := by
  refine (dats m 0 c).arrAt_eq_of_covers 3 _ (by decide +kernel) fun t hf y => ?_
  blk_simp
  rw [after0_3]
  frame_out
  refine (congrArg _ (ix2_eta y).symm).trans ((key_payload _ _ (y 0) (y 1)).trans ?_)
  unfold key
  refine (block m c t (y 0) _ _ _ ?_ ?_)
  · blk_simp [idx t]
    simp [Nat.mul_comm]
  · blk_simp [idx t]

/-- The value array. -/
theorem final4 : (dats (F := Ideal) m 0 c).arrAt 4 cfg0.N = value (m ((c.tc : Thread nD τ).loc main_arg0)) (m ((c.tc : Thread nD τ).loc main_arg1)) := by
  refine (dats m 0 c).arrAt_eq_of_covers 4 _ (by decide +kernel) fun t hf y => ?_
  blk_simp
  rw [after0_4]
  frame_out
  refine (congrArg _ (ix2_eta y).symm).trans ((value_payload _ _ (y 0) (y 1)).trans ?_)
  unfold value
  refine (block m c t (y 0) _ _ _ ?_ ?_)
  · blk_simp [idx t]
    simp [Nat.mul_comm]
  · blk_simp [idx t]

end Kernel

section Reference

open Cert.PrepCRefIdeal Cert.PrepCRefIdeal.Read

variable (x0 : S16384x1024.Idx → EReal) (x1 : S1024x3072.Idx → EReal)

theorem reference_proj (i : S16384x3072.Idx) : val_main_v0 (F := Ideal) x0 x1 i = proj x0 x1 (i 0) (i 1) := by
  rw [val_main_v0_apply]
  refine Finset.sum_congr rfl fun k _ => congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

theorem reference_query : val_main_v6 (F := Ideal) x0 x1 = query x0 x1 := by
  funext i
  rw [val_main_v6_apply, val_main_v5_apply, val_main_v1_apply, val_main_v4_apply, val_main_cst_apply, reference_proj]
  rfl

theorem reference_key : val_main_v7 (F := Ideal) x0 x1 = key x0 x1 := by
  funext i
  rw [val_main_v7_apply, val_main_v2_apply, reference_proj]
  rfl

theorem reference_value : val_main_v8 (F := Ideal) x0 x1 = value x0 x1 := by
  funext i
  rw [val_main_v8_apply, val_main_v3_apply, reference_proj]
  rfl

end Reference

end Cert.Proof.PrepValue

end
-- ==== Proof.Norm.lean ====
/-
  The layer norm of a row of 1024 features.
-/
module

public import Idealize.ShloMosaic.PureOps.Ideal.Laws
public import Idealize.ShloMosaic.Lib.Pointwise

@[expose] public section

noncomputable section

namespace Cert.Proof.Norm

open Idealize.ShloMosaic

/-- The words of 1024, of the norm's epsilon and of the residual's weight. -/
abbrev width : EReal := Ideal.ofBits .f32 0x44800000#32
abbrev eps : EReal := Ideal.ofBits .f32 0x3727C5AC#32
abbrev skip : EReal := Ideal.ofBits .f32 0x3FD744FD#32

/-- The mean of a row. -/
def mean (y : Fin 1024 → EReal) : EReal := Ideal.div (∑ d, y d) width

/-- The norm of a row, scaled by `g` and shifted by `b`. -/
def normed (y g b : Fin 1024 → EReal) (d : Fin 1024) : EReal :=
  (y d - mean y) * Ideal.rsqrt (mean (fun e => (y e - mean y) * (y e - mean y)) + eps) * g d + b d

end Cert.Proof.Norm

end
-- ==== Proof.PostABValue.lean ====
/-
  The output projection of the even layers, whose two head groups lie side by side, its residual and its layer norm: what the kernel's array holds, and that the
  reference's is the same.
-/
module

public import proofs.«01_k».proof.Proof.Norm
public import proofs.«01_k».proof.Proof.Gen.PostABIdeal.Value
public import proofs.«01_k».proof.Proof.Gen.PostABRefIdeal.Read
public import Idealize.ShloMosaic.Lib.StableHlo.ReadAt
public import Idealize.ShloMosaic.Lib.Pipeline.ValueKit
public import Idealize.ShloMosaic.Lib.Pipeline.ReadBack

@[expose] public section

set_option maxRecDepth 16384
set_option Elab.async false

noncomputable section

namespace Cert.Proof.PostABValue

open Idealize.ShloMosaic Idealize.ShloMosaic.TcCoe Idealize.SL.Sem
open Cert.Proof.Norm

/-- A row before its norm: the weighted residual and the projection of the two groups' outputs. -/
def before (x : (⟨2, ![16384, 1024]⟩ : Shape).Idx → EReal) (oa ob : (⟨2, ![16384, 512]⟩ : Shape).Idx → EReal)
    (w : (⟨2, ![1024, 1024]⟩ : Shape).Idx → EReal) (r : Fin 16384) (d : Fin 1024) : EReal :=
  skip * x (ix2 r d) + ∑ k : Fin 512, oa (ix2 r k) * w (ix2 ⟨k.val, by omega⟩ d) + ∑ k : Fin 512, ob (ix2 r k) * w (ix2 ⟨512 + k.val, by omega⟩ d)

/-- The array. -/
def result (x : (⟨2, ![16384, 1024]⟩ : Shape).Idx → EReal) (oa ob : (⟨2, ![16384, 512]⟩ : Shape).Idx → EReal)
    (w : (⟨2, ![1024, 1024]⟩ : Shape).Idx → EReal) (g b : (⟨1, ![1024]⟩ : Shape).Idx → EReal) :
    (⟨2, ![16384, 1024]⟩ : Shape).Idx → EReal :=
  fun i => normed (before x oa ob w (i 0)) (fun d => g (ix1 d)) (fun d => b (ix1 d)) (i 1)

section Kernel

open Cert.PostABIdeal Cert.PostABIdeal.Gen

variable (m : (ℓ : Loc nD τ sig) → Buf (Elt Ideal) ℓ) (c : Dev nD)

theorem payload (P0 : S512x1024.Idx → EReal) (P1 : S512x512.Idx → EReal) (P2 : S512x1024.Idx → EReal) (P3 : S512x512.Idx → EReal)
    (P4 : S512x1024.Idx → EReal) (P5 P6 : S1x1024.Idx → EReal) (r : Fin 512) (d : Fin 1024) :
    k0_pay1 (F := Ideal) P0 P1 P2 P3 P4 P5 P6 (ix2 r d)
      = normed (fun d => skip * P0 (ix2 r d) + ∑ k : Fin 512, P1 (ix2 r k) * P2 (ix2 k d) + ∑ k : Fin 512, P3 (ix2 r k) * P4 (ix2 k d))
          (fun d => P5 (ix2 0 d)) (fun d => P6 (ix2 0 d)) d := by
  pointwise [k0_pay1]
  rfl

/-- The row tile of a point. -/
abbrev tile (t : Fin cfg0.N) : Fin 32 := grid0.coords t 0

theorem idx (t : Fin cfg0.N) :
    win0_0.index t = ![(tile t).val, 0] ∧ win0_1.index t = ![(tile t).val, 0] ∧ win0_2.index t = ![(tile t).val, 0]
      ∧ win0_3.index t = ![0, 0] ∧ win0_4.index t = ![0, 0] ∧ win0_5.index t = ![0, 0] ∧ win0_6.index t = ![0, 0]
      ∧ win0_7.index t = ![(tile t).val, 0] :=
  (by decide +kernel : ∀ t : Fin grid0.N,
    win0_0.index t = ![(tile t).val, 0] ∧ win0_1.index t = ![(tile t).val, 0] ∧ win0_2.index t = ![(tile t).val, 0]
      ∧ win0_3.index t = ![0, 0] ∧ win0_4.index t = ![0, 0] ∧ win0_5.index t = ![0, 0] ∧ win0_6.index t = ![0, 0]
      ∧ win0_7.index t = ![(tile t).val, 0]) t

theorem input (t : Fin cfg0.N) (a : Fin 512) (b : Fin 1024) : iblk m c 0 t (ix2 a b)
    = m ((c.tc : Thread nD τ).loc main_arg0) (ix2 ⟨512 * (tile t).val + a.val, by have := (tile t).isLt; omega⟩ b) := by
  blk_ext [iblk, V, idx t]

theorem heads_a (t : Fin cfg0.N) (a : Fin 512) (b : Fin 512) : iblk m c 1 t (ix2 a b)
    = m ((c.tc : Thread nD τ).loc main_arg1) (ix2 ⟨512 * (tile t).val + a.val, by have := (tile t).isLt; omega⟩ b) := by
  blk_ext [iblk, V, idx t]

theorem heads_b (t : Fin cfg0.N) (a : Fin 512) (b : Fin 512) : iblk m c 2 t (ix2 a b)
    = m ((c.tc : Thread nD τ).loc main_arg2) (ix2 ⟨512 * (tile t).val + a.val, by have := (tile t).isLt; omega⟩ b) := by
  blk_ext [iblk, V, idx t]

/-- The upper half of the weights, cast. -/
theorem weights_a (t : Fin cfg0.N) (a : Fin 512) (b : Fin 1024) : iblk m c 3 t (ix2 a b)
    = m ((c.tc : Thread nD τ).loc main_arg3) (ix2 ⟨a.val, by omega⟩ b) := by
  have h : Gen.V (F := Ideal) m c main_v2 (ix2 a b) = m ((c.tc : Thread nD τ).loc main_arg3) (ix2 ⟨a.val, by omega⟩ b) := by
    unfold Gen.V
    after_reads_at
  refine Eq.trans ?_ h
  blk_ext [iblk, idx t]

/-- The lower half. -/
theorem weights_b (t : Fin cfg0.N) (a : Fin 512) (b : Fin 1024) : iblk m c 4 t (ix2 a b)
    = m ((c.tc : Thread nD τ).loc main_arg3) (ix2 ⟨512 + a.val, by omega⟩ b) := by
  have h : Gen.V (F := Ideal) m c main_v3 (ix2 a b) = m ((c.tc : Thread nD τ).loc main_arg3) (ix2 ⟨512 + a.val, by omega⟩ b) := by
    unfold Gen.V
    after_reads_at
  refine Eq.trans ?_ h
  blk_ext [iblk, idx t]

theorem scale (t : Fin cfg0.N) (b : Fin 1024) : iblk m c 5 t (ix2 0 b) = m ((c.tc : Thread nD τ).loc main_arg4) (ix1 b) := by
  have h : Gen.V (F := Ideal) m c main_v4 (ix2 0 b) = m ((c.tc : Thread nD τ).loc main_arg4) (ix1 b) := by
    unfold Gen.V
    after_reads_at
  refine Eq.trans ?_ h
  blk_ext [iblk, idx t]

theorem shift (t : Fin cfg0.N) (b : Fin 1024) : iblk m c 6 t (ix2 0 b) = m ((c.tc : Thread nD τ).loc main_arg5) (ix1 b) := by
  have h : Gen.V (F := Ideal) m c main_v5 (ix2 0 b) = m ((c.tc : Thread nD τ).loc main_arg5) (ix1 b) := by
    unfold Gen.V
    after_reads_at
  refine Eq.trans ?_ h
  blk_ext [iblk, idx t]

theorem final : (dats (F := Ideal) m 0 c).arrAt 7 cfg0.N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 7 _ (by decide +kernel) fun t hf y => ?_
  blk_simp
  rw [after0_7]
  frame_out
  refine (congrArg _ (ix2_eta y).symm).trans ((payload _ _ _ _ _ _ _ (y 0) (y 1)).trans ?_)
  unfold result
  have e0 : ((View.whole main_v6).slice (win0_7.rect t)).emb y 0 = (⟨512 * (tile t).val + (y 0).val, by
      have h0 := (tile t).isLt
      have h1 : (y 0).val < 512 := (y 0).isLt
      omega⟩ : Fin 16384) := Fin.ext (by
    blk_simp [idx t]
    simp [Nat.mul_comm])
  have e1 : ((View.whole main_v6).slice (win0_7.rect t)).emb y 1 = y 1 := Fin.ext (by
    blk_simp [idx t])
  rw [e0, e1]
  congr 1
  · funext d
    unfold before
    exact congrArg₂ (fun a b : EReal => a + b) (congrArg₂ (fun a b : EReal => a + b) (congrArg (fun a : EReal => skip * a) (input m c t (y 0) d))
      (Finset.sum_congr rfl fun k _ => congrArg₂ (fun a b : EReal => a * b) (heads_a m c t (y 0) k) (weights_a m c t k d)))
      (Finset.sum_congr rfl fun k _ => congrArg₂ (fun a b : EReal => a * b) (heads_b m c t (y 0) k) (weights_b m c t k d))
  · funext d
    exact scale m c t d
  · funext d
    exact shift m c t d

end Kernel

section Reference

open Cert.PostABRefIdeal Cert.PostABRefIdeal.Read

variable (x0 : S16384x1024.Idx → EReal) (x1 x2 : S16384x512.Idx → EReal) (x3 : S1024x1024.Idx → EReal) (x4 x5 : S1024.Idx → EReal)

theorem reference_before (r : Fin 16384) (d : Fin 1024) : val_main_v6 (F := Ideal) x0 x1 x2 x3 (ix2 r d) = before x0 x1 x2 x3 r d := by
  rw [val_main_v6_apply, val_main_v5_apply, val_main_v4_apply, val_main_cst_apply, val_main_v3_apply]
  refine Eq.trans (congrArg₂ (fun a b : EReal => a + b) rfl ?_) (add_assoc _ _ _).symm
  unfold val_main_v2 val_main_v0 val_main_v1
  pointwise
  have e : ∀ k : Fin 1024, ridx_main_v3 (ix2 r d) k = ix2 k d := fun k => funext fun a => match a with | ⟨0, _⟩ => rfl | ⟨1, _⟩ => rfl
  simp only [e]

/-- The reference's mean of a row. -/
theorem reference_mean (r : Fin 16384) (z : Fin 1) : val_main_v10 (F := Ideal) x0 x1 x2 x3 (ix2 r z) = mean (before x0 x1 x2 x3 r) := by
  rw [val_main_v10_apply, val_main_v8_apply, val_main_v7_apply, val_main_cst_0_apply, val_main_v9_apply, val_main_cst_1_apply]
  unfold mean
  refine congrArg₂ Ideal.div ?_ rfl
  refine Eq.trans (congrArg₂ (fun a b : EReal => a + b) (Ideal.ofBits_zero_f32) (Finset.sum_congr rfl fun k _ => ?_)) (zero_add _)
  rw [← reference_before]
  refine congrArg _ (funext fun a => ?_)
  match a with
  | ⟨0, _⟩ => rfl
  | ⟨1, _⟩ => rfl

theorem reference_var (r : Fin 16384) (z : Fin 1) : val_main_v17 (F := Ideal) x0 x1 x2 x3 (ix2 r z)
    = mean (fun e => (before x0 x1 x2 x3 r e - mean (before x0 x1 x2 x3 r)) * (before x0 x1 x2 x3 r e - mean (before x0 x1 x2 x3 r))) := by
  rw [val_main_v17_apply, val_main_v15_apply, val_main_v14_apply, val_main_cst_2_apply, val_main_v16_apply, val_main_cst_3_apply]
  unfold mean
  refine congrArg₂ Ideal.div ?_ rfl
  refine Eq.trans (congrArg₂ (fun a b : EReal => a + b) (Ideal.ofBits_zero_f32) (Finset.sum_congr rfl fun k _ => ?_)) (zero_add _)
  have e : ∀ i : S16384x1024.Idx, i = ix2 r k → val_main_v13 (F := Ideal) x0 x1 x2 x3 i
      = (before x0 x1 x2 x3 r k - mean (before x0 x1 x2 x3 r)) * (before x0 x1 x2 x3 r k - mean (before x0 x1 x2 x3 r)) := by
    rintro _ rfl
    rw [val_main_v13_apply, val_main_v12_apply, val_main_v11_apply, reference_before,
      show idx_main_v11 (ix2 r k) = ix2 r 0 from funext fun a => match a with | ⟨0, _⟩ => rfl | ⟨1, _⟩ => rfl, reference_mean]
    rfl
  refine e _ (funext fun a => ?_)
  match a with
  | ⟨0, _⟩ => rfl
  | ⟨1, _⟩ => rfl

theorem reference_at (r : Fin 16384) (d : Fin 1024) : val_main_v30 (F := Ideal) x0 x1 x2 x3 x4 x5 (ix2 r d) = result x0 x1 x2 x3 x4 x5 (ix2 r d) := by
  rw [val_main_v30_apply, val_main_v27_apply, val_main_v24_apply, val_main_v19_apply, val_main_v18_apply, val_main_v23_apply, val_main_v22_apply,
    val_main_v21_apply, val_main_v20_apply, val_main_cst_4_apply, val_main_v26_apply, val_main_v25_apply, val_main_v29_apply, val_main_v28_apply,
    reference_before,
    show idx_main_v18 (ix2 r d) = ix2 r 0 from funext fun a => match a with | ⟨0, _⟩ => rfl | ⟨1, _⟩ => rfl,
    show idx_main_v23 (ix2 r d) = ix2 r 0 from funext fun a => match a with | ⟨0, _⟩ => rfl | ⟨1, _⟩ => rfl,
    show idx_main_v25 (idx_main_v26 (ix2 r d)) = ix1 d from funext fun a => match a with | ⟨0, _⟩ => rfl,
    show idx_main_v28 (idx_main_v29 (ix2 r d)) = ix1 d from funext fun a => match a with | ⟨0, _⟩ => rfl,
    reference_mean, reference_var]
  rfl

theorem reference_result : val_main_v30 (F := Ideal) x0 x1 x2 x3 x4 x5 = result x0 x1 x2 x3 x4 x5 := by
  funext i
  rw [← ix2_eta i]
  exact reference_at x0 x1 x2 x3 x4 x5 (i 0) (i 1)

end Reference

end Cert.Proof.PostABValue

end
-- ==== Proof.PostCValue.lean ====
/-
  The output projection of the odd layers, its residual and its layer norm: what the kernel's array holds, and that the
  reference's is the same.
-/
module

public import proofs.«01_k».proof.Proof.Norm
public import proofs.«01_k».proof.Proof.Gen.PostCIdeal.Value
public import proofs.«01_k».proof.Proof.Gen.PostCRefIdeal.Read
public import Idealize.ShloMosaic.Lib.StableHlo.ReadAt
public import Idealize.ShloMosaic.Lib.Pipeline.ValueKit
public import Idealize.ShloMosaic.Lib.Pipeline.ReadBack

@[expose] public section

set_option maxRecDepth 16384
set_option Elab.async false

noncomputable section

namespace Cert.Proof.PostCValue

open Idealize.ShloMosaic Idealize.ShloMosaic.TcCoe Idealize.SL.Sem
open Cert.Proof.Norm

/-- A row before its norm: the weighted residual and the projection of the heads' outputs. -/
def before (x : (⟨2, ![16384, 1024]⟩ : Shape).Idx → EReal) (o : (⟨2, ![16384, 1024]⟩ : Shape).Idx → EReal)
    (w : (⟨2, ![1024, 1024]⟩ : Shape).Idx → EReal) (r : Fin 16384) (d : Fin 1024) : EReal :=
  skip * x (ix2 r d) + ∑ k : Fin 1024, o (ix2 r k) * w (ix2 k d)

/-- The array. -/
def result (x : (⟨2, ![16384, 1024]⟩ : Shape).Idx → EReal) (o : (⟨2, ![16384, 1024]⟩ : Shape).Idx → EReal)
    (w : (⟨2, ![1024, 1024]⟩ : Shape).Idx → EReal) (g b : (⟨1, ![1024]⟩ : Shape).Idx → EReal) :
    (⟨2, ![16384, 1024]⟩ : Shape).Idx → EReal :=
  fun i => normed (before x o w (i 0)) (fun d => g (ix1 d)) (fun d => b (ix1 d)) (i 1)

section Kernel

open Cert.PostCIdeal Cert.PostCIdeal.Gen

variable (m : (ℓ : Loc nD τ sig) → Buf (Elt Ideal) ℓ) (c : Dev nD)

theorem payload (P0 P1 : S512x1024.Idx → EReal) (P2 : S1024x1024.Idx → EReal) (P3 P4 : S1x1024.Idx → EReal) (r : Fin 512) (d : Fin 1024) :
    k0_pay1 (F := Ideal) P0 P1 P2 P3 P4 (ix2 r d)
      = normed (fun d => skip * P0 (ix2 r d) + ∑ k : Fin 1024, P1 (ix2 r k) * P2 (ix2 k d)) (fun d => P3 (ix2 0 d)) (fun d => P4 (ix2 0 d)) d := by
  pointwise [k0_pay1]
  rfl

/-- The row tile of a point. -/
abbrev tile (t : Fin cfg0.N) : Fin 32 := grid0.coords t 0

theorem idx (t : Fin cfg0.N) :
    win0_0.index t = ![(tile t).val, 0] ∧ win0_1.index t = ![(tile t).val, 0] ∧ win0_2.index t = ![0, 0]
      ∧ win0_3.index t = ![0, 0] ∧ win0_4.index t = ![0, 0] ∧ win0_5.index t = ![(tile t).val, 0] :=
  (by decide +kernel : ∀ t : Fin grid0.N,
    win0_0.index t = ![(tile t).val, 0] ∧ win0_1.index t = ![(tile t).val, 0] ∧ win0_2.index t = ![0, 0]
      ∧ win0_3.index t = ![0, 0] ∧ win0_4.index t = ![0, 0] ∧ win0_5.index t = ![(tile t).val, 0]) t

theorem input (t : Fin cfg0.N) (a : Fin 512) (b : Fin 1024) : iblk m c 0 t (ix2 a b)
    = m ((c.tc : Thread nD τ).loc main_arg0) (ix2 ⟨512 * (tile t).val + a.val, by have := (tile t).isLt; omega⟩ b) := by
  blk_ext [iblk, V, idx t]

theorem heads (t : Fin cfg0.N) (a : Fin 512) (b : Fin 1024) : iblk m c 1 t (ix2 a b)
    = m ((c.tc : Thread nD τ).loc main_arg1) (ix2 ⟨512 * (tile t).val + a.val, by have := (tile t).isLt; omega⟩ b) := by
  blk_ext [iblk, V, idx t]

/-- The weights, cast. -/
theorem weights (t : Fin cfg0.N) (a : Fin 1024) (b : Fin 1024) : iblk m c 2 t (ix2 a b)
    = m ((c.tc : Thread nD τ).loc main_arg2) (ix2 a b) := by
  have h : Gen.V (F := Ideal) m c main_v0 (ix2 a b) = m ((c.tc : Thread nD τ).loc main_arg2) (ix2 a b) := by
    unfold Gen.V
    after_reads_at
  refine Eq.trans ?_ h
  blk_ext [iblk, idx t]

theorem scale (t : Fin cfg0.N) (b : Fin 1024) : iblk m c 3 t (ix2 0 b) = m ((c.tc : Thread nD τ).loc main_arg3) (ix1 b) := by
  have h : Gen.V (F := Ideal) m c main_v1 (ix2 0 b) = m ((c.tc : Thread nD τ).loc main_arg3) (ix1 b) := by
    unfold Gen.V
    after_reads_at
  refine Eq.trans ?_ h
  blk_ext [iblk, idx t]

theorem shift (t : Fin cfg0.N) (b : Fin 1024) : iblk m c 4 t (ix2 0 b) = m ((c.tc : Thread nD τ).loc main_arg4) (ix1 b) := by
  have h : Gen.V (F := Ideal) m c main_v2 (ix2 0 b) = m ((c.tc : Thread nD τ).loc main_arg4) (ix1 b) := by
    unfold Gen.V
    after_reads_at
  refine Eq.trans ?_ h
  blk_ext [iblk, idx t]

theorem final : (dats (F := Ideal) m 0 c).arrAt 5 cfg0.N = result (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  blk_simp
  rw [after0_5]
  frame_out
  refine (congrArg _ (ix2_eta y).symm).trans ((payload _ _ _ _ _ (y 0) (y 1)).trans ?_)
  unfold result
  have e0 : ((View.whole main_v3).slice (win0_5.rect t)).emb y 0 = (⟨512 * (tile t).val + (y 0).val, by
      have h0 := (tile t).isLt
      have h1 : (y 0).val < 512 := (y 0).isLt
      omega⟩ : Fin 16384) := Fin.ext (by
    blk_simp [idx t]
    simp [Nat.mul_comm])
  have e1 : ((View.whole main_v3).slice (win0_5.rect t)).emb y 1 = y 1 := Fin.ext (by
    blk_simp [idx t])
  rw [e0, e1]
  congr 1
  · funext d
    unfold before
    exact congrArg₂ (fun a b : EReal => a + b) (congrArg (fun a : EReal => skip * a) (input m c t (y 0) d))
      (Finset.sum_congr rfl fun k _ => congrArg₂ (fun a b : EReal => a * b) (heads m c t (y 0) k) (weights m c t k d))
  · funext d
    exact scale m c t d
  · funext d
    exact shift m c t d

end Kernel

section Reference

open Cert.PostCRefIdeal Cert.PostCRefIdeal.Read

variable (x0 x1 : S16384x1024.Idx → EReal) (x2 : S1024x1024.Idx → EReal) (x3 x4 : S1024.Idx → EReal)

theorem reference_before (r : Fin 16384) (d : Fin 1024) : val_main_v4 (F := Ideal) x0 x1 x2 (ix2 r d) = before x0 x1 x2 r d := by
  rw [val_main_v4_apply, val_main_v1_apply, val_main_v0_apply, val_main_cst_apply, val_main_v3_apply]
  refine congrArg₂ (fun a b : EReal => a + b) rfl (Finset.sum_congr rfl fun k _ => congrArg₂ (fun a b : EReal => a * b) ?_ (congrArg x2 (funext fun a => ?_)))
  · rw [val_main_v2_apply]
    refine congrArg x1 (funext fun a => ?_)
    match a with
    | ⟨0, _⟩ => rfl
    | ⟨1, _⟩ => rfl
  · match a with
    | ⟨0, _⟩ => rfl
    | ⟨1, _⟩ => rfl

/-- The reference's mean of a row. -/
theorem reference_mean (r : Fin 16384) (z : Fin 1) : val_main_v8 (F := Ideal) x0 x1 x2 (ix2 r z) = mean (before x0 x1 x2 r) := by
  rw [val_main_v8_apply, val_main_v6_apply, val_main_v5_apply, val_main_cst_0_apply, val_main_v7_apply, val_main_cst_1_apply]
  unfold mean
  refine congrArg₂ Ideal.div ?_ rfl
  refine Eq.trans (congrArg₂ (fun a b : EReal => a + b) (Ideal.ofBits_zero_f32) (Finset.sum_congr rfl fun k _ => ?_)) (zero_add _)
  rw [← reference_before]
  refine congrArg _ (funext fun a => ?_)
  match a with
  | ⟨0, _⟩ => rfl
  | ⟨1, _⟩ => rfl

theorem reference_var (r : Fin 16384) (z : Fin 1) : val_main_v15 (F := Ideal) x0 x1 x2 (ix2 r z)
    = mean (fun e => (before x0 x1 x2 r e - mean (before x0 x1 x2 r)) * (before x0 x1 x2 r e - mean (before x0 x1 x2 r))) := by
  rw [val_main_v15_apply, val_main_v13_apply, val_main_v12_apply, val_main_cst_2_apply, val_main_v14_apply, val_main_cst_3_apply]
  unfold mean
  refine congrArg₂ Ideal.div ?_ rfl
  refine Eq.trans (congrArg₂ (fun a b : EReal => a + b) (Ideal.ofBits_zero_f32) (Finset.sum_congr rfl fun k _ => ?_)) (zero_add _)
  have e : ∀ i : S16384x1024.Idx, i = ix2 r k → val_main_v11 (F := Ideal) x0 x1 x2 i
      = (before x0 x1 x2 r k - mean (before x0 x1 x2 r)) * (before x0 x1 x2 r k - mean (before x0 x1 x2 r)) := by
    rintro _ rfl
    rw [val_main_v11_apply, val_main_v10_apply, val_main_v9_apply, reference_before,
      show idx_main_v9 (ix2 r k) = ix2 r 0 from funext fun a => match a with | ⟨0, _⟩ => rfl | ⟨1, _⟩ => rfl, reference_mean]
    rfl
  refine e _ (funext fun a => ?_)
  match a with
  | ⟨0, _⟩ => rfl
  | ⟨1, _⟩ => rfl

theorem reference_at (r : Fin 16384) (d : Fin 1024) : val_main_v28 (F := Ideal) x0 x1 x2 x3 x4 (ix2 r d) = result x0 x1 x2 x3 x4 (ix2 r d) := by
  rw [val_main_v28_apply, val_main_v25_apply, val_main_v22_apply, val_main_v17_apply, val_main_v16_apply, val_main_v21_apply, val_main_v20_apply,
    val_main_v19_apply, val_main_v18_apply, val_main_cst_4_apply, val_main_v24_apply, val_main_v23_apply, val_main_v27_apply, val_main_v26_apply,
    reference_before,
    show idx_main_v16 (ix2 r d) = ix2 r 0 from funext fun a => match a with | ⟨0, _⟩ => rfl | ⟨1, _⟩ => rfl,
    show idx_main_v21 (ix2 r d) = ix2 r 0 from funext fun a => match a with | ⟨0, _⟩ => rfl | ⟨1, _⟩ => rfl,
    show idx_main_v23 (idx_main_v24 (ix2 r d)) = ix1 d from funext fun a => match a with | ⟨0, _⟩ => rfl,
    show idx_main_v26 (idx_main_v27 (ix2 r d)) = ix1 d from funext fun a => match a with | ⟨0, _⟩ => rfl,
    reference_mean, reference_var]
  rfl

theorem reference_result : val_main_v28 (F := Ideal) x0 x1 x2 x3 x4 = result x0 x1 x2 x3 x4 := by
  funext i
  rw [← ix2_eta i]
  exact reference_at x0 x1 x2 x3 x4 (i 0) (i 1)

end Reference

end Cert.Proof.PostCValue

end
-- ==== Proof.LatentIdealFrame.lean ====
/-
  The frame of `PrepABIdeal`, up to its run: the text that proof/Proof/Gen gives for it, with more heartbeats for
  `body_obligation`, whose 23 windows take more than the default.
-/
module

public import proofs.«01_k».proof.Proof.Gen.PrepABIdeal.Launch
public import proofs.«01_k».proof.Proof.Gen.PrepABIdeal.Skeleton
public import proofs.«01_k».proof.Proof.Gen.PrepABIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.PrepABIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1380000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_PrepABIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's accesses -/

abbrev r0_0 : Rect S512x1024 := Rect.unit (s := S512x1024) ![0, 0] S512x1024.size inb_S512x1024_S512x1024_0_0
abbrev r0_1 : Rect S1024x1536 := Rect.unit (s := S1024x1536) ![0, 0] S1024x1536.size inb_S1024x1536_S1024x1536_0_0
abbrev r0_2 : Rect S512x512 := Rect.unit (s := S512x512) ![0, 0] S512x512.size inb_S512x512_S512x512_0_0
abbrev r0_3 : Rect S1024x512 := Rect.unit (s := S1024x512) ![0, 0] S1024x512.size inb_S1024x512_S1024x512_0_0
abbrev r0_4 : Rect S1x512 := Rect.unit (s := S1x512) ![0, 0] S1x512.size inb_S1x512_S1x512_0_0
abbrev r0_5 : Rect S512x128 := Rect.unit (s := S512x128) ![0, 0] S512x128.size inb_S512x128_S512x128_0_0
abbrev r0_6 : Rect S512x1024 := Rect.unit (s := S512x1024) ![0, 0] S512x128.size inb_S512x1024_S512x128_0_0
abbrev r0_7 : Rect S512x1024 := Rect.unit (s := S512x1024) ![0, 128] S512x128.size inb_S512x1024_S512x128_0_128
abbrev r0_8 : Rect S512x1024 := Rect.unit (s := S512x1024) ![0, 256] S512x128.size inb_S512x1024_S512x128_0_256
abbrev r0_9 : Rect S512x1024 := Rect.unit (s := S512x1024) ![0, 384] S512x128.size inb_S512x1024_S512x128_0_384
abbrev r0_10 : Rect S512x1024 := Rect.unit (s := S512x1024) ![0, 512] S512x128.size inb_S512x1024_S512x128_0_512
abbrev r0_11 : Rect S512x1024 := Rect.unit (s := S512x1024) ![0, 640] S512x128.size inb_S512x1024_S512x128_0_640
abbrev r0_12 : Rect S512x1024 := Rect.unit (s := S512x1024) ![0, 768] S512x128.size inb_S512x1024_S512x128_0_768
abbrev r0_13 : Rect S512x1024 := Rect.unit (s := S512x1024) ![0, 896] S512x128.size inb_S512x1024_S512x128_0_896
abbrev r0_14 : Rect S1024x256 := Rect.unit (s := S1024x256) ![0, 0] S1024x256.size inb_S1024x256_S1024x256_0_0
abbrev r0_15 : Rect S1x256 := Rect.unit (s := S1x256) ![0, 0] S1x256.size inb_S1x256_S1x256_0_0
abbrev r0_16 : Rect S1024x32 := Rect.unit (s := S1024x32) ![0, 0] S1024x32.size inb_S1024x32_S1024x32_0_0
abbrev r0_17 : Rect S512x32 := Rect.unit (s := S512x32) ![0, 0] S512x32.size inb_S512x32_S512x32_0_0
abbrev r0_18 : Rect S256x1024 := Rect.unit (s := S256x1024) ![0, 0] S256x1024.size inb_S256x1024_S256x1024_0_0
abbrev r0_19 : Rect S32x1024 := Rect.unit (s := S32x1024) ![0, 0] S32x1024.size inb_S32x1024_S32x1024_0_0
abbrev r0_20 : Rect S256x512 := Rect.unit (s := S256x512) ![0, 0] S256x512.size inb_S256x512_S256x512_0_0

/-! ## What the body leaves in each output window's buffer -/

/-! ### Values of the body that the stores' payloads, spelt out, would write more than once

    Each is a vector the body binds (often a part call's result), stated over the input windows' blocks and
    numbered on from the skeleton's payload functions (`k0_pay26` …, after `k0_pay25`), so that
    `out0_W` and the values after it name it instead of spelling it out (`unfold_out out0_W` opens a canon
    with them, `unfold_payloads` opens them with the payloads); the comment after each is the printed function's
    name for the value (a count appended where that name is bound again). -/

def k0_pay26 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : FVec F S512x1024 .bf16 :=
  k0_pay3 (View.ld x0 r0_0) -- `v1`
def k0_pay27 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : FVec F S512x512 .bf16 :=
  k0_pay8 (View.ld x0 r0_0) (View.ld x2 r0_3) (View.ld x6 r0_4) -- `v33`
def k0_pay28 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : FVec F S512x1024 .f32 :=
  k0_pay9 (k0_pay27 x0 x1 x2 x3 x4 x5 x6 x7 x8 x9 x10 x11 x12 x13 x14 x15 x16) (View.ld x8 r0_0) -- `v36`
def k0_pay29 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : FVec F S512x1024 .f32 :=
  k0_pay10 (k0_pay27 x0 x1 x2 x3 x4 x5 x6 x7 x8 x9 x10 x11 x12 x13 x14 x15 x16) (View.ld x9 r0_0) -- `v39`
def k0_pay30 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : FVec F S512x128 .f32 :=
  k0_pay11 (View.ld x13 r0_5) -- `v41`
def k0_pay31 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : FVec F S512x128 .f32 :=
  k0_pay12 (View.ld x14 r0_5) -- `v43`

/-- Window 17's staging buffer after the body, from the input windows' blocks: its 1 store as pieces, LAST
    FIRST (Lib/Pipeline/FrameBody.lean `View.canon`; the payloads are the skeleton's and the values stated above). -/
def out0_17 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : Vec F S512x512 .bf16 :=
  View.canon [⟨r0_2, k0_pay5 (View.ld x0 r0_0) (View.ld x1 r0_1)⟩]

/-- Its stores tile the buffer (checked by evaluation), so they cover it. -/
theorem cover0_17 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : Vec F S512x512 .bf16 :=
  View.canon [⟨r0_2, k0_pay6 (View.ld x0 r0_0) (View.ld x1 r0_1)⟩]

/-- Its stores tile the buffer (checked by evaluation), so they cover it. -/
theorem cover0_18 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-- Window 19's staging buffer after the body, from the input windows' blocks: its 1 store as pieces, LAST
    FIRST (Lib/Pipeline/FrameBody.lean `View.canon`; the payloads are the skeleton's and the values stated above). -/
def out0_19 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : Vec F S512x512 .bf16 :=
  View.canon [⟨r0_2, k0_pay7 (View.ld x0 r0_0) (View.ld x1 r0_1)⟩]

/-- Its stores tile the buffer (checked by evaluation), so they cover it. -/
theorem cover0_19 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-- Window 20's staging buffer after the body, from the input windows' blocks: its 8 stores as pieces, LAST
    FIRST (Lib/Pipeline/FrameBody.lean `View.canon`; the payloads are the skeleton's and the values stated above). -/
def out0_20 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : Vec F S512x1024 .bf16 :=
  View.canon [⟨r0_13, k0_pay22 (k0_pay28 x0 x1 x2 x3 x4 x5 x6 x7 x8 x9 x10 x11 x12 x13 x14 x15 x16) (k0_pay29 x0 x1 x2 x3 x4 x5 x6 x7 x8 x9 x10 x11 x12 x13 x14 x15 x16) (k0_pay30 x0 x1 x2 x3 x4 x5 x6 x7 x8 x9 x10 x11 x12 x13 x14 x15 x16) (k0_pay31 x0 x1 x2 x3 x4 x5 x6 x7 x8 x9 x10 x11 x12 x13 x14 x15 x16)⟩,
    ⟨r0_12, k0_pay21 (k0_pay28 x0 x1 x2 x3 x4 x5 x6 x7 x8 x9 x10 x11 x12 x13 x14 x15 x16) (k0_pay29 x0 x1 x2 x3 x4 x5 x6 x7 x8 x9 x10 x11 x12 x13 x14 x15 x16) (k0_pay30 x0 x1 x2 x3 x4 x5 x6 x7 x8 x9 x10 x11 x12 x13 x14 x15 x16) (k0_pay31 x0 x1 x2 x3 x4 x5 x6 x7 x8 x9 x10 x11 x12 x13 x14 x15 x16)⟩,
    ⟨r0_11, k0_pay20 (k0_pay28 x0 x1 x2 x3 x4 x5 x6 x7 x8 x9 x10 x11 x12 x13 x14 x15 x16) (k0_pay29 x0 x1 x2 x3 x4 x5 x6 x7 x8 x9 x10 x11 x12 x13 x14 x15 x16) (k0_pay30 x0 x1 x2 x3 x4 x5 x6 x7 x8 x9 x10 x11 x12 x13 x14 x15 x16) (k0_pay31 x0 x1 x2 x3 x4 x5 x6 x7 x8 x9 x10 x11 x12 x13 x14 x15 x16)⟩,
    ⟨r0_10, k0_pay19 (k0_pay28 x0 x1 x2 x3 x4 x5 x6 x7 x8 x9 x10 x11 x12 x13 x14 x15 x16) (k0_pay29 x0 x1 x2 x3 x4 x5 x6 x7 x8 x9 x10 x11 x12 x13 x14 x15 x16) (k0_pay30 x0 x1 x2 x3 x4 x5 x6 x7 x8 x9 x10 x11 x12 x13 x14 x15 x16) (k0_pay31 x0 x1 x2 x3 x4 x5 x6 x7 x8 x9 x10 x11 x12 x13 x14 x15 x16)⟩,
    ⟨r0_9, k0_pay18 (k0_pay31 x0 x1 x2 x3 x4 x5 x6 x7 x8 x9 x10 x11 x12 x13 x14 x15 x16) (k0_pay16 (k0_pay27 x0 x1 x2 x3 x4 x5 x6 x7 x8 x9 x10 x11 x12 x13 x14 x15 x16) (View.ld x8 r0_0) (View.ld x13 r0_5)) (k0_pay17 (k0_pay27 x0 x1 x2 x3 x4 x5 x6 x7 x8 x9 x10 x11 x12 x13 x14 x15 x16) (View.ld x9 r0_0))⟩,
    ⟨r0_8, k0_pay15 (k0_pay27 x0 x1 x2 x3 x4 x5 x6 x7 x8 x9 x10 x11 x12 x13 x14 x15 x16) (View.ld x8 r0_0) (View.ld x9 r0_0) (View.ld x13 r0_5) (View.ld x14 r0_5)⟩,
    ⟨r0_7, k0_pay14 (k0_pay27 x0 x1 x2 x3 x4 x5 x6 x7 x8 x9 x10 x11 x12 x13 x14 x15 x16) (View.ld x8 r0_0) (View.ld x9 r0_0) (View.ld x13 r0_5) (View.ld x14 r0_5)⟩,
    ⟨r0_6, k0_pay13 (k0_pay27 x0 x1 x2 x3 x4 x5 x6 x7 x8 x9 x10 x11 x12 x13 x14 x15 x16) (View.ld x8 r0_0) (View.ld x9 r0_0) (View.ld x13 r0_5) (View.ld x14 r0_5)⟩]

/-- Its stores tile the buffer (checked by evaluation), so they cover it. -/
theorem cover0_20 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_13, p0⟩, ⟨r0_12, p1⟩, ⟨r0_11, p2⟩, ⟨r0_10, p3⟩, ⟨r0_9, p4⟩, ⟨r0_8, p5⟩, ⟨r0_7, p6⟩, ⟨r0_6, p7⟩] : List (View.Piece (Elt F) S512x1024 .bf16)), y ∈ pc.1.set :=
  View.cover_of_tiled [⟨r0_13, p0⟩, ⟨r0_12, p1⟩, ⟨r0_11, p2⟩, ⟨r0_10, p3⟩, ⟨r0_9, p4⟩, ⟨r0_8, p5⟩, ⟨r0_7, p6⟩, ⟨r0_6, p7⟩] S512x128.size (by rfl) y

/-- Window 21's staging buffer after the body, from the input windows' blocks: its 1 store as pieces, LAST
    FIRST (Lib/Pipeline/FrameBody.lean `View.canon`; the payloads are the skeleton's and the values stated above). -/
def out0_21 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : Vec F S512x1024 .bf16 :=
  View.canon [⟨r0_0, k0_pay1 (k0_pay24 (k0_pay26 x0 x1 x2 x3 x4 x5 x6 x7 x8 x9 x10 x11 x12 x13 x14 x15 x16) (View.ld x4 r0_16) (View.ld x5 r0_16) (View.ld x15 r0_17) (View.ld x16 r0_17)) (k0_pay25 (k0_pay26 x0 x1 x2 x3 x4 x5 x6 x7 x8 x9 x10 x11 x12 x13 x14 x15 x16) (View.ld x3 r0_14) (View.ld x7 r0_15) (View.ld x10 r0_18)) (View.ld x12 r0_19)⟩]

/-- Its stores tile the buffer (checked by evaluation), so they cover it. -/
theorem cover0_21 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Window 22's staging buffer after the body, from the input windows' blocks: its 1 store as pieces, LAST
    FIRST (Lib/Pipeline/FrameBody.lean `View.canon`; the payloads are the skeleton's and the values stated above). -/
def out0_22 (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) : Vec F S512x512 .bf16 :=
  View.canon [⟨r0_2, k0_pay2 (k0_pay23 (k0_pay26 x0 x1 x2 x3 x4 x5 x6 x7 x8 x9 x10 x11 x12 x13 x14 x15 x16) (View.ld x3 r0_14) (View.ld x7 r0_15)) (View.ld x11 r0_20)⟩]

/-- Its stores tile the buffer (checked by evaluation), so they cover it. -/
theorem cover0_22 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1024x1536 .bf16) (harg2 : arg2.IsWhole) (arg3 : Memref sig .tc .vmem S1024x512 .bf16) (harg3 : arg3.IsWhole) (arg4 : Memref sig .tc .vmem S1024x256 .bf16) (harg4 : arg4.IsWhole) (arg5 : Memref sig .tc .vmem S1024x32 .bf16) (harg5 : arg5.IsWhole) (arg6 : Memref sig .tc .vmem S1024x32 .bf16) (harg6 : arg6.IsWhole) (arg7 : Memref sig .tc .vmem S1x512 .f32) (harg7 : arg7.IsWhole) (arg8 : Memref sig .tc .vmem S1x256 .f32) (harg8 : arg8.IsWhole) (arg9 : Memref sig .tc .vmem S512x1024 .bf16) (harg9 : arg9.IsWhole) (arg10 : Memref sig .tc .vmem S512x1024 .bf16) (harg10 : arg10.IsWhole) (arg11 : Memref sig .tc .vmem S256x1024 .bf16) (harg11 : arg11.IsWhole) (arg12 : Memref sig .tc .vmem S256x512 .bf16) (harg12 : arg12.IsWhole) (arg13 : Memref sig .tc .vmem S32x1024 .bf16) (harg13 : arg13.IsWhole) (arg14 : Memref sig .tc .vmem S512x128 .f32) (harg14 : arg14.IsWhole) (arg15 : Memref sig .tc .vmem S512x128 .f32) (harg15 : arg15.IsWhole) (arg16 : Memref sig .tc .vmem S512x32 .f32) (harg16 : arg16.IsWhole) (arg17 : Memref sig .tc .vmem S512x32 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x512 .bf16) (harg20 : arg20.IsWhole) (arg21 : Memref sig .tc .vmem S512x1024 .bf16) (harg21 : arg21.IsWhole) (arg22 : Memref sig .tc .vmem S512x1024 .bf16) (harg22 : arg22.IsWhole) (arg23 : Memref sig .tc .vmem S512x512 .bf16) (harg23 : arg23.IsWhole)
    (x0 : Vec F S512x1024 .f32) (x1 : Vec F S1024x1536 .bf16) (x2 : Vec F S1024x512 .bf16) (x3 : Vec F S1024x256 .bf16) (x4 : Vec F S1024x32 .bf16) (x5 : Vec F S1024x32 .bf16) (x6 : Vec F S1x512 .f32) (x7 : Vec F S1x256 .f32) (x8 : Vec F S512x1024 .bf16) (x9 : Vec F S512x1024 .bf16) (x10 : Vec F S256x1024 .bf16) (x11 : Vec F S256x512 .bf16) (x12 : Vec F S32x1024 .bf16) (x13 : Vec F S512x128 .f32) (x14 : Vec F S512x128 .f32) (x15 : Vec F S512x32 .f32) (x16 : Vec F S512x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16) ∗ owns (c : Thread nD τ) arg21 fullShare (out0_20 x0 x1 x2 x3 x4 x5 x6 x7 x8 x9 x10 x11 x12 x13 x14 x15 x16) ∗ owns (c : Thread nD τ) arg22 fullShare (out0_21 x0 x1 x2 x3 x4 x5 x6 x7 x8 x9 x10 x11 x12 x13 x14 x15 x16) ∗ owns (c : Thread nD τ) arg23 fullShare (out0_22 x0 x1 x2 x3 x4 x5 x6 x7 x8 x9 x10 x11 x12 x13 x14 x15 x16)) -∗ K ⟨⟩))
      ⊢ wp frame (wpE (defs₀ (F := F)) Variants.none c none) E (cc0_prep_ab i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_prep_ab_eq_skeleton]; unfold cc0_prep_ab_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _ _ _ _ _ _ _ _)).trans ?_
    rfl
  isplitl [H21]
  · iexists _; isplitr
    swap; · iexact H21
    ipureintro
    refine (View.read_writes_eq_canon _ _ _ (cover0_21 _)).trans ?_
    rfl
  iexists _; isplitr
  swap; · iexact H22
  ipureintro
  refine (View.read_writes_eq_canon _ _ _ (cover0_22 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 23, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, H14, H15, H16, H17, H18, H19, H20, H21, H22⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_PrepABIdeal`'s statement (Defs.lean) at any `F` — Proof.lean cites it at `Bits`:
    `theorem Cert.Proof.claim : Cert.Claim := ⟨Cert.PrepABIdeal.Gen.facts, fun m ρ _ => Cert.PrepABIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.PrepABIdeal.Gen

end
-- ==== Proof.Latent.lean ====
/-
  The latent attention's queries, keys and values of the even layers: the numbers they are, and the rotary embedding as a
  sum over turned columns.
-/
module

public import proofs.«01_k».proof.Proof.Band
public import Idealize.ShloMosaic.PureOps.Ideal.Laws
public import Idealize.ShloMosaic.Lib.Pointwise

@[expose] public section

noncomputable section

namespace Cert.Proof.Latent

open Idealize.ShloMosaic

/-- A matrix of extended reals. -/
abbrev Mat (a b : ℕ) := (⟨2, ![a, b]⟩ : Shape).Idx → EReal

/-- A vector of extended reals. -/
abbrev Row (a : ℕ) := (⟨1, ![a]⟩ : Shape).Idx → EReal

/-- The norm's epsilon, 1/8 and the scale of the latent queries, as the words they are. -/
abbrev eps : EReal := Ideal.ofBits .f32 0x358637BD#32
abbrev eighth : EReal := Ideal.ofBits .f32 0x3E000000#32
abbrev scale : EReal := Ideal.ofBits .f32 0x3DD105EC#32

/-- The root mean square norm of a row, by the width's word. -/
def normed {n : ℕ} (width : EReal) (y g : Fin n → EReal) (k : Fin n) : EReal :=
  y k * Ideal.rsqrt (Ideal.div (∑ d, y d * y d) width + eps) * g k

/-- The angle of position `r` at frequency `i`. -/
def angle (r i : ℕ) : EReal :=
  FloatOps.sitofp (F := Ideal) .f32 (BitVec.ofNat 32 r)
    * Ideal.pow (Ideal.ofBits .f32 0x461C4000#32)
      (Ideal.div (-(Ideal.ofBits .f32 0x40000000#32 * FloatOps.sitofp (F := Ideal) .f32 (BitVec.ofNat 32 i))) (Ideal.ofBits .f32 0x42000000#32))

/-- The angle of feature `j` of a rotary half: both halves turn alike. -/
def turn (r j : ℕ) : EReal := if j < 16 then angle r j else angle r (j - 16)

/-- The rotary embedding of 32 features at position `r`. -/
def roped (a : Fin 32 → EReal) (r : ℕ) (j : Fin 32) : EReal :=
  if h : j.val < 16 then a j * Ideal.cos (angle r j) - a ⟨16 + j, by omega⟩ * Ideal.sin (angle r j)
  else a j * Ideal.cos (angle r (j - 16)) + a ⟨j - 16, by omega⟩ * Ideal.sin (angle r (j - 16))

section Values

variable (x : Mat 16384 1024) (w : Mat 1024 2336) (gq : Row 512) (gkv : Row 256) (uq : Mat 512 768) (ukv : Mat 256 1024)

/-- A row of the input by a column of the weights. -/
def proj (r : Fin 16384) (f : Fin 2336) : EReal := ∑ k : Fin 1024, x (ix2 r k) * w (ix2 k f)

/-- The normed latent of the queries. -/
def latQ (r : Fin 16384) : Fin 512 → EReal :=
  normed (Ideal.ofBits .f32 0x44000000#32) (fun d : Fin 512 => proj x w r ⟨1536 + d, by omega⟩) (fun d => gq (ix1 d))

/-- The normed latent of the keys and values. -/
def latKV (r : Fin 16384) : Fin 256 → EReal :=
  normed (Ideal.ofBits .f32 0x43800000#32) (fun d : Fin 256 => proj x w r ⟨2048 + d, by omega⟩) (fun d => gkv (ix1 d))

/-- Feature `j` of head `h` of the latent queries. -/
def headQ (r : Fin 16384) (h : Fin 8) (j : Fin 96) : EReal := ∑ k : Fin 512, latQ x w gq r k * uq (ix2 k ⟨h * 96 + j, by omega⟩)

/-- Feature `j` of head `h` of the latent keys (the first 64) and values (the last 64). -/
def headKV (r : Fin 16384) (h : Fin 8) (j : Fin 128) : EReal := ∑ k : Fin 256, latKV x w gkv r k * ukv (ix2 k ⟨h * 128 + j, by omega⟩)

/-- Lane `l` of head `h` of the latent queries, scaled: 64 plain features, 32 turned ones, zeros. -/
def laneQ (r : Fin 16384) (h : Fin 8) (l : Fin 128) : EReal :=
  if h1 : l.val < 64 then headQ x w gq uq r h ⟨l, by omega⟩ * scale
  else if h2 : l.val - 64 < 32 then roped (fun j => headQ x w gq uq r h ⟨64 + j, by omega⟩) r ⟨l - 64, h2⟩ * scale
  else 0

/-- Lane `l` of head `h` of the latent keys: 64 plain features, the 32 turned ones all heads share, zeros. -/
def laneK (r : Fin 16384) (h : Fin 8) (l : Fin 128) : EReal :=
  if h1 : l.val < 64 then headKV x w gkv ukv r h l
  else if h2 : l.val - 64 < 32 then roped (fun j => proj x w r ⟨2304 + j, by omega⟩) r ⟨l - 64, h2⟩
  else 0

/-- The six arrays. -/
def queryA : Mat 16384 512 := fun i => proj x w (i 0) ⟨(i 1).val, Nat.lt_trans (i 1).isLt (by decide)⟩ * eighth
def keyA : Mat 16384 512 := fun i => proj x w (i 0) ⟨512 + (i 1).val, Nat.lt_of_lt_of_le (Nat.add_lt_add_left (i 1).isLt 512) (by decide)⟩
def valueA : Mat 16384 512 := fun i => proj x w (i 0) ⟨1024 + (i 1).val, Nat.lt_of_lt_of_le (Nat.add_lt_add_left (i 1).isLt 1024) (by decide)⟩
def queryB : Mat 16384 1024 := fun i =>
  laneQ x w gq uq (i 0) ⟨(i 1).val / 128, Nat.div_lt_of_lt_mul (i 1).isLt⟩ ⟨(i 1).val % 128, Nat.mod_lt _ (by decide)⟩
def keyB : Mat 16384 1024 := fun i =>
  laneK x w gkv ukv (i 0) ⟨(i 1).val / 128, Nat.div_lt_of_lt_mul (i 1).isLt⟩ ⟨(i 1).val % 128, Nat.mod_lt _ (by decide)⟩
def valueB : Mat 16384 512 := fun i =>
  headKV x w gkv ukv (i 0) ⟨(i 1).val / 64, Nat.div_lt_of_lt_mul (i 1).isLt⟩
    ⟨64 + (i 1).val % 64, Nat.lt_of_lt_of_le (Nat.add_lt_add_left (Nat.mod_lt _ (by decide)) 64) (by decide)⟩

end Values

/-! ## Real numbers -/

/-- Over real numbers the sum of products with the negatives is the negative of the sum of products. -/
theorem sum_mul_neg {ι : Type} [Fintype ι] (a b : ι → EReal) (ha : ∀ i, ∃ r : ℝ, a i = r) (hb : ∀ i, ∃ r : ℝ, b i = r) :
    ∑ i, a i * -b i = -∑ i, a i * b i := by
  choose u hu using ha
  choose v hv using hb
  have hs (z : ι → ℝ) : ∑ i, (z i : EReal) = ((∑ i, z i : ℝ) : EReal) :=
    (map_sum (⟨⟨_root_.Real.toEReal, EReal.coe_zero⟩, EReal.coe_add⟩ : ℝ →+ EReal) _ Finset.univ).symm
  have hl : ∑ i, a i * -b i = ∑ i, ((u i * -v i : ℝ) : EReal) := Finset.sum_congr rfl fun i _ => by rw [hu, hv, EReal.coe_mul, EReal.coe_neg]
  have hr : ∑ i, a i * b i = ∑ i, ((u i * v i : ℝ) : EReal) := Finset.sum_congr rfl fun i _ => by rw [hu, hv, EReal.coe_mul]
  rw [hl, hr, hs, hs, ← EReal.coe_neg]
  simp

/-- A sum of products of real numbers is a real number. -/
theorem real_sum {ι : Type} [Fintype ι] (a b : ι → EReal) (ha : ∀ i, ∃ r : ℝ, a i = r) (hb : ∀ i, ∃ r : ℝ, b i = r) :
    ∃ r : ℝ, ∑ i, a i * b i = r := by
  obtain ⟨r, hr⟩ := Band.real_dot a b 0 ha hb ⟨0, rfl⟩
  exact ⟨r, by rw [← hr, add_zero]⟩

/-- The norm of real numbers over a positive width is real: the square root is of a positive number. -/
theorem real_normed {n : ℕ} (v e : ℝ) (hv : 0 < v) (he : 0 < e) (hE : eps = e) (y g : Fin n → EReal) (hy : ∀ i, ∃ r : ℝ, y i = r)
    (hg : ∀ i, ∃ r : ℝ, g i = r) (k : Fin n) : ∃ r : ℝ, normed (v : EReal) y g k = r := by
  choose u hu using hy
  obtain ⟨c, hc⟩ := hg k
  have hs : ∑ d, y d * y d = ((∑ d, u d * u d : ℝ) : EReal) := by
    rw [Finset.sum_congr rfl fun i _ => show y i * y i = ((u i * u i : ℝ) : EReal) by rw [hu, EReal.coe_mul]]
    exact (map_sum (⟨⟨_root_.Real.toEReal, EReal.coe_zero⟩, EReal.coe_add⟩ : ℝ →+ EReal) _ Finset.univ).symm
  have hp : 0 < (∑ d, u d * u d) * (1 / v) + e :=
    add_pos_of_nonneg_of_pos (mul_nonneg (Finset.sum_nonneg fun d _ => mul_self_nonneg (u d)) (by positivity)) he
  refine ⟨u k * (Real.sqrt ((∑ d, u d * u d) * (1 / v) + e))⁻¹ * c, ?_⟩
  unfold normed
  rw [hs, Ideal.div_coe hv.ne', hE, hu, hc, ← EReal.coe_mul, ← EReal.coe_add, Ideal.rsqrt_coe, if_neg (not_lt.mpr hp.le), if_neg hp.ne',
    ← EReal.coe_mul, ← EReal.coe_mul]

/-! ## The rotary embedding by turned columns -/

/-- The embedding of a product is the product by the columns, times the cosine, plus the product by the turned columns,
    times the sine. -/
theorem roped_of_columns {n : ℕ} (a : Fin n → EReal) (W : Fin n → Fin 32 → EReal) (ha : ∀ k, ∃ r : ℝ, a k = r)
    (hW : ∀ k j, ∃ r : ℝ, W k j = r) (r : ℕ) (j : Fin 32) :
    (∑ k, a k * W k j) * Ideal.cos (turn r j)
        + (∑ k, a k * (if h : j.val < 16 then -W k ⟨16 + j, by omega⟩ else W k ⟨j - 16, by omega⟩)) * Ideal.sin (turn r j)
      = roped (fun j => ∑ k, a k * W k j) r j := by
  unfold roped turn
  by_cases h : j.val < 16
  · simp only [h, dif_pos, if_true]
    rw [sum_mul_neg a _ ha fun k => hW k _, EReal.neg_mul, sub_eq_add_neg]
  · simp only [h, dif_neg, if_false, not_false_eq_true]

section Lanes

variable (x : Mat 16384 1024) (w : Mat 1024 2336) (gq : Row 512) (gkv : Row 256) (uq : Mat 512 768) (ukv : Mat 256 1024)

/-- A query lane from the columns and the turned columns, each in its lane, and the tables' lanes. -/
theorem laneQ_of_columns (r : Fin 16384) (h : Fin 8) (l : Fin 128) (hl : ∀ k, ∃ z : ℝ, latQ x w gq r k = z) (hu : ∀ i, ∃ z : ℝ, uq i = z) :
    ((∑ k, latQ x w gq r k * (if h1 : l.val < 96 then uq (ix2 k ⟨h * 96 + l, by omega⟩) else 0))
          * (if l.val < 64 then 1 else if l.val - 64 < 32 then Ideal.cos (turn r (l - 64)) else 0)
        + (∑ k, latQ x w gq r k * (if l.val < 64 then 0 else if h2 : l.val - 64 < 32 then
              (if h3 : l.val - 64 < 16 then -uq (ix2 k ⟨h * 96 + (64 + (16 + (l - 64))), by omega⟩)
                else uq (ix2 k ⟨h * 96 + (64 + (l - 64 - 16)), by omega⟩))
            else 0))
          * (if l.val < 64 then 0 else if l.val - 64 < 32 then Ideal.sin (turn r (l - 64)) else 0)) * scale
      = laneQ x w gq uq r h l := by
  unfold laneQ
  by_cases h1 : l.val < 64
  · have h9 : l.val < 96 := by omega
    simp only [h1, h9, dif_pos, if_true, mul_zero, Finset.sum_const_zero, add_zero, mul_one]
    rfl
  · by_cases h2 : l.val - 64 < 32
    · have h9 : l.val < 96 := by omega
      simp only [h1, h2, h9, dif_pos, dif_neg, if_true, if_false, not_false_eq_true]
      refine congrArg (fun z : EReal => z * scale) (Eq.trans ?_ (roped_of_columns (latQ x w gq r)
        (fun k j => uq (ix2 k ⟨h * 96 + (64 + j), by omega⟩)) hl (fun k j => hu _) r ⟨l - 64, h2⟩))
      refine congrArg (fun z : EReal => z * _ + _) (Finset.sum_congr rfl fun k _ => congrArg (fun z => _ * uq (ix2 k z)) (Fin.ext ?_))
      show h.val * 96 + l.val = h.val * 96 + (64 + (l.val - 64))
      omega
    · have h9 : ¬ l.val < 96 := by omega
      simp only [h1, h2, h9, dif_neg, if_false, not_false_eq_true, mul_zero, Finset.sum_const_zero, add_zero, zero_mul]

/-- A key lane from the plain columns in their lanes and the placement of the turned key. -/
theorem laneK_of_columns (r : Fin 16384) (h : Fin 8) (l : Fin 128) :
    (∑ k, latKV x w gkv r k * (if h1 : l.val < 64 then ukv (ix2 k ⟨h * 128 + l, by omega⟩) else 0))
        + ∑ j : Fin 32, roped (fun j => proj x w r ⟨2304 + j, by omega⟩) r j
          * (if l.val < 64 then 0 else if l.val - 64 < 32 then (if j.val = l - 64 then 1 else 0) else 0)
      = laneK x w gkv ukv r h l := by
  unfold laneK
  by_cases h1 : l.val < 64
  · simp only [h1, dif_pos, if_true, mul_zero, Finset.sum_const_zero, add_zero]
    rfl
  · by_cases h2 : l.val - 64 < 32
    · simp only [h1, h2, dif_pos, dif_neg, if_true, if_false, not_false_eq_true, mul_zero, Finset.sum_const_zero, zero_add]
      rw [Finset.sum_eq_single (⟨l - 64, h2⟩ : Fin 32), if_pos rfl, mul_one]
      · intro j _ hj
        rw [if_neg fun e => hj (Fin.ext e), mul_zero]
      · exact fun hn => absurd (Finset.mem_univ _) hn
    · simp only [h1, h2, dif_neg, if_false, not_false_eq_true, mul_zero, Finset.sum_const_zero, add_zero]

end Lanes

end Cert.Proof.Latent

end
-- ==== Proof.LatentIdealRun.lean ====
/-
  The latent projections' idealized run: its six arrays by the grid's last point, and the block of the latent queries, whose
  eight heads are stored one by one.
-/
module

public import proofs.«01_k».proof.Proof.LatentIdealFrame
public import proofs.«01_k».proof.Proof.Latent
public import Idealize.ShloMosaic.Lib.Pipeline.Value

@[expose] public section

noncomputable section

namespace Cert.Proof.LatentRun

open Idealize.ShloMosaic Idealize.ShloMosaic.TcCoe Idealize.SL.Sem
open Cert.PrepABIdeal Cert.PrepABIdeal.Gen Cert.Proof.Latent

section Run

variable {F : FTy → Type} [FloatOps F] (m : (ℓ : Loc nD τ sig) → Buf (Elt F) ℓ) (ρ : Dev nD → PrngReg)

/-- The run leaves the arrays the windows write, and the arguments as they were. -/
theorem run : θ_run defs (onTc (τ := τ) (main (F := F))) ⟨m, fun _ => 0, ρ⟩ fun r => ∀ c : Dev nD,
    r.2.mem ((c : Thread nD τ).loc main_v76_0) = (dats m 0 c).arrAt 17 cfg0.N
      ∧ r.2.mem ((c : Thread nD τ).loc main_v76_1) = (dats m 0 c).arrAt 18 cfg0.N
      ∧ r.2.mem ((c : Thread nD τ).loc main_v76_2) = (dats m 0 c).arrAt 19 cfg0.N
      ∧ r.2.mem ((c : Thread nD τ).loc main_v76_3) = (dats m 0 c).arrAt 20 cfg0.N
      ∧ r.2.mem ((c : Thread nD τ).loc main_v76_4) = (dats m 0 c).arrAt 21 cfg0.N
      ∧ r.2.mem ((c : Thread nD τ).loc main_v76_5) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  refine (θ_run defs _ _).mono (fun r h c => ⟨(h c).1 17, (h c).1 18, (h c).1 19, (h c).1 20, (h c).1 21, (h c).1 22,
    ((h c).1 0).trans (((dats m 0 c).arrAt_in 0 rfl _).trans ((A_eq m c 0).trans (V_main_arg0 m c))), ?_⟩) (run_main m ρ)
  have kept := (h c).2
  exact ⟨(kept main_arg1 (Pipeline.mem_restRefs_of main_arg1 (by decide) (by decide))).trans (V_main_arg1 m c),
    (kept main_arg2 (Pipeline.mem_restRefs_of main_arg2 (by decide) (by decide))).trans (V_main_arg2 m c),
    (kept main_arg3 (Pipeline.mem_restRefs_of main_arg3 (by decide) (by decide))).trans (V_main_arg3 m c),
    (kept main_arg4 (Pipeline.mem_restRefs_of main_arg4 (by decide) (by decide))).trans (V_main_arg4 m c),
    (kept main_arg5 (Pipeline.mem_restRefs_of main_arg5 (by decide) (by decide))).trans (V_main_arg5 m c)⟩

end Run

/-- The heads of a tile: the plain and turned products, times a head's cosines and sines, scaled. -/
def heads (A B : S512x1024.Idx → EReal) (cs sn : S512x128.Idx → EReal) (i : S512x1024.Idx) : EReal :=
  (A i * cs (ix2 (i 0) ⟨(i 1).val % 128, Nat.mod_lt _ (by decide)⟩) + B i * sn (ix2 (i 0) ⟨(i 1).val % 128, Nat.mod_lt _ (by decide)⟩)) * scale

/-- One head, as its 128 columns are stored. -/
theorem head {o : ℕ} (ho : o % 128 = 0) (A B : S512x1024.Idx → EReal) (cs sn : S512x128.Idx → EReal) (hs : S512x1024.Slices ![0, o] S512x128)
    (hc : S512x128.ShapeCasts S512x128) (hb : FTy.bf16.bits < FTy.f32.bits) (x : S512x128.Idx) (i : S512x1024.Idx) (h0 : (i 0).val = (x 0).val)
    (h1 : (i 1).val = o + (x 1).val) :
    (truncf (F := Ideal) .bf16 (mulf (addf (mulf (extractStridedSlice S512x128 ![0, o] (A : FVec Ideal S512x1024 .f32) hs) (shapeCast S512x128 (cs : FVec Ideal S512x128 .f32) hc))
      (mulf (extractStridedSlice S512x128 ![0, o] (B : FVec Ideal S512x1024 .f32) hs) (shapeCast S512x128 (sn : FVec Ideal S512x128 .f32) hc)))
      (broadcast S512x128 (Scalar.ofBits .f32 0x3DD105EC#32))) hb) x = heads A B cs sn i := by
  have e (X : FVec Ideal S512x1024 .f32) : extractStridedSlice S512x128 ![0, o] X hs x = X i :=
    extractStridedSlice_apply ![0, o] X hs x i (fun a => match a with
      | ⟨0, _⟩ => by show (i 0).val = 0 + (x 0).val; omega
      | ⟨1, _⟩ => by show (i 1).val = o + (x 1).val; exact h1)
  have k (X : FVec Ideal S512x128 .f32) : shapeCast S512x128 X hc x = X (ix2 (i 0) ⟨(i 1).val % 128, Nat.mod_lt _ (by decide)⟩) := by
    refine (shapeCast_apply _ _ x x rfl).trans (congrArg X (funext fun a => ?_))
    have hx : (x 1).val < 128 := (x 1).isLt
    match a with
    | ⟨0, _⟩ => exact Fin.ext h0.symm
    | ⟨1, _⟩ => exact Fin.ext (by show (x 1).val = (i 1).val % 128; omega)
  show ((extractStridedSlice S512x128 ![0, o] (A : FVec Ideal S512x1024 .f32) hs x : EReal) * (shapeCast S512x128 (cs : FVec Ideal S512x128 .f32) hc x : EReal)
    + (extractStridedSlice S512x128 ![0, o] (B : FVec Ideal S512x1024 .f32) hs x : EReal) * (shapeCast S512x128 (sn : FVec Ideal S512x128 .f32) hc x : EReal)) * scale = _
  rw [e, e, k, k]
  rfl

variable (P0 : Vec Ideal S512x1024 .f32) (P1 : Vec Ideal S1024x512 .bf16) (P2 : Vec Ideal S1x512 .f32) (P3 : Vec Ideal S512x1024 .bf16)
  (P4 : Vec Ideal S512x128 .f32) (P5 : Vec Ideal S512x1024 .bf16) (P6 : Vec Ideal S512x128 .f32)

theorem row_val (x : S512x128.Idx) : 0 + 1 * (x 0).val = (x 0).val := by omega

theorem column_val (o : ℕ) (x : S512x128.Idx) : o + 1 * (x 1).val = o + (x 1).val := by omega

/-- The eight stores leave the heads. -/
theorem canon_heads (y : S512x1024.Idx) :
    View.canon (Val := Elt Ideal) (s := S512x1024) (e := .bf16) [⟨r0_13, k0_pay22 (k0_pay9 (k0_pay8 P0 P1 P2) P3) (k0_pay10 (k0_pay8 P0 P1 P2) P5) (k0_pay11 P4) (k0_pay12 P6)⟩,
      ⟨r0_12, k0_pay21 (k0_pay9 (k0_pay8 P0 P1 P2) P3) (k0_pay10 (k0_pay8 P0 P1 P2) P5) (k0_pay11 P4) (k0_pay12 P6)⟩,
      ⟨r0_11, k0_pay20 (k0_pay9 (k0_pay8 P0 P1 P2) P3) (k0_pay10 (k0_pay8 P0 P1 P2) P5) (k0_pay11 P4) (k0_pay12 P6)⟩,
      ⟨r0_10, k0_pay19 (k0_pay9 (k0_pay8 P0 P1 P2) P3) (k0_pay10 (k0_pay8 P0 P1 P2) P5) (k0_pay11 P4) (k0_pay12 P6)⟩,
      ⟨r0_9, k0_pay18 (k0_pay12 P6) (k0_pay16 (k0_pay8 P0 P1 P2) P3 P4) (k0_pay17 (k0_pay8 P0 P1 P2) P5)⟩,
      ⟨r0_8, k0_pay15 (k0_pay8 P0 P1 P2) P3 P5 P4 P6⟩, ⟨r0_7, k0_pay14 (k0_pay8 P0 P1 P2) P3 P5 P4 P6⟩,
      ⟨r0_6, k0_pay13 (k0_pay8 P0 P1 P2) P3 P5 P4 P6⟩] y
      = heads (k0_pay9 (F := Ideal) (k0_pay8 P0 P1 P2) P3) (k0_pay10 (F := Ideal) (k0_pay8 P0 P1 P2) P5) P4 P6 y := by
  refine View.canon_apply_of_pieces (Val := Elt Ideal) (heads (k0_pay9 (F := Ideal) (k0_pay8 P0 P1 P2) P3) (k0_pay10 (F := Ideal) (k0_pay8 P0 P1 P2) P5) P4 P6) _ ?_ y
    (cover0_20 (F := Ideal) _ _ _ _ _ _ _ _ y)
  intro pc hpc
  simp only [List.mem_cons, List.not_mem_nil, or_false] at hpc
  rcases hpc with rfl | rfl | rfl | rfl | rfl | rfl | rfl | rfl
  · exact fun x => head (o := 896) (by decide) _ _ _ _ slices_S512x1024_o0_896_S512x128 _ _ x _ (row_val x) (column_val 896 x)
  · exact fun x => head (o := 768) (by decide) _ _ _ _ slices_S512x1024_o0_768_S512x128 _ _ x _ (row_val x) (column_val 768 x)
  · exact fun x => head (o := 640) (by decide) _ _ _ _ slices_S512x1024_o0_640_S512x128 _ _ x _ (row_val x) (column_val 640 x)
  · exact fun x => head (o := 512) (by decide) _ _ _ _ slices_S512x1024_o0_512_S512x128 _ _ x _ (row_val x) (column_val 512 x)
  · exact fun x => head (o := 384) (by decide) _ _ _ _ slices_S512x1024_o0_384_S512x128 _ _ x _ (row_val x) (column_val 384 x)
  · exact fun x => head (o := 256) (by decide) _ _ _ _ slices_S512x1024_o0_256_S512x128 _ _ x _ (row_val x) (column_val 256 x)
  · exact fun x => head (o := 128) (by decide) _ _ _ _ slices_S512x1024_o0_128_S512x128 _ _ x _ (row_val x) (column_val 128 x)
  · exact fun x => head (o := 0) (by decide) _ _ _ _ slices_S512x1024_o0_0_S512x128 _ _ x _ (row_val x) (column_val 0 x)

end Cert.Proof.LatentRun

end
-- ==== Proof.LatentTables.lean ====
/-
  What the latent projections' host operands hold: the weights' columns, cut, turned and laid out in 128 lanes a head, and
  the rotary tables.
-/
module

public import proofs.«01_k».proof.Proof.LatentIdealFrame
public import proofs.«01_k».proof.Proof.Latent
public import Idealize.ShloMosaic.Lib.StableHlo.ReadAt
public import Idealize.ShloMosaic.Lib.Pipeline.ValueKit

@[expose] public section

set_option maxRecDepth 16384
set_option Elab.async false

noncomputable section

namespace Cert.Proof.LatentTables

open Idealize.ShloMosaic Idealize.ShloMosaic.TcCoe Idealize.SL.Sem
open Cert.PrepABIdeal Cert.PrepABIdeal.Gen Cert.Proof.Latent

variable (m : (ℓ : Loc nD τ sig) → Buf (Elt Ideal) ℓ) (c : Dev nD)

/-- The arguments. -/
abbrev argX : Mat 16384 1024 := m ((c.tc : Thread nD τ).loc main_arg0)
abbrev argW : Mat 1024 2336 := m ((c.tc : Thread nD τ).loc main_arg1)
abbrev argGq : Row 512 := m ((c.tc : Thread nD τ).loc main_arg2)
abbrev argGkv : Row 256 := m ((c.tc : Thread nD τ).loc main_arg3)
abbrev argUq : Mat 512 768 := m ((c.tc : Thread nD τ).loc main_arg4)
abbrev argUkv : Mat 256 1024 := m ((c.tc : Thread nD τ).loc main_arg5)

/-- The local attention's columns. -/
theorem local_columns (k : Fin 1024) (f : Fin 1536) : (Gen.V (F := Ideal) m c main_v1 (ix2 k f) : EReal) = argW m c (ix2 k ⟨f, by omega⟩) := by
  unfold Gen.V
  after_reads_at

/-- The query latent's columns. -/
theorem q_columns (k : Fin 1024) (f : Fin 512) : (Gen.V (F := Ideal) m c main_v3 (ix2 k f) : EReal) = argW m c (ix2 k ⟨1536 + f, by omega⟩) := by
  unfold Gen.V
  after_reads_at

/-- The key and value latent's columns. -/
theorem kv_columns (k : Fin 1024) (f : Fin 256) : (Gen.V (F := Ideal) m c main_v5 (ix2 k f) : EReal) = argW m c (ix2 k ⟨2048 + f, by omega⟩) := by
  unfold Gen.V
  after_reads_at

/-- The shared rotary key's columns. -/
theorem rope_columns (k : Fin 1024) (f : Fin 32) : (Gen.V (F := Ideal) m c main_v7 (ix2 k f) : EReal) = argW m c (ix2 k ⟨2304 + f, by omega⟩) := by
  unfold Gen.V
  after_reads_at

/-- The same, turned. -/
theorem turned_columns (k : Fin 1024) (f : Fin 32) : (Gen.V (F := Ideal) m c main_v12 (ix2 k f) : EReal)
    = if h : f.val < 16 then -argW m c (ix2 k ⟨2304 + (16 + f), by omega⟩) else argW m c (ix2 k ⟨2304 + (f - 16), by omega⟩) := by
  unfold Gen.V
  after_reads_at
  split <;> after_reads_at

/-- The norms' weights, as rows. -/
theorem q_weights (k : Fin 1) (f : Fin 512) : (Gen.V (F := Ideal) m c main_v74 (ix2 k f) : EReal) = argGq m c (ix1 f) := by
  unfold Gen.V
  after_reads_at

theorem kv_weights (k : Fin 1) (f : Fin 256) : (Gen.V (F := Ideal) m c main_v75 (ix2 k f) : EReal) = argGkv m c (ix1 f) := by
  unfold Gen.V
  after_reads_at

/-- The query heads' columns in their lanes. -/
theorem q_lanes (k : Fin 512) (f : Fin 1024) : (Gen.V (F := Ideal) m c main_v17 (ix2 k f) : EReal)
    = if h : f.val % 128 < 96 then argUq m c (ix2 k ⟨f / 128 * 96 + f % 128, by omega⟩) else 0 := by
  unfold Gen.V
  after_reads_at
  split <;> try after_reads_at

/-- The query heads' rotary columns, turned, in their lanes. -/
theorem q_turned (k : Fin 512) (f : Fin 1024) : (Gen.V (F := Ideal) m c main_v26 (ix2 k f) : EReal)
    = if f.val % 128 < 64 then 0 else if h2 : f.val % 128 - 64 < 32 then
        (if h3 : f.val % 128 - 64 < 16 then -argUq m c (ix2 k ⟨f / 128 * 96 + (64 + (16 + (f % 128 - 64))), by omega⟩)
          else argUq m c (ix2 k ⟨f / 128 * 96 + (64 + (f % 128 - 64 - 16)), by omega⟩))
      else 0 := by
  unfold Gen.V
  after_reads_at
  repeat' (split <;> try after_reads_at)

/-- The key heads' plain columns in their lanes. -/
theorem k_lanes (k : Fin 256) (f : Fin 1024) : (Gen.V (F := Ideal) m c main_v32 (ix2 k f) : EReal)
    = if h : f.val % 128 < 64 then argUkv m c (ix2 k ⟨f / 128 * 128 + f % 128, by omega⟩) else 0 := by
  unfold Gen.V
  after_reads_at
  split <;> try after_reads_at

/-- The value heads' columns. -/
theorem v_columns (k : Fin 256) (f : Fin 512) : (Gen.V (F := Ideal) m c main_v35 (ix2 k f) : EReal)
    = argUkv m c (ix2 k ⟨f / 64 * 128 + (64 + f % 64), by omega⟩) := by
  unfold Gen.V
  after_reads_at

/-- The mark of two equal words. -/
theorem mark (a b : ℕ) (ha : a < 1024) (hb : b < 1024) :
    FloatOps.uitofp (F := Ideal) .bf16 (IntOp.cmpi .eq (IntOp.addi (BitVec.ofNat 32 a) 0#32) (BitVec.ofNat 32 b)) = (if a = b then 1 else 0 : EReal) := by
  have e : (BitVec.ofNat 32 a = BitVec.ofNat 32 b) ↔ a = b := by
    rw [BitVec.toNat_eq, BitVec.toNat_ofNat, BitVec.toNat_ofNat, Nat.mod_eq_of_lt (by omega), Nat.mod_eq_of_lt (by omega)]
  have z : IntOp.addi (BitVec.ofNat 32 a) 0#32 = BitVec.ofNat 32 a := BitVec.add_zero _
  rw [z]
  by_cases h : a = b
  · subst h
    simp [IntOp.cmpi, FloatOps.uitofp]
  · have : ¬ (BitVec.ofNat 32 a = BitVec.ofNat 32 b) := fun hh => h (e.mp hh)
    simp [IntOp.cmpi, FloatOps.uitofp, h, this]

/-- The placement of the 32 rotary features in every head's lanes. -/
theorem placement (k : Fin 32) (f : Fin 1024) : (Gen.V (F := Ideal) m c main_v47 (ix2 k f) : EReal)
    = (if f.val % 128 < 64 then 0 else if f.val % 128 - 64 < 32 then (if k.val = f.val % 128 - 64 then 1 else 0) else 0 : EReal) := by
  unfold Gen.V
  after_reads_at
  repeat' (split <;> try after_reads_at)
  · exact (mark _ _ (by omega) (by omega)).trans (if_pos ‹_›)
  · exact (mark _ _ (by omega) (by omega)).trans (if_neg ‹_›)

/-- The cosines of the query lanes: 1 at a plain feature, 0 past the features. -/
theorem cos_lanes (k : Fin 16384) (f : Fin 128) : (Gen.V (F := Ideal) m c main_v70 (ix2 k f) : EReal)
    = if f.val < 64 then 1 else if f.val - 64 < 32 then Ideal.cos (turn k (f.val - 64)) else 0 := by
  unfold Gen.V turn angle
  after_reads_at
  repeat' (split <;> try after_reads_at)

/-- The sines of the query lanes. -/
theorem sin_lanes (k : Fin 16384) (f : Fin 128) : (Gen.V (F := Ideal) m c main_v73 (ix2 k f) : EReal)
    = if f.val < 64 then 0 else if f.val - 64 < 32 then Ideal.sin (turn k (f.val - 64)) else 0 := by
  unfold Gen.V turn angle
  after_reads_at
  repeat' (split <;> try after_reads_at)

/-- The cosines of the shared key. -/
theorem cosines (k : Fin 16384) (f : Fin 32) : (Gen.V (F := Ideal) m c main_v65 (ix2 k f) : EReal) = Ideal.cos (turn k f) := by
  unfold Gen.V turn angle
  after_reads_at
  repeat' (split <;> try after_reads_at)

/-- The sines of the shared key. -/
theorem sines (k : Fin 16384) (f : Fin 32) : (Gen.V (F := Ideal) m c main_v67 (ix2 k f) : EReal) = Ideal.sin (turn k f) := by
  unfold Gen.V turn angle
  after_reads_at
  repeat' (split <;> try after_reads_at)

end Cert.Proof.LatentTables

end
-- ==== Proof.LatentValue.lean ====
/-
  The latent projections: what the kernel's six arrays hold.
-/
module

public import proofs.«01_k».proof.Proof.LatentIdealRun
public import proofs.«01_k».proof.Proof.LatentTables
public import Idealize.ShloMosaic.Lib.Pipeline.ReadBack

@[expose] public section

set_option maxRecDepth 16384
set_option Elab.async false

noncomputable section

namespace Cert.Proof.LatentValue

open Idealize.ShloMosaic Idealize.ShloMosaic.TcCoe Idealize.SL.Sem
open Cert.PrepABIdeal Cert.PrepABIdeal.Gen Cert.Proof.Latent Cert.Proof.LatentTables

/-! ## The payloads -/

theorem local_payload (P0 : S512x1024.Idx → EReal) (P1 : S1024x1536.Idx → EReal) (r : Fin 512) (f : Fin 1536) :
    k0_pay4 (F := Ideal) P0 P1 (ix2 r f) = ∑ k : Fin 1024, P0 (ix2 r k) * P1 (ix2 k f) := by
  pointwise [k0_pay4, k0_pay3]

theorem query_payload (P0 : S512x1024.Idx → EReal) (P1 : S1024x1536.Idx → EReal) (r : Fin 512) (f : Fin 512) :
    k0_pay5 (F := Ideal) P0 P1 (ix2 r f) = (∑ k : Fin 1024, P0 (ix2 r k) * P1 (ix2 k ⟨f.val, by omega⟩)) * eighth := by
  pointwise [k0_pay5, local_payload]

theorem key_payload (P0 : S512x1024.Idx → EReal) (P1 : S1024x1536.Idx → EReal) (r : Fin 512) (f : Fin 512) :
    k0_pay6 (F := Ideal) P0 P1 (ix2 r f) = ∑ k : Fin 1024, P0 (ix2 r k) * P1 (ix2 k ⟨512 + f.val, by omega⟩) := by
  pointwise [k0_pay6, local_payload]

theorem value_payload (P0 : S512x1024.Idx → EReal) (P1 : S1024x1536.Idx → EReal) (r : Fin 512) (f : Fin 512) :
    k0_pay7 (F := Ideal) P0 P1 (ix2 r f) = ∑ k : Fin 1024, P0 (ix2 r k) * P1 (ix2 k ⟨1024 + f.val, by omega⟩) := by
  pointwise [k0_pay7, local_payload]

theorem q_latent_payload (P0 : S512x1024.Idx → EReal) (P1 : S1024x512.Idx → EReal) (P2 : S1x512.Idx → EReal) (r : Fin 512) (f : Fin 512) :
    k0_pay8 (F := Ideal) P0 P1 P2 (ix2 r f)
      = normed (Ideal.ofBits .f32 0x44000000#32) (fun d : Fin 512 => ∑ k : Fin 1024, P0 (ix2 r k) * P1 (ix2 k d)) (fun d => P2 (ix2 0 d)) f := by
  unfold normed
  pointwise [k0_pay8, k0_pay3]

theorem kv_latent_payload (P0 : S512x1024.Idx → EReal) (P1 : S1024x256.Idx → EReal) (P2 : S1x256.Idx → EReal) (r : Fin 512) (f : Fin 256) :
    k0_pay23 (F := Ideal) P0 P1 P2 (ix2 r f)
      = normed (Ideal.ofBits .f32 0x43800000#32) (fun d : Fin 256 => ∑ k : Fin 1024, P0 (ix2 r k) * P1 (ix2 k d)) (fun d => P2 (ix2 0 d)) f := by
  unfold normed
  pointwise [k0_pay23]

theorem lanes_payload (N : S512x512.Idx → EReal) (P : S512x1024.Idx → EReal) (r : Fin 512) (f : Fin 1024) :
    k0_pay9 (F := Ideal) N P (ix2 r f) = ∑ k : Fin 512, N (ix2 r k) * P (ix2 k f) := by
  pointwise [k0_pay9]

theorem turned_payload (N : S512x512.Idx → EReal) (P : S512x1024.Idx → EReal) (r : Fin 512) (f : Fin 1024) :
    k0_pay10 (F := Ideal) N P (ix2 r f) = ∑ k : Fin 512, N (ix2 r k) * P (ix2 k f) := by
  pointwise [k0_pay10]

theorem rope_payload (P0 : S512x1024.Idx → EReal) (A B : S1024x32.Idx → EReal) (C S : S512x32.Idx → EReal) (r : Fin 512) (f : Fin 32) :
    k0_pay24 (F := Ideal) P0 A B C S (ix2 r f)
      = (∑ k : Fin 1024, P0 (ix2 r k) * A (ix2 k f)) * C (ix2 r f) + (∑ k : Fin 1024, P0 (ix2 r k) * B (ix2 k f)) * S (ix2 r f) := by
  pointwise [k0_pay24]

theorem plain_payload (P0 : S512x1024.Idx → EReal) (P1 : S1024x256.Idx → EReal) (P2 : S1x256.Idx → EReal) (P : S256x1024.Idx → EReal) (r : Fin 512) (f : Fin 1024) :
    k0_pay25 (F := Ideal) P0 P1 P2 P (ix2 r f) = ∑ k : Fin 256, k0_pay23 (F := Ideal) P0 P1 P2 (ix2 r k) * P (ix2 k f) := by
  pointwise [k0_pay25]

theorem placed_payload (R : S512x32.Idx → EReal) (N : S512x1024.Idx → EReal) (P : S32x1024.Idx → EReal) (r : Fin 512) (f : Fin 1024) :
    k0_pay1 (F := Ideal) R N P (ix2 r f) = N (ix2 r f) + ∑ k : Fin 32, R (ix2 r k) * P (ix2 k f) := by
  pointwise [k0_pay1]

theorem values_payload (N : S512x256.Idx → EReal) (P : S256x512.Idx → EReal) (r : Fin 512) (f : Fin 512) :
    k0_pay2 (F := Ideal) N P (ix2 r f) = ∑ k : Fin 256, N (ix2 r k) * P (ix2 k f) := by
  pointwise [k0_pay2]

/-! ## The blocks -/

variable (m : (ℓ : Loc nD τ sig) → Buf (Elt Ideal) ℓ) (c : Dev nD)

/-- The row tile of a point. -/
abbrev tile (t : Fin cfg0.N) : Fin 32 := grid0.coords t 0

/-- The array's row of a tile's row. -/
abbrev at_ (t : Fin cfg0.N) (r : Fin 512) : Fin 16384 := ⟨512 * (tile t).val + r.val, by have := (tile t).isLt; omega⟩

theorem idx_in (t : Fin cfg0.N) :
    win0_0.index t = ![(tile t).val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0] ∧ win0_13.index t = ![(tile t).val, 0] ∧ win0_14.index t = ![(tile t).val, 0]
      ∧ win0_15.index t = ![(tile t).val, 0] ∧ win0_16.index t = ![(tile t).val, 0] :=
  (by decide +kernel : ∀ t : Fin grid0.N,
    win0_0.index t = ![(tile t).val, 0] ∧ win0_1.index t = ![0, 0] ∧ win0_2.index t = ![0, 0] ∧ win0_3.index t = ![0, 0]
      ∧ win0_4.index t = ![0, 0] ∧ win0_5.index t = ![0, 0] ∧ win0_6.index t = ![0, 0] ∧ win0_7.index t = ![0, 0]
      ∧ win0_8.index t = ![0, 0] ∧ win0_9.index t = ![0, 0] ∧ win0_10.index t = ![0, 0] ∧ win0_11.index t = ![0, 0]
      ∧ win0_12.index t = ![0, 0] ∧ win0_13.index t = ![(tile t).val, 0] ∧ win0_14.index t = ![(tile t).val, 0]
      ∧ win0_15.index t = ![(tile t).val, 0] ∧ win0_16.index t = ![(tile t).val, 0]) t

theorem idx_out (t : Fin cfg0.N) :
    win0_17.index t = ![(tile t).val, 0] ∧ win0_18.index t = ![(tile t).val, 0] ∧ win0_19.index t = ![(tile t).val, 0]
      ∧ win0_20.index t = ![(tile t).val, 0] ∧ win0_21.index t = ![(tile t).val, 0] ∧ win0_22.index t = ![(tile t).val, 0] :=
  (by decide +kernel : ∀ t : Fin grid0.N,
    win0_17.index t = ![(tile t).val, 0] ∧ win0_18.index t = ![(tile t).val, 0] ∧ win0_19.index t = ![(tile t).val, 0]
      ∧ win0_20.index t = ![(tile t).val, 0] ∧ win0_21.index t = ![(tile t).val, 0] ∧ win0_22.index t = ![(tile t).val, 0]) t

theorem blk0 (t : Fin cfg0.N) (a : Fin 512) (b : Fin 1024) : iblk m c 0 t (ix2 a b) = argX m c (ix2 (at_ t a) b) := by
  blk_ext [iblk, V, idx_in t]

theorem blk1 (t : Fin cfg0.N) (a : Fin 1024) (b : Fin 1536) : iblk m c 1 t (ix2 a b) = argW m c (ix2 a ⟨b, by omega⟩) := by
  refine Eq.trans ?_ (local_columns m c a b)
  blk_ext [iblk, idx_in t]

theorem blk2 (t : Fin cfg0.N) (a : Fin 1024) (b : Fin 512) : iblk m c 2 t (ix2 a b) = argW m c (ix2 a ⟨1536 + b, by omega⟩) := by
  refine Eq.trans ?_ (q_columns m c a b)
  blk_ext [iblk, idx_in t]

theorem blk3 (t : Fin cfg0.N) (a : Fin 1024) (b : Fin 256) : iblk m c 3 t (ix2 a b) = argW m c (ix2 a ⟨2048 + b, by omega⟩) := by
  refine Eq.trans ?_ (kv_columns m c a b)
  blk_ext [iblk, idx_in t]

theorem blk4 (t : Fin cfg0.N) (a : Fin 1024) (b : Fin 32) : iblk m c 4 t (ix2 a b) = argW m c (ix2 a ⟨2304 + b, by omega⟩) := by
  refine Eq.trans ?_ (rope_columns m c a b)
  blk_ext [iblk, idx_in t]

theorem blk5 (t : Fin cfg0.N) (a : Fin 1024) (b : Fin 32) : (iblk m c 5 t (ix2 a b) : EReal)
    = if h : b.val < 16 then -argW m c (ix2 a ⟨2304 + (16 + b), by omega⟩) else argW m c (ix2 a ⟨2304 + (b - 16), by omega⟩) := by
  refine Eq.trans ?_ (turned_columns m c a b)
  blk_ext [iblk, idx_in t]

theorem blk6 (t : Fin cfg0.N) (a : Fin 1) (b : Fin 512) : iblk m c 6 t (ix2 a b) = argGq m c (ix1 b) := by
  refine Eq.trans ?_ (q_weights m c a b)
  blk_ext [iblk, idx_in t]

theorem blk7 (t : Fin cfg0.N) (a : Fin 1) (b : Fin 256) : iblk m c 7 t (ix2 a b) = argGkv m c (ix1 b) := by
  refine Eq.trans ?_ (kv_weights m c a b)
  blk_ext [iblk, idx_in t]

theorem blk8 (t : Fin cfg0.N) (a : Fin 512) (b : Fin 1024) : iblk m c 8 t (ix2 a b) = Gen.V (F := Ideal) m c main_v17 (ix2 a b) := by
  blk_ext [iblk, idx_in t]

theorem blk9 (t : Fin cfg0.N) (a : Fin 512) (b : Fin 1024) : iblk m c 9 t (ix2 a b) = Gen.V (F := Ideal) m c main_v26 (ix2 a b) := by
  blk_ext [iblk, idx_in t]

theorem blk10 (t : Fin cfg0.N) (a : Fin 256) (b : Fin 1024) : iblk m c 10 t (ix2 a b) = Gen.V (F := Ideal) m c main_v32 (ix2 a b) := by
  blk_ext [iblk, idx_in t]

theorem blk11 (t : Fin cfg0.N) (a : Fin 256) (b : Fin 512) : iblk m c 11 t (ix2 a b) = argUkv m c (ix2 a ⟨b / 64 * 128 + (64 + b % 64), by omega⟩) := by
  refine Eq.trans ?_ (v_columns m c a b)
  blk_ext [iblk, idx_in t]

theorem blk12 (t : Fin cfg0.N) (a : Fin 32) (b : Fin 1024) : iblk m c 12 t (ix2 a b) = Gen.V (F := Ideal) m c main_v47 (ix2 a b) := by
  blk_ext [iblk, idx_in t]

theorem blk13 (t : Fin cfg0.N) (a : Fin 512) (b : Fin 128) : iblk m c 13 t (ix2 a b) = Gen.V (F := Ideal) m c main_v70 (ix2 (at_ t a) b) := by
  blk_ext [iblk, idx_in t]

theorem blk14 (t : Fin cfg0.N) (a : Fin 512) (b : Fin 128) : iblk m c 14 t (ix2 a b) = Gen.V (F := Ideal) m c main_v73 (ix2 (at_ t a) b) := by
  blk_ext [iblk, idx_in t]

theorem blk15 (t : Fin cfg0.N) (a : Fin 512) (b : Fin 32) : iblk m c 15 t (ix2 a b) = Gen.V (F := Ideal) m c main_v65 (ix2 (at_ t a) b) := by
  blk_ext [iblk, idx_in t]

theorem blk16 (t : Fin cfg0.N) (a : Fin 512) (b : Fin 32) : iblk m c 16 t (ix2 a b) = Gen.V (F := Ideal) m c main_v67 (ix2 (at_ t a) b) := by
  blk_ext [iblk, idx_in t]

end Cert.Proof.LatentValue

end
-- ==== Proof.LatentArrays.lean ====
/-
  The latent projections: the six arrays after the run.
-/
module

public import proofs.«01_k».proof.Proof.LatentValue

@[expose] public section

set_option maxRecDepth 16384
set_option Elab.async false

noncomputable section

namespace Cert.Proof.LatentArrays

open Idealize.ShloMosaic Idealize.ShloMosaic.TcCoe Idealize.SL.Sem
open Cert.PrepABIdeal Cert.PrepABIdeal.Gen Cert.Proof.Latent Cert.Proof.LatentTables Cert.Proof.LatentValue

variable (m : (ℓ : Loc nD τ sig) → Buf (Elt Ideal) ℓ) (c : Dev nD)

/-! ## What a tile computes -/

/-- The local attention's columns of a tile. -/
theorem local_block (t : Fin cfg0.N) (r : Fin 512) (f : Fin 1536) :
    ∑ k : Fin 1024, (show EReal from iblk m c 0 t (ix2 r k)) * (show EReal from iblk m c 1 t (ix2 k f))
      = proj (argX m c) (argW m c) (at_ t r) ⟨f, by omega⟩ := by
  unfold proj
  exact Finset.sum_congr rfl fun k _ => congrArg₂ (fun a b : EReal => a * b) (blk0 m c t r k) (blk1 m c t k f)

/-- The normed query latent of a tile. -/
theorem latQ_block (t : Fin cfg0.N) (r k : Fin 512) :
    k0_pay8 (F := Ideal) (iblk m c 0 t) (iblk m c 2 t) (iblk m c 6 t) (ix2 r k) = latQ (argX m c) (argW m c) (argGq m c) (at_ t r) k := by
  rw [q_latent_payload]
  unfold latQ proj
  exact congrArg₂ (fun y g => normed (Ideal.ofBits .f32 0x44000000#32) y g k)
    (funext fun d => Finset.sum_congr rfl fun k _ => congrArg₂ (fun a b : EReal => a * b) (blk0 m c t r k) (blk2 m c t k d))
    (funext fun d => blk6 m c t 0 d)

/-- The normed key and value latent of a tile. -/
theorem latKV_block (t : Fin cfg0.N) (r : Fin 512) (k : Fin 256) :
    k0_pay23 (F := Ideal) (k0_pay3 (iblk m c 0 t)) (iblk m c 3 t) (iblk m c 7 t) (ix2 r k) = latKV (argX m c) (argW m c) (argGkv m c) (at_ t r) k := by
  refine (kv_latent_payload _ _ _ r k).trans ?_
  unfold latKV proj
  exact congrArg₂ (fun y g => normed (Ideal.ofBits .f32 0x43800000#32) y g k)
    (funext fun d => Finset.sum_congr rfl fun k _ => congrArg₂ (fun a b : EReal => a * b) (blk0 m c t r k) (blk3 m c t k d))
    (funext fun d => blk7 m c t 0 d)

/-- The turned shared key of a tile. -/
theorem rope_block (hx : ∀ i, ∃ z : ℝ, argX m c i = z) (hw : ∀ i, ∃ z : ℝ, argW m c i = z) (t : Fin cfg0.N) (r : Fin 512) (j : Fin 32) :
    k0_pay24 (F := Ideal) (k0_pay3 (iblk m c 0 t)) (iblk m c 4 t) (iblk m c 5 t) (iblk m c 15 t) (iblk m c 16 t) (ix2 r j)
      = roped (fun j => proj (argX m c) (argW m c) (at_ t r) ⟨2304 + j, by omega⟩) (at_ t r) j := by
  refine (rope_payload _ _ _ _ _ r j).trans ?_
  unfold proj
  refine Eq.trans ?_ (roped_of_columns (fun k : Fin 1024 => argX m c (ix2 (at_ t r) k))
    (fun k j => argW m c (ix2 k ⟨2304 + j, by omega⟩)) (fun k => hx _) (fun k j => hw _) (at_ t r) j)
  refine congrArg₂ (fun a b : EReal => a + b) (congrArg₂ (fun a b : EReal => a * b) ?_ ?_) (congrArg₂ (fun a b : EReal => a * b) ?_ ?_)
  · exact Finset.sum_congr rfl fun k _ => congrArg₂ (fun a b : EReal => a * b) (blk0 m c t r k) (blk4 m c t k j)
  · exact (blk15 m c t r j).trans (cosines m c (at_ t r) j)
  · exact Finset.sum_congr rfl fun k _ => congrArg₂ (fun a b : EReal => a * b) (blk0 m c t r k) (blk5 m c t k j)
  · exact (blk16 m c t r j).trans (sines m c (at_ t r) j)

/-- A lane of the latent queries of a tile. -/
theorem laneQ_block (hl : ∀ r k, ∃ z : ℝ, latQ (argX m c) (argW m c) (argGq m c) r k = z) (hu : ∀ i, ∃ z : ℝ, argUq m c i = z)
    (t : Fin cfg0.N) (r : Fin 512) (f : Fin 1024) :
    (k0_pay9 (F := Ideal) (k0_pay8 (iblk m c 0 t) (iblk m c 2 t) (iblk m c 6 t)) (iblk m c 8 t) (ix2 r f)
          * (show EReal from iblk m c 13 t (ix2 r ⟨f % 128, Nat.mod_lt _ (by decide)⟩))
        + k0_pay10 (F := Ideal) (k0_pay8 (iblk m c 0 t) (iblk m c 2 t) (iblk m c 6 t)) (iblk m c 9 t) (ix2 r f)
          * (show EReal from iblk m c 14 t (ix2 r ⟨f % 128, Nat.mod_lt _ (by decide)⟩))) * scale
      = laneQ (argX m c) (argW m c) (argGq m c) (argUq m c) (at_ t r) ⟨f / 128, by omega⟩ ⟨f % 128, Nat.mod_lt _ (by decide)⟩ := by
  rw [lanes_payload, turned_payload, ← laneQ_of_columns _ _ _ _ _ _ _ (hl _) hu]
  refine congrArg (fun z : EReal => z * scale)
    (congrArg₂ (fun a b : EReal => a + b) (congrArg₂ (fun a b : EReal => a * b) ?_ ?_) (congrArg₂ (fun a b : EReal => a * b) ?_ ?_))
  · exact Finset.sum_congr rfl fun k _ => congrArg₂ (fun a b : EReal => a * b) (latQ_block m c t r k) ((blk8 m c t k f).trans (q_lanes m c k f))
  · exact (blk13 m c t r _).trans (cos_lanes m c (at_ t r) _)
  · exact Finset.sum_congr rfl fun k _ => congrArg₂ (fun a b : EReal => a * b) (latQ_block m c t r k) ((blk9 m c t k f).trans (q_turned m c k f))
  · exact (blk14 m c t r _).trans (sin_lanes m c (at_ t r) _)

/-- A lane of the latent keys of a tile. -/
theorem laneK_block (hx : ∀ i, ∃ z : ℝ, argX m c i = z) (hw : ∀ i, ∃ z : ℝ, argW m c i = z) (t : Fin cfg0.N) (r : Fin 512) (f : Fin 1024) :
    k0_pay1 (F := Ideal)
        (k0_pay24 (k0_pay3 (iblk m c 0 t)) (iblk m c 4 t) (iblk m c 5 t) (iblk m c 15 t) (iblk m c 16 t))
        (k0_pay25 (k0_pay3 (iblk m c 0 t)) (iblk m c 3 t) (iblk m c 7 t) (iblk m c 10 t)) (iblk m c 12 t) (ix2 r f)
      = laneK (argX m c) (argW m c) (argGkv m c) (argUkv m c) (at_ t r) ⟨f / 128, by omega⟩ ⟨f % 128, Nat.mod_lt _ (by decide)⟩ := by
  rw [placed_payload, plain_payload, ← laneK_of_columns]
  refine congrArg₂ (fun a b : EReal => a + b) ?_ ?_
  · exact Finset.sum_congr rfl fun k _ => congrArg₂ (fun a b : EReal => a * b) (latKV_block m c t r k) ((blk10 m c t k f).trans (k_lanes m c k f))
  · exact Finset.sum_congr rfl fun k _ => congrArg₂ (fun a b : EReal => a * b) (rope_block m c hx hw t r k) ((blk12 m c t k f).trans (placement m c k f))

/-- A feature of the latent values of a tile. -/
theorem value_block (t : Fin cfg0.N) (r : Fin 512) (f : Fin 512) :
    k0_pay2 (F := Ideal) (k0_pay23 (k0_pay3 (iblk m c 0 t)) (iblk m c 3 t) (iblk m c 7 t)) (iblk m c 11 t) (ix2 r f)
      = headKV (argX m c) (argW m c) (argGkv m c) (argUkv m c) (at_ t r) ⟨f / 64, by omega⟩ ⟨64 + f % 64, by omega⟩ := by
  rw [values_payload]
  unfold headKV
  exact Finset.sum_congr rfl fun k _ => congrArg₂ (fun a b : EReal => a * b) (latKV_block m c t r k) (blk11 m c t k f)

/-! ## The arrays -/

/-- A block's value, read through a row of its tile. -/
theorem out_eq {n : ℕ} {t : Fin cfg0.N} {r : Fin 512} {f : Fin n} {A : Mat 16384 n} {i : (⟨2, ![16384, n]⟩ : Shape).Idx} {v : EReal}
    (h : v = A (ix2 (at_ t r) f)) (h0 : (i 0).val = 512 * (tile t).val + r.val) (h1 : (i 1).val = f.val) : v = A i := by
  rw [h]
  refine congrArg A (funext fun a => ?_)
  match a with
  | ⟨0, _⟩ => exact Fin.ext h0.symm
  | ⟨1, _⟩ => exact Fin.ext h1.symm

/-- The first window's rows, as the later payloads read them. -/
theorem rows_payload (t : Fin cfg0.N) :
    k0_pay26 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t)
      (iblk m c 15 t) (iblk m c 16 t) = k0_pay3 (iblk m c 0 t) := by
  unfold k0_pay26
  exact congrArg k0_pay3 (View.ld_unit_lit _ _ (by decide))

/-- The heads of whole blocks as they are loaded. -/
theorem heads_loaded (P0 : S512x1024.Idx → EReal) (P1 : S1024x512.Idx → EReal) (P2 : S1x512.Idx → EReal) (P3 : S512x1024.Idx → EReal)
    (P4 : S512x128.Idx → EReal) (P5 : S512x1024.Idx → EReal) (P6 : S512x128.Idx → EReal) (r : Fin 512) (f : Fin 1024) :
    LatentRun.heads (k0_pay9 (F := Ideal) (k0_pay8 (View.ld P0 r0_0) (View.ld P1 r0_3) (View.ld P2 r0_4)) (View.ld P3 r0_0))
        (k0_pay10 (F := Ideal) (k0_pay8 (View.ld P0 r0_0) (View.ld P1 r0_3) (View.ld P2 r0_4)) (View.ld P5 r0_0)) (View.ld (Val := Elt Ideal) (e' := .f32) P4 r0_5)
        (View.ld (Val := Elt Ideal) (e' := .f32) P6 r0_5) (ix2 r f)
      = (k0_pay9 (F := Ideal) (k0_pay8 P0 P1 P2) P3 (ix2 r f) * P4 (ix2 r ⟨f % 128, Nat.mod_lt _ (by decide)⟩)
        + k0_pay10 (F := Ideal) (k0_pay8 P0 P1 P2) P5 (ix2 r f) * P6 (ix2 r ⟨f % 128, Nat.mod_lt _ (by decide)⟩)) * scale := by
  have h (Q0 : S512x1024.Idx → EReal) (Q1 : S1024x512.Idx → EReal) (Q2 : S1x512.Idx → EReal) (Q3 : S512x1024.Idx → EReal)
      (Q4 : S512x128.Idx → EReal) (Q5 : S512x1024.Idx → EReal) (Q6 : S512x128.Idx → EReal) (h0 : Q0 = P0) (h1 : Q1 = P1) (h2 : Q2 = P2)
      (h3 : Q3 = P3) (h4 : Q4 = P4) (h5 : Q5 = P5) (h6 : Q6 = P6) :
      LatentRun.heads (k0_pay9 (F := Ideal) (k0_pay8 Q0 Q1 Q2) Q3) (k0_pay10 (F := Ideal) (k0_pay8 Q0 Q1 Q2) Q5) Q4 Q6 (ix2 r f)
        = LatentRun.heads (k0_pay9 (F := Ideal) (k0_pay8 P0 P1 P2) P3) (k0_pay10 (F := Ideal) (k0_pay8 P0 P1 P2) P5) P4 P6 (ix2 r f) := by
    subst h0 h1 h2 h3 h4 h5 h6
    rfl
  exact h _ _ _ _ _ _ _ (View.ld_unit_lit _ _ (by decide)) (View.ld_unit_lit _ _ (by decide)) (View.ld_unit_lit _ _ (by decide))
    (View.ld_unit_lit _ _ (by decide)) (View.ld_unit_lit _ _ (by decide)) (View.ld_unit_lit _ _ (by decide)) (View.ld_unit_lit _ _ (by decide))

theorem final17 : (dats (F := Ideal) m 0 c).arrAt 17 cfg0.N = queryA (argX m c) (argW m c) := by
  refine (dats m 0 c).arrAt_eq_of_covers 17 _ (by decide +kernel) fun t hf y => ?_
  blk_simp
  rw [after0_17]
  frame_out
  refine (congrArg _ (ix2_eta y).symm).trans (out_eq ((query_payload _ _ (y 0) (y 1)).trans (congrArg (fun a : EReal => a * eighth) (local_block m c t (y 0) _))) ?_ ?_)
  · blk_simp [idx_out t]
    simp [Nat.mul_comm]
  · blk_simp [idx_out t]

theorem final18 : (dats (F := Ideal) m 0 c).arrAt 18 cfg0.N = keyA (argX m c) (argW m c) := by
  refine (dats m 0 c).arrAt_eq_of_covers 18 _ (by decide +kernel) fun t hf y => ?_
  blk_simp
  rw [after0_18]
  frame_out
  refine (congrArg _ (ix2_eta y).symm).trans (out_eq ((key_payload _ _ (y 0) (y 1)).trans (local_block m c t (y 0) _)) ?_ ?_)
  · blk_simp [idx_out t]
    simp [Nat.mul_comm]
  · blk_simp [idx_out t]

theorem final19 : (dats (F := Ideal) m 0 c).arrAt 19 cfg0.N = valueA (argX m c) (argW m c) := by
  refine (dats m 0 c).arrAt_eq_of_covers 19 _ (by decide +kernel) fun t hf y => ?_
  blk_simp
  rw [after0_19]
  frame_out
  refine (congrArg _ (ix2_eta y).symm).trans (out_eq ((value_payload _ _ (y 0) (y 1)).trans (local_block m c t (y 0) _)) ?_ ?_)
  · blk_simp [idx_out t]
    simp [Nat.mul_comm]
  · blk_simp [idx_out t]

theorem final20 (hl : ∀ r k, ∃ z : ℝ, latQ (argX m c) (argW m c) (argGq m c) r k = z) (hu : ∀ i, ∃ z : ℝ, argUq m c i = z) :
    (dats (F := Ideal) m 0 c).arrAt 20 cfg0.N = queryB (argX m c) (argW m c) (argGq m c) (argUq m c) := by
  refine (dats m 0 c).arrAt_eq_of_covers 20 _ (by decide +kernel) fun t hf y => ?_
  blk_simp
  rw [after0_20]
  unfold out0_20
  refine (LatentRun.canon_heads _ _ _ _ _ _ _ y).trans ?_
  refine (congrArg _ (ix2_eta y).symm).trans (out_eq ((heads_loaded _ _ _ _ _ _ _ (y 0) (y 1)).trans (laneQ_block m c hl hu t (y 0) (y 1))) ?_ ?_)
  · blk_simp [idx_out t]
    simp [Nat.mul_comm]
  · blk_simp [idx_out t]

theorem final21 (hx : ∀ i, ∃ z : ℝ, argX m c i = z) (hw : ∀ i, ∃ z : ℝ, argW m c i = z) :
    (dats (F := Ideal) m 0 c).arrAt 21 cfg0.N = keyB (argX m c) (argW m c) (argGkv m c) (argUkv m c) := by
  refine (dats m 0 c).arrAt_eq_of_covers 21 _ (by decide +kernel) fun t hf y => ?_
  blk_simp
  rw [after0_21]
  frame_out
  rw [rows_payload]
  refine (congrArg _ (ix2_eta y).symm).trans (out_eq (laneK_block m c hx hw t (y 0) (y 1)) ?_ ?_)
  · blk_simp [idx_out t]
    simp [Nat.mul_comm]
  · blk_simp [idx_out t]

theorem final22 : (dats (F := Ideal) m 0 c).arrAt 22 cfg0.N = valueB (argX m c) (argW m c) (argGkv m c) (argUkv m c) := by
  refine (dats m 0 c).arrAt_eq_of_covers 22 _ (by decide +kernel) fun t hf y => ?_
  blk_simp
  rw [after0_22]
  frame_out
  rw [rows_payload]
  refine (congrArg _ (ix2_eta y).symm).trans (out_eq (value_block m c t (y 0) (y 1)) ?_ ?_)
  · blk_simp [idx_out t]
    simp [Nat.mul_comm]
  · blk_simp [idx_out t]

end Cert.Proof.LatentArrays

end
-- ==== Proof.LatentRef.lean ====
/-
  The latent projections: the reference's six arrays.
-/
module

public import proofs.«01_k».proof.Proof.Latent
public import proofs.«01_k».proof.Proof.Gen.PrepABRefIdeal.Read

@[expose] public section

set_option maxRecDepth 16384
set_option Elab.async false

noncomputable section

namespace Cert.Proof.LatentRef

open Idealize.ShloMosaic Idealize.ShloMosaic.TcCoe Idealize.SL.Sem
open Cert.PrepABRefIdeal Cert.PrepABRefIdeal.Read Cert.Proof.Latent

variable (x0 : S16384x1024.Idx → EReal) (x1 : S1024x2336.Idx → EReal) (x2 : S512.Idx → EReal) (x3 : S256.Idx → EReal)
  (x4 : S512x768.Idx → EReal) (x5 : S256x1024.Idx → EReal)

theorem proj_at (r : Fin 16384) (f : Fin 2336) : val_main_v1 (F := Ideal) x0 x1 (ix2 r f) = proj x0 x1 r f := by
  rw [val_main_v1_apply]
  refine Finset.sum_congr rfl fun k _ => congrArg₂ (fun a b : EReal => a * b) (congrArg x0 (funext fun a => ?_)) (congrArg x1 (funext fun a => ?_))
  · match a with
    | ⟨0, _⟩ => rfl
    | ⟨1, _⟩ => rfl
  · match a with
    | ⟨0, _⟩ => rfl
    | ⟨1, _⟩ => rfl

/-- The columns of the query latent, of the key and value latent, and of the shared key. -/
theorem q_at (r : Fin 16384) (d : Fin 512) : val_main_v5 (F := Ideal) x0 x1 (ix2 r d) = proj x0 x1 r ⟨1536 + d, by omega⟩ := by
  rw [← proj_at, val_main_v5_apply]
  exact congrArg _ (funext fun a => match a with | ⟨0, _⟩ => rfl | ⟨1, _⟩ => rfl)

theorem kv_at (r : Fin 16384) (d : Fin 256) : val_main_v6 (F := Ideal) x0 x1 (ix2 r d) = proj x0 x1 r ⟨2048 + d, by omega⟩ := by
  rw [← proj_at, val_main_v6_apply]
  exact congrArg _ (funext fun a => match a with | ⟨0, _⟩ => rfl | ⟨1, _⟩ => rfl)

theorem kr_at (r : Fin 16384) (d : Fin 32) : val_main_v7 (F := Ideal) x0 x1 (ix2 r d) = proj x0 x1 r ⟨2304 + d, by omega⟩ := by
  rw [← proj_at, val_main_v7_apply]
  exact congrArg _ (funext fun a => match a with | ⟨0, _⟩ => rfl | ⟨1, _⟩ => rfl)

theorem latQ_at (r : Fin 16384) (k : Fin 512) : val_main_v20 (F := Ideal) x0 x1 x2 (ix2 r k) = latQ x0 x1 x2 r k := by
  rw [val_main_v20_apply, val_main_v17_apply, val_main_v16_apply, val_main_v15_apply, val_main_v14_apply, val_main_v13_apply, val_main_cst_1_apply,
    val_main_v12_apply, val_main_v11_apply, val_main_cst_0_apply, val_main_v10_apply, val_main_v9_apply, val_main_v19_apply, val_main_v18_apply, q_at]
  have e : ∀ (i : S16384x512.Idx) (d : Fin 512), i = ix2 r d → val_main_v8 (F := Ideal) x0 x1 i
      = proj x0 x1 r ⟨1536 + d, by omega⟩ * proj x0 x1 r ⟨1536 + d, by omega⟩ := by
    rintro _ d rfl
    rw [val_main_v8_apply, q_at]; rfl
  unfold latQ normed
  refine congrArg₂ (fun a b : EReal => a * b) (congrArg (fun z : EReal => _ * Ideal.rsqrt (Ideal.div z _ + _)) ?_)
    (congrArg x2 (funext fun a => match a with | ⟨0, _⟩ => rfl))
  refine Eq.trans (congrArg₂ (fun a b : EReal => a + b) Ideal.ofBits_zero_f32 (Finset.sum_congr rfl fun d _ => e _ d (funext fun a => ?_))) (zero_add _)
  match a with
  | ⟨0, _⟩ => rfl
  | ⟨1, _⟩ => rfl

theorem latKV_at (r : Fin 16384) (k : Fin 256) : val_main_v70 (F := Ideal) x0 x1 x3 (ix2 r k) = latKV x0 x1 x3 r k := by
  rw [val_main_v70_apply, val_main_v67_apply, val_main_v66_apply, val_main_v65_apply, val_main_v64_apply, val_main_v63_apply, val_main_cst_8_apply,
    val_main_v62_apply, val_main_v61_apply, val_main_cst_7_apply, val_main_v60_apply, val_main_v59_apply, val_main_v69_apply, val_main_v68_apply, kv_at]
  have e : ∀ (i : S16384x256.Idx) (d : Fin 256), i = ix2 r d → val_main_v58 (F := Ideal) x0 x1 i
      = proj x0 x1 r ⟨2048 + d, by omega⟩ * proj x0 x1 r ⟨2048 + d, by omega⟩ := by
    rintro _ d rfl
    rw [val_main_v58_apply, kv_at]; rfl
  unfold latKV normed
  refine congrArg₂ (fun a b : EReal => a * b) (congrArg (fun z : EReal => _ * Ideal.rsqrt (Ideal.div z _ + _)) ?_)
    (congrArg x3 (funext fun a => match a with | ⟨0, _⟩ => rfl))
  refine Eq.trans (congrArg₂ (fun a b : EReal => a + b) Ideal.ofBits_zero_f32 (Finset.sum_congr rfl fun d _ => e _ d (funext fun a => ?_))) (zero_add _)
  match a with
  | ⟨0, _⟩ => rfl
  | ⟨1, _⟩ => rfl

theorem headQ_at (r : Fin 16384) (h : Fin 8) (j : Fin 96) : val_main_v22 (F := Ideal) x0 x1 x2 x4 (ix3 r h j) = headQ x0 x1 x2 x4 r h j := by
  unfold val_main_v22 headQ
  pointwise
  rw [val_main_v21_apply]
  refine Finset.sum_congr rfl fun k _ => congrArg₂ (fun a b : EReal => a * b) ?_ (congrArg x4 (funext fun a => ?_))
  · rw [← latQ_at]
    exact congrArg _ (funext fun a => match a with | ⟨0, _⟩ => rfl | ⟨1, _⟩ => rfl)
  · match a with
    | ⟨0, _⟩ => rfl
    | ⟨1, _⟩ => rfl

theorem headKV_at (r : Fin 16384) (h : Fin 8) (j : Fin 128) : val_main_v72 (F := Ideal) x0 x1 x3 x5 (ix3 r h j) = headKV x0 x1 x3 x5 r h j := by
  unfold val_main_v72 headKV
  pointwise
  rw [val_main_v71_apply]
  refine Finset.sum_congr rfl fun k _ => congrArg₂ (fun a b : EReal => a * b) ?_ (congrArg x5 (funext fun a => ?_))
  · rw [← latKV_at]
    exact congrArg _ (funext fun a => match a with | ⟨0, _⟩ => rfl | ⟨1, _⟩ => rfl)
  · match a with
    | ⟨0, _⟩ => rfl
    | ⟨1, _⟩ => rfl

/-- The angles. -/
theorem angle_at (r : Fin 16384) (i : Fin 16) : val_main_v39 (F := Ideal) (ix2 r i) = angle r i := by
  unfold angle
  pointwise [val_main_v39, val_main_v37, val_main_v38, val_main_v36, val_main_v35, val_main_v34, val_main_v33, val_main_v32, val_main_v31,
    val_main_v30, val_main_v29, val_main_v28, val_main_v27, val_main_v26, val_main_v25, val_main_v0, val_main_cst_2, val_main_cst_3, val_main_cst_4, val_main_cst_5]

theorem angle_key_at (r : Fin 16384) (i : Fin 16) : val_main_v88 (F := Ideal) (ix2 r i) = angle r i := by
  unfold angle
  pointwise [val_main_v88, val_main_v86, val_main_v87, val_main_v85, val_main_v84, val_main_v83, val_main_v82, val_main_v81, val_main_v80,
    val_main_v79, val_main_v78, val_main_v77, val_main_v76, val_main_v75, val_main_v74, val_main_v0, val_main_cst_9, val_main_cst_10, val_main_cst_11, val_main_cst_12]

/-- The turned features of a query head. -/
theorem roped_at (r : Fin 16384) (h : Fin 8) (j : Fin 32) : val_main_v56 (F := Ideal) x0 x1 x2 x4 (ix3 r h j)
    = roped (fun j => headQ x0 x1 x2 x4 r h ⟨64 + j, by omega⟩) r j := by
  unfold roped
  pointwise [val_main_v56, val_main_v50, val_main_v55, val_main_v47, val_main_v49, val_main_v52, val_main_v54, val_main_v46, val_main_v48,
    val_main_v51, val_main_v53, val_main_v41, val_main_v43, val_main_v40, val_main_v42, angle_at, val_main_v44, val_main_v45, val_main_v24, headQ_at]
  split
  · rfl
  · simp only [show 16 + ((j : ℕ) - 16) = j by omega]

/-- The turned features of the shared key. -/
theorem roped_key_at (r : Fin 16384) (z : Fin 1) (j : Fin 32) : val_main_v101 (F := Ideal) x0 x1 (ix3 r z j)
    = roped (fun j => proj x0 x1 r ⟨2304 + j, by omega⟩) r j := by
  unfold roped
  pointwise [val_main_v101, val_main_v97, val_main_v100, val_main_v95, val_main_v96, val_main_v98, val_main_v99, val_main_v90, val_main_v92,
    val_main_v89, val_main_v91, angle_key_at, val_main_v93, val_main_v94, val_main_v73, kr_at]
  split
  · rfl
  · simp only [show 16 + ((j : ℕ) - 16) = j by omega]

/-- The padding value. -/
theorem pad_zero : (FloatOps.sitofp (F := Ideal) FTy.f32 0#32 : EReal) = 0 := by
  show (((0#32 : BitVec 32).toInt : ℝ) : EReal) = 0
  simp

theorem laneQ_at (r : Fin 16384) (f : Fin 1024) : val_main_v118 (F := Ideal) x0 x1 x2 x4 (ix2 r f) = queryB x0 x1 x2 x4 (ix2 r f) := by
  unfold queryB laneQ
  pointwise [val_main_v118, val_main_v108, val_main_v107, val_main_v106, val_main_v105, val_main_cst_13, val_main_v57, val_main_v23, roped_at, headQ_at, val_main_call0_v0, val_main_c]
  have h8 : (f : ℕ) / 128 < 8 := by omega
  by_cases h1 : (f : ℕ) % 128 < 64
  · have h : (f : ℕ) / 128 < 8 ∧ (f : ℕ) % 128 < 96 := ⟨h8, by omega⟩
    simp only [dif_pos h, dif_pos h1]
  · by_cases h2 : (f : ℕ) % 128 - 64 < 32
    · have h : (f : ℕ) / 128 < 8 ∧ (f : ℕ) % 128 < 96 := ⟨h8, by omega⟩
      simp only [dif_pos h, dif_neg h1, dif_pos h2]
    · have h : ¬((f : ℕ) / 128 < 8 ∧ (f : ℕ) % 128 < 96) := fun h => h2 (by omega)
      simp only [dif_neg h, dif_neg h1, dif_neg h2]
      exact pad_zero

theorem laneK_at (r : Fin 16384) (f : Fin 1024) : val_main_v119 (F := Ideal) x0 x1 x3 x5 (ix2 r f) = keyB x0 x1 x3 x5 (ix2 r f) := by
  unfold keyB laneK
  pointwise [val_main_v119, val_main_v114, val_main_v113, val_main_v104, val_main_v103, val_main_v102, roped_key_at, headKV_at, val_main_call1_v0, val_main_c_15]
  have h8 : (f : ℕ) / 128 < 8 := by omega
  by_cases h1 : (f : ℕ) % 128 < 64
  · have h : (f : ℕ) / 128 < 8 ∧ (f : ℕ) % 128 < 96 := ⟨h8, by omega⟩
    simp only [dif_pos h, dif_pos h1]
  · by_cases h2 : (f : ℕ) % 128 - 64 < 32
    · have h : (f : ℕ) / 128 < 8 ∧ (f : ℕ) % 128 < 96 := ⟨h8, by omega⟩
      simp only [dif_pos h, dif_neg h1, dif_pos h2]
    · have h : ¬((f : ℕ) / 128 < 8 ∧ (f : ℕ) % 128 < 96) := fun h => h2 (by omega)
      simp only [dif_neg h, dif_neg h1, dif_neg h2]
      exact pad_zero

theorem value_at (r : Fin 16384) (f : Fin 512) : val_main_v120 (F := Ideal) x0 x1 x3 x5 (ix2 r f) = valueB x0 x1 x3 x5 (ix2 r f) := by
  unfold valueB
  pointwise [val_main_v120, val_main_v110, val_main_v109, headKV_at]

theorem reference_queryB : val_main_v118 (F := Ideal) x0 x1 x2 x4 = queryB x0 x1 x2 x4 := by
  funext i
  rw [← ix2_eta i]
  exact laneQ_at x0 x1 x2 x4 _ _

theorem reference_keyB : val_main_v119 (F := Ideal) x0 x1 x3 x5 = keyB x0 x1 x3 x5 := by
  funext i
  rw [← ix2_eta i]
  exact laneK_at x0 x1 x3 x5 _ _

theorem reference_valueB : val_main_v120 (F := Ideal) x0 x1 x3 x5 = valueB x0 x1 x3 x5 := by
  funext i
  rw [← ix2_eta i]
  exact value_at x0 x1 x3 x5 _ _

theorem reference_queryA : val_main_v115 (F := Ideal) x0 x1 = queryA x0 x1 := by
  funext i
  rw [← ix2_eta i]
  unfold queryA
  pointwise [val_main_v115, val_main_v112, val_main_v2, val_main_v111, val_main_cst_14, proj_at]

theorem reference_keyA : val_main_v116 (F := Ideal) x0 x1 = keyA x0 x1 := by
  funext i
  rw [← ix2_eta i]
  unfold keyA
  pointwise [val_main_v116, val_main_v3, proj_at]

theorem reference_valueA : val_main_v117 (F := Ideal) x0 x1 = valueA x0 x1 := by
  funext i
  rw [← ix2_eta i]
  unfold valueA
  pointwise [val_main_v117, val_main_v4, proj_at]

end Cert.Proof.LatentRef

end
-- ==== Proof.LatentReal.lean ====
/-
  The latent projections' precondition: the inputs, the projection's weights, the query norm and the latent query weights are
  real numbers, and so is the normed query latent.
-/
module

public import proofs.«01_k».proof.Proof.Gen.Pre_finite_projections
public import proofs.«01_k».proof.Proof.Finite
public import proofs.«01_k».proof.Proof.Latent

@[expose] public section

noncomputable section

namespace Cert.Proof.LatentReal

open Idealize.ShloMosaic Cert.Pre_finite_projections Cert.Pre_finite_projections.Gen Cert.Proof.Latent

instance : Subsingleton S_.Idx := ⟨fun _ _ => funext fun a => a.elim0⟩

/-- A number that is neither infinity is real. -/
theorem real_of_finite {x : EReal} (h : x ≠ ⊤ ∧ x ≠ ⊥) : ∃ z : ℝ, x = z := ⟨x.toReal, (EReal.coe_toReal h.1 h.2).symm⟩

/-- What the precondition says of the arguments. -/
theorem real_of_pre (x : FVec Ideal S16384x1024 .f32) (w : FVec Ideal S1024x2336 .f32) (gq : FVec Ideal S512 .f32) (gkv : FVec Ideal S256 .f32)
    (uq : FVec Ideal S512x768 .f32) (ukv : FVec Ideal S256x1024 .f32) (h : fn x w gq gkv uq ukv = fun _ => 1#1) :
    (∀ i, ∃ z : ℝ, x i = z) ∧ (∀ i, ∃ z : ℝ, w i = z) ∧ (∀ i, ∃ z : ℝ, gq i = z) ∧ (∀ i, ∃ z : ℝ, uq i = z) := by
  have e := congrFun h (fun a : Fin 0 => a.elim0)
  dsimp only [fn, fn_part1] at e
  obtain ⟨e, eu⟩ := IntOp.andi_eq_one.mp e
  obtain ⟨e, eg⟩ := IntOp.andi_eq_one.mp e
  obtain ⟨ex, ew⟩ := IntOp.andi_eq_one.mp e
  exact ⟨fun i => real_of_finite (Finite.real_of_compare (Host.reduce_andi_all _ _ _ _ _ ex i)),
    fun i => real_of_finite (Finite.real_of_compare (Host.reduce_andi_all _ _ _ _ _ ew i)),
    fun i => real_of_finite (Finite.real_of_compare (Host.reduce_andi_all _ _ _ _ _ eg i)),
    fun i => real_of_finite (Finite.real_of_compare (Host.reduce_andi_all _ _ _ _ _ eu i))⟩

/-- The width of the query latent and the norm's epsilon are positive real numbers. -/
theorem width_real : ∃ v : ℝ, 0 < v ∧ Ideal.ofBits .f32 0x44000000#32 = (v : EReal) := by
  refine ⟨_, ?_, by simp [Ideal.ofBits, Ideal.ieee]; rfl⟩
  norm_num

theorem eps_real : ∃ e : ℝ, 0 < e ∧ eps = (e : EReal) := by
  refine ⟨_, ?_, by simp [eps, Ideal.ofBits, Ideal.ieee]; rfl⟩
  norm_num

/-- The normed query latent is real. -/
theorem latQ_real (x : Mat 16384 1024) (w : Mat 1024 2336) (gq : Row 512) (hx : ∀ i, ∃ z : ℝ, x i = z) (hw : ∀ i, ∃ z : ℝ, w i = z)
    (hg : ∀ i, ∃ z : ℝ, gq i = z) (r : Fin 16384) (k : Fin 512) : ∃ z : ℝ, latQ x w gq r k = z := by
  obtain ⟨v, hv, ev⟩ := width_real
  obtain ⟨e, he, ee⟩ := eps_real
  unfold latQ
  rw [ev]
  exact real_normed v e hv he ee _ _ (fun d => real_sum _ _ (fun _ => hx _) fun _ => hw _) (fun d => hg _) k

end Cert.Proof.LatentReal

end
-- ==== Proof.lean ====
module

public import proofs.«01_k».proof.Defs
public import proofs.«01_k».proof.Proof.Gen.AttnA
public import proofs.«01_k».proof.Proof.Gen.AttnA.Skeleton
public import proofs.«01_k».proof.Proof.Gen.AttnA.Launch
public import proofs.«01_k».proof.Proof.Gen.AttnA.Points
public import proofs.«01_k».proof.Proof.Gen.AttnA.Frame
public import proofs.«01_k».proof.Proof.Gen.AttnAIdeal
public import proofs.«01_k».proof.Proof.Gen.AttnAIdeal.Skeleton
public import proofs.«01_k».proof.Proof.Gen.AttnAIdeal.Launch
public import proofs.«01_k».proof.Proof.Gen.AttnAIdeal.Points
public import proofs.«01_k».proof.Proof.Gen.AttnAIdeal.Frame
public import proofs.«01_k».proof.Proof.Gen.AttnARefIdeal
public import proofs.«01_k».proof.Proof.Gen.Expert
public import proofs.«01_k».proof.Proof.Gen.Expert.Skeleton
public import proofs.«01_k».proof.Proof.Gen.Expert.Launch
public import proofs.«01_k».proof.Proof.Gen.Expert.Loops
public import proofs.«01_k».proof.Proof.Gen.Expert.Flash.Runs
public import proofs.«01_k».proof.Proof.Gen.ExpertIdeal
public import proofs.«01_k».proof.Proof.Gen.ExpertIdeal.Skeleton
public import proofs.«01_k».proof.Proof.Gen.ExpertIdeal.Launch
public import proofs.«01_k».proof.Proof.Gen.ExpertIdeal.Loops
public import proofs.«01_k».proof.Proof.Gen.ExpertIdeal.Flash.Runs
public import proofs.«01_k».proof.Proof.Gen.ExpertRefIdeal
public import proofs.«01_k».proof.Proof.Gen.ExpertRefIdeal.Run
public import proofs.«01_k».proof.Proof.Gen.ExpertRefIdeal.Read
public import proofs.«01_k».proof.Proof.Gen.Pre_tables
public import proofs.«01_k».proof.Proof.Gen.On_filled_rows
public import proofs.«01_k».proof.Proof.Gen.Pre_finite
public import proofs.«01_k».proof.Proof.Gen.AttnAIdeal.Value
public import proofs.«01_k».proof.Proof.Gen.AttnARefIdeal.Run
public import proofs.«01_k».proof.Proof.Gen.AttnARefIdeal.Read
public import proofs.«01_k».proof.Proof.Gen.PrepC
public import proofs.«01_k».proof.Proof.Gen.PrepC.Skeleton
public import proofs.«01_k».proof.Proof.Gen.PrepC.Launch
public import proofs.«01_k».proof.Proof.Gen.PrepC.Points
public import proofs.«01_k».proof.Proof.Gen.PrepC.Frame
public import proofs.«01_k».proof.Proof.Gen.PrepCIdeal
public import proofs.«01_k».proof.Proof.Gen.PrepCIdeal.Skeleton
public import proofs.«01_k».proof.Proof.Gen.PrepCIdeal.Launch
public import proofs.«01_k».proof.Proof.Gen.PrepCIdeal.Points
public import proofs.«01_k».proof.Proof.Gen.PrepCIdeal.Frame
public import proofs.«01_k».proof.Proof.Gen.PrepCIdeal.Value
public import proofs.«01_k».proof.Proof.Gen.PrepCRefIdeal
public import proofs.«01_k».proof.Proof.Gen.PrepCRefIdeal.Run
public import proofs.«01_k».proof.Proof.Gen.PrepCRefIdeal.Read
public import proofs.«01_k».proof.Proof.Gen.PostAB
public import proofs.«01_k».proof.Proof.Gen.PostAB.Skeleton
public import proofs.«01_k».proof.Proof.Gen.PostAB.Launch
public import proofs.«01_k».proof.Proof.Gen.PostAB.Points
public import proofs.«01_k».proof.Proof.Gen.PostAB.Frame
public import proofs.«01_k».proof.Proof.Gen.PostABIdeal
public import proofs.«01_k».proof.Proof.Gen.PostABIdeal.Skeleton
public import proofs.«01_k».proof.Proof.Gen.PostABIdeal.Launch
public import proofs.«01_k».proof.Proof.Gen.PostABIdeal.Points
public import proofs.«01_k».proof.Proof.Gen.PostABIdeal.Frame
public import proofs.«01_k».proof.Proof.Gen.PostABIdeal.Value
public import proofs.«01_k».proof.Proof.Gen.PostABRefIdeal
public import proofs.«01_k».proof.Proof.Gen.PostABRefIdeal.Run
public import proofs.«01_k».proof.Proof.Gen.PostABRefIdeal.Read
public import proofs.«01_k».proof.Proof.Gen.PostC
public import proofs.«01_k».proof.Proof.Gen.PostC.Skeleton
public import proofs.«01_k».proof.Proof.Gen.PostC.Launch
public import proofs.«01_k».proof.Proof.Gen.PostC.Points
public import proofs.«01_k».proof.Proof.Gen.PostC.Frame
public import proofs.«01_k».proof.Proof.Gen.PostCIdeal
public import proofs.«01_k».proof.Proof.Gen.PostCIdeal.Skeleton
public import proofs.«01_k».proof.Proof.Gen.PostCIdeal.Launch
public import proofs.«01_k».proof.Proof.Gen.PostCIdeal.Points
public import proofs.«01_k».proof.Proof.Gen.PostCIdeal.Frame
public import proofs.«01_k».proof.Proof.Gen.PostCIdeal.Value
public import proofs.«01_k».proof.Proof.Gen.PostCRefIdeal
public import proofs.«01_k».proof.Proof.Gen.PostCRefIdeal.Run
public import proofs.«01_k».proof.Proof.Gen.PostCRefIdeal.Read
public import proofs.«01_k».proof.Proof.Gen.PrepAB
public import proofs.«01_k».proof.Proof.Gen.PrepAB.Skeleton
public import proofs.«01_k».proof.Proof.Gen.PrepAB.Launch
public import proofs.«01_k».proof.Proof.Gen.PrepAB.Points
public import proofs.«01_k».proof.Proof.Gen.PrepABIdeal
public import proofs.«01_k».proof.Proof.Gen.PrepABIdeal.Skeleton
public import proofs.«01_k».proof.Proof.Gen.PrepABIdeal.Launch
public import proofs.«01_k».proof.Proof.Gen.PrepABIdeal.Points
public import proofs.«01_k».proof.Proof.Gen.PrepABRefIdeal
public import proofs.«01_k».proof.Proof.Gen.PrepABRefIdeal.Run
public import proofs.«01_k».proof.Proof.Gen.PrepABRefIdeal.Read
public import proofs.«01_k».proof.Proof.Gen.Pre_finite_projections
public import proofs.«01_k».proof.Proof.KernelValue
public import proofs.«01_k».proof.Proof.RefValue
public import proofs.«01_k».proof.Proof.Finite
public import proofs.«01_k».proof.Proof.ExpertFrame
public import proofs.«01_k».proof.Proof.ExpertValue
public import proofs.«01_k».proof.Proof.ExpertRef
public import proofs.«01_k».proof.Proof.ExpertPre
public import proofs.«01_k».proof.Proof.PrepValue
public import proofs.«01_k».proof.Proof.PostABValue
public import proofs.«01_k».proof.Proof.PostCValue
public import proofs.«01_k».proof.Proof.LatentFrame
public import proofs.«01_k».proof.Proof.LatentArrays
public import proofs.«01_k».proof.Proof.LatentRef
public import proofs.«01_k».proof.Proof.LatentReal
public import Idealize.ShloMosaic.Adequacy
public import Idealize.ShloMosaic.Init

@[expose] public section

noncomputable section

namespace Cert.Proof

open Idealize.ShloMosaic Idealize.SL.Sem Cert.AttnA

/-- Both programs' results are the band of the arguments. -/
theorem algebraic_attn_a : Cert.algebraic_AttnAIdeal_AttnARefIdeal_pre_finite (hAttnAIdeal := Cert.AttnAIdeal.Gen.facts)
    (hAttnARefIdeal := Cert.AttnARefIdeal.Gen.facts) (hPre_finite := Cert.Pre_finite.Gen.facts) := by
  intro m g m' g' hpre hargs
  refine ⟨fun c => KernelValue.result m c, ?_, ?_⟩
  · refine (θ_run (Cert.AttnAIdeal.defs (F := Ideal)) _ _).mono (fun r h c => ?_) (Cert.AttnAIdeal.Value.run_blocks m g)
    obtain ⟨hv, h0, h1, h2, h3⟩ := h c
    exact ⟨hv.trans (KernelValue.final m c), h0, h1, h2, h3⟩
  · refine (θ_run (Cert.AttnARefIdeal.defs (F := Ideal)) _ _).mono (fun r h c => ?_) (Cert.AttnARefIdeal.Value.run m' g')
    obtain ⟨hv, h0, h1, h2, h3⟩ := h c
    refine ⟨hv.trans ?_, h0, h1, h2, h3⟩
    obtain ⟨hQ, hK, hB⟩ := Finite.real_of_pre _ _ _ _ (hpre c)
    rw [Cert.AttnARefIdeal.Read.val_main_v79_eq, (hargs c).1, (hargs c).2.1, (hargs c).2.2.1, (hargs c).2.2.2]
    funext i
    rw [← ix2_eta i]
    exact RefValue.result _ _ _ _ hQ hK hB (i 0) (i 1)

/-- The reference launches no kernel: its run leaves the argument arrays, and it declares no semaphore. -/
theorem frame_reference (m : (ℓ : Loc Cert.AttnARefIdeal.nD Cert.AttnARefIdeal.τ Cert.AttnARefIdeal.sig) → Buf (Elt Ideal) ℓ)
    (g : Dev Cert.AttnARefIdeal.nD → PrngReg) :
    θ_run (Cert.AttnARefIdeal.defs (F := Ideal)) (onTc (τ := Cert.AttnARefIdeal.τ) (Cert.AttnARefIdeal.main (F := Ideal)))
      ⟨m, fun _ => 0, g⟩ (fun r => (∀ c : Dev Cert.AttnARefIdeal.nD,
        r.2.mem ((c.tc : Thread Cert.AttnARefIdeal.nD Cert.AttnARefIdeal.τ).loc Cert.AttnARefIdeal.main_arg0) = m ((c.tc : Thread Cert.AttnARefIdeal.nD Cert.AttnARefIdeal.τ).loc Cert.AttnARefIdeal.main_arg0)
        ∧ r.2.mem ((c.tc : Thread Cert.AttnARefIdeal.nD Cert.AttnARefIdeal.τ).loc Cert.AttnARefIdeal.main_arg1) = m ((c.tc : Thread Cert.AttnARefIdeal.nD Cert.AttnARefIdeal.τ).loc Cert.AttnARefIdeal.main_arg1)
        ∧ r.2.mem ((c.tc : Thread Cert.AttnARefIdeal.nD Cert.AttnARefIdeal.τ).loc Cert.AttnARefIdeal.main_arg2) = m ((c.tc : Thread Cert.AttnARefIdeal.nD Cert.AttnARefIdeal.τ).loc Cert.AttnARefIdeal.main_arg2)
        ∧ r.2.mem ((c.tc : Thread Cert.AttnARefIdeal.nD Cert.AttnARefIdeal.τ).loc Cert.AttnARefIdeal.main_arg3) = m ((c.tc : Thread Cert.AttnARefIdeal.nD Cert.AttnARefIdeal.τ).loc Cert.AttnARefIdeal.main_arg3))
        ∧ r.2.sem = fun _ => 0) :=
  (θ_run Cert.AttnARefIdeal.defs _ _).mono
    (fun r h => ⟨fun c => (h c).2, Idealize.ShloMosaic.sem_eq_zero_of_no_sems (by decide) r.2⟩)
    (Cert.AttnARefIdeal.Value.run (F := Ideal) m g)

/-- The machine has one device. -/
theorem one_device (c : Dev Cert.ExpertIdeal.nD) : c = 0 := Subsingleton.elim (α := Fin 1) _ _

/-- Good tables of the idealized kernel's memory. -/
theorem good_ideal (m : (ℓ : Loc Cert.ExpertIdeal.nD Cert.ExpertIdeal.τ Cert.ExpertIdeal.sig) → Buf (Elt Ideal) ℓ)
    (hpre : Cert.Pre_ExpertIdeal (hPre_tables := Cert.Pre_tables.Gen.facts) m) (c : Dev Cert.ExpertIdeal.nD) :
    ExpertIdealTables.Good (m ((c.tc : Thread Cert.ExpertIdeal.nD Cert.ExpertIdeal.τ).loc Cert.ExpertIdeal.main_arg0))
      (m ((c.tc : Thread Cert.ExpertIdeal.nD Cert.ExpertIdeal.τ).loc Cert.ExpertIdeal.main_arg1)) := by
  obtain ⟨h0, h1, h2⟩ := ExpertPre.read _ _ _ _ _ _ _ (hpre c)
  exact ⟨h0, h1, h2⟩

/-- The frame of the kernel at words. -/
theorem frame_expert : Cert.quiescent_Expert (hExpert := Cert.Expert.Gen.facts) (hPre_tables := Cert.Pre_tables.Gen.facts) := by
  intro m g hpre
  obtain ⟨h0, h1, h2⟩ := ExpertPre.read _ _ _ _ _ _ _ (hpre 0)
  refine ExpertFrame.frame _ _ ⟨h0, h1, h2⟩ m g (fun c => ?_) (fun c => ?_)
  · rw [one_device c]
  · rw [one_device c]

theorem frame_expert_ideal : Cert.quiescent_ExpertIdeal (hExpertIdeal := Cert.ExpertIdeal.Gen.facts) (hPre_tables := Cert.Pre_tables.Gen.facts) :=
  fun m g hpre => (θ_run (Cert.ExpertIdeal.defs (F := Ideal)) _ _).mono (fun r h => ⟨fun c => (h.1 c).2, h.2⟩) (ExpertBody.run _ _ (good_ideal m hpre 0) m g (fun c => by rw [one_device c]) (fun c => by rw [one_device c]))

theorem frame_expert_reference : Cert.quiescent_ExpertRefIdeal (hExpertRefIdeal := Cert.ExpertRefIdeal.Gen.facts) :=
  fun m g _ => (θ_run (Cert.ExpertRefIdeal.defs (F := Ideal)) _ _).mono
    (fun r h => ⟨fun c => (h c).2, Idealize.ShloMosaic.sem_eq_zero_of_no_sems (by decide) r.2⟩)
    (Cert.ExpertRefIdeal.Value.run (F := Ideal) m g)

/-- At the rows of the filled tiles both programs' results are each row's MLP under its tile's expert. -/
theorem algebraic_expert : Cert.algebraic_ExpertIdeal_ExpertRefIdeal_on_filled_rows (hExpertIdeal := Cert.ExpertIdeal.Gen.facts)
    (hExpertRefIdeal := Cert.ExpertRefIdeal.Gen.facts) (hPre_tables := Cert.Pre_tables.Gen.facts)
    (hOn_filled_rows := Cert.On_filled_rows.Gen.facts) := by
  intro m g m' g' hpre hargs
  have hg := good_ideal m hpre 0
  refine ⟨fun c => ExpertValue.all _ _ hg m c, ?_, ?_⟩
  · refine (θ_run (Cert.ExpertIdeal.defs (F := Ideal)) _ _).mono (fun r h c => ?_) (ExpertBody.run _ _ (good_ideal m hpre 0) m g (fun c => by rw [one_device c]) (fun c => by rw [one_device c]))
    obtain ⟨hv, hrest⟩ := h.1 c
    refine ⟨fun i hi => ?_, hrest⟩
    obtain rfl := one_device c
    exact (congrFun hv i).trans (ExpertValue.final _ _ hg m g 0 i (ExpertPre.filled_of_mask _ _ _ _ _ _ _ hg.le i hi))
  · refine (θ_run (Cert.ExpertRefIdeal.defs (F := Ideal)) _ _).mono (fun r h c => ?_) (Cert.ExpertRefIdeal.Value.run (F := Ideal) m' g')
    obtain ⟨hv, hrest⟩ := h c
    refine ⟨fun i hi => ?_, hrest⟩
    obtain rfl := one_device c
    obtain ⟨a0, a1, a2, a3, a4, a5, a6⟩ := hargs 0
    have hb : (i 0).val < 73728 := (i 0).isLt
    refine (congrFun hv i).trans ?_
    rw [Cert.ExpertRefIdeal.Read.val_main_v52_eq, a0, a2, a3, a4, a5, a6]
    exact (ExpertRef.result _ _ _ _ _ _ hg.expert i ⟨(i 0).val / 256, by omega⟩ ⟨(i 0).val % 256, by omega⟩ (i 1) (Nat.div_add_mod _ 256).symm rfl).trans
      (ExpertValue.all_eq _ _ hg m 0 i ⟨(i 0).val / 256, by omega⟩ ⟨(i 0).val % 256, by omega⟩ (i 1) (Nat.div_add_mod _ 256).symm rfl).symm

theorem frame_prep_reference : Cert.quiescent_PrepCRefIdeal (hPrepCRefIdeal := Cert.PrepCRefIdeal.Gen.facts) :=
  fun m g _ => (θ_run (Cert.PrepCRefIdeal.defs (F := Ideal)) _ _).mono
    (fun r h => ⟨fun c => (h c).2.2.2, Idealize.ShloMosaic.sem_eq_zero_of_no_sems (by decide) r.2⟩)
    (Cert.PrepCRefIdeal.Value.run (F := Ideal) m g)

theorem frame_post_ab_reference : Cert.quiescent_PostABRefIdeal (hPostABRefIdeal := Cert.PostABRefIdeal.Gen.facts) :=
  fun m g _ => (θ_run (Cert.PostABRefIdeal.defs (F := Ideal)) _ _).mono
    (fun r h => ⟨fun c => (h c).2, Idealize.ShloMosaic.sem_eq_zero_of_no_sems (by decide) r.2⟩)
    (Cert.PostABRefIdeal.Value.run (F := Ideal) m g)

theorem frame_post_c_reference : Cert.quiescent_PostCRefIdeal (hPostCRefIdeal := Cert.PostCRefIdeal.Gen.facts) :=
  fun m g _ => (θ_run (Cert.PostCRefIdeal.defs (F := Ideal)) _ _).mono
    (fun r h => ⟨fun c => (h c).2, Idealize.ShloMosaic.sem_eq_zero_of_no_sems (by decide) r.2⟩)
    (Cert.PostCRefIdeal.Value.run (F := Ideal) m g)

/-- Both programs' results are the row's projections. -/
theorem algebraic_prep : Cert.algebraic_PrepCIdeal_PrepCRefIdeal (hPrepCIdeal := Cert.PrepCIdeal.Gen.facts)
    (hPrepCRefIdeal := Cert.PrepCRefIdeal.Gen.facts) := by
  intro m g m' g' _ hargs
  refine ⟨fun c => PrepValue.query (m ((c.tc : Thread Cert.PrepCIdeal.nD Cert.PrepCIdeal.τ).loc Cert.PrepCIdeal.main_arg0)) (m ((c.tc : Thread Cert.PrepCIdeal.nD Cert.PrepCIdeal.τ).loc Cert.PrepCIdeal.main_arg1)),
    fun c => PrepValue.key (m ((c.tc : Thread Cert.PrepCIdeal.nD Cert.PrepCIdeal.τ).loc Cert.PrepCIdeal.main_arg0)) (m ((c.tc : Thread Cert.PrepCIdeal.nD Cert.PrepCIdeal.τ).loc Cert.PrepCIdeal.main_arg1)),
    fun c => PrepValue.value (m ((c.tc : Thread Cert.PrepCIdeal.nD Cert.PrepCIdeal.τ).loc Cert.PrepCIdeal.main_arg0)) (m ((c.tc : Thread Cert.PrepCIdeal.nD Cert.PrepCIdeal.τ).loc Cert.PrepCIdeal.main_arg1)), ?_, ?_⟩
  · refine (θ_run (Cert.PrepCIdeal.defs (F := Ideal)) _ _).mono (fun r h c => ?_) (Cert.PrepCIdeal.Value.run_blocks m g)
    obtain ⟨h2, h3, h4, hrest⟩ := h c
    exact ⟨h2.trans (PrepValue.final2 m c), h3.trans (PrepValue.final3 m c), h4.trans (PrepValue.final4 m c), hrest⟩
  · refine (θ_run (Cert.PrepCRefIdeal.defs (F := Ideal)) _ _).mono (fun r h c => ?_) (Cert.PrepCRefIdeal.Value.run (F := Ideal) m' g')
    obtain ⟨h2, h3, h4, hrest⟩ := h c
    obtain ⟨a0, a1⟩ := hargs c
    refine ⟨h2.trans ?_, h3.trans ?_, h4.trans ?_, hrest⟩
    · rw [Cert.PrepCRefIdeal.Read.val_main_v6_eq, a0, a1]
      exact PrepValue.reference_query _ _
    · rw [Cert.PrepCRefIdeal.Read.val_main_v7_eq, a0, a1]
      exact PrepValue.reference_key _ _
    · rw [Cert.PrepCRefIdeal.Read.val_main_v8_eq, a0, a1]
      exact PrepValue.reference_value _ _

/-- Both programs' results are the normed rows. -/
theorem algebraic_post_ab : Cert.algebraic_PostABIdeal_PostABRefIdeal (hPostABIdeal := Cert.PostABIdeal.Gen.facts)
    (hPostABRefIdeal := Cert.PostABRefIdeal.Gen.facts) := by
  intro m g m' g' _ hargs
  refine ⟨fun c => _, (θ_run (Cert.PostABIdeal.defs (F := Ideal)) _ _).mono
    (fun r h c => ⟨(h c).1.trans (PostABValue.final m c), (h c).2⟩) (Cert.PostABIdeal.Value.run_blocks m g), ?_⟩
  refine (θ_run (Cert.PostABRefIdeal.defs (F := Ideal)) _ _).mono (fun r h c => ?_) (Cert.PostABRefIdeal.Value.run (F := Ideal) m' g')
  obtain ⟨hv, hrest⟩ := h c
  obtain ⟨a0, a1, a2, a3, a4, a5⟩ := hargs c
  refine ⟨hv.trans ?_, hrest⟩
  rw [Cert.PostABRefIdeal.Read.val_main_v30_eq, a0, a1, a2, a3, a4, a5]
  exact PostABValue.reference_result _ _ _ _ _ _

theorem algebraic_post_c : Cert.algebraic_PostCIdeal_PostCRefIdeal (hPostCIdeal := Cert.PostCIdeal.Gen.facts)
    (hPostCRefIdeal := Cert.PostCRefIdeal.Gen.facts) := by
  intro m g m' g' _ hargs
  refine ⟨fun c => _, (θ_run (Cert.PostCIdeal.defs (F := Ideal)) _ _).mono
    (fun r h c => ⟨(h c).1.trans (PostCValue.final m c), (h c).2⟩) (Cert.PostCIdeal.Value.run_blocks m g), ?_⟩
  refine (θ_run (Cert.PostCRefIdeal.defs (F := Ideal)) _ _).mono (fun r h c => ?_) (Cert.PostCRefIdeal.Value.run (F := Ideal) m' g')
  obtain ⟨hv, hrest⟩ := h c
  obtain ⟨a0, a1, a2, a3, a4⟩ := hargs c
  refine ⟨hv.trans ?_, hrest⟩
  rw [Cert.PostCRefIdeal.Read.val_main_v28_eq, a0, a1, a2, a3, a4]
  exact PostCValue.reference_result _ _ _ _ _

theorem frame_prep_ab_reference : Cert.quiescent_PrepABRefIdeal (hPrepABRefIdeal := Cert.PrepABRefIdeal.Gen.facts) :=
  fun m g _ => (θ_run (Cert.PrepABRefIdeal.defs (F := Ideal)) _ _).mono
    (fun r h => ⟨fun c => (h c).2.2.2.2.2.2, Idealize.ShloMosaic.sem_eq_zero_of_no_sems (by decide) r.2⟩)
    (Cert.PrepABRefIdeal.Value.run (F := Ideal) m g)

/-- Both programs' results are the rows' queries, keys and values of the two groups of heads. -/
theorem algebraic_prep_ab : Cert.algebraic_PrepABIdeal_PrepABRefIdeal_pre_finite_projections (hPrepABIdeal := Cert.PrepABIdeal.Gen.facts)
    (hPrepABRefIdeal := Cert.PrepABRefIdeal.Gen.facts) (hPre_finite_projections := Cert.Pre_finite_projections.Gen.facts) := by
  intro m g m' g' hpre hargs
  refine ⟨fun c => Latent.queryA (LatentTables.argX m c) (LatentTables.argW m c),
    fun c => Latent.keyA (LatentTables.argX m c) (LatentTables.argW m c),
    fun c => Latent.valueA (LatentTables.argX m c) (LatentTables.argW m c),
    fun c => Latent.queryB (LatentTables.argX m c) (LatentTables.argW m c) (LatentTables.argGq m c) (LatentTables.argUq m c),
    fun c => Latent.keyB (LatentTables.argX m c) (LatentTables.argW m c) (LatentTables.argGkv m c) (LatentTables.argUkv m c),
    fun c => Latent.valueB (LatentTables.argX m c) (LatentTables.argW m c) (LatentTables.argGkv m c) (LatentTables.argUkv m c), ?_, ?_⟩
  · refine (θ_run (Cert.PrepABIdeal.defs (F := Ideal)) _ _).mono (fun r h c => ?_) (LatentRun.run m g)
    obtain ⟨h0, h1, h2, h3, h4, h5, hrest⟩ := h c
    obtain ⟨hx, hw, hg, hu⟩ := LatentReal.real_of_pre _ _ _ _ _ _ (hpre c)
    exact ⟨h0.trans (LatentArrays.final17 m c), h1.trans (LatentArrays.final18 m c), h2.trans (LatentArrays.final19 m c),
      h3.trans (LatentArrays.final20 m c (LatentReal.latQ_real _ _ _ hx hw hg) hu), h4.trans (LatentArrays.final21 m c hx hw),
      h5.trans (LatentArrays.final22 m c), hrest⟩
  · refine (θ_run (Cert.PrepABRefIdeal.defs (F := Ideal)) _ _).mono (fun r h c => ?_) (Cert.PrepABRefIdeal.Value.run (F := Ideal) m' g')
    obtain ⟨h0, h1, h2, h3, h4, h5, hrest⟩ := h c
    obtain ⟨a0, a1, a2, a3, a4, a5⟩ := hargs c
    refine ⟨h0.trans ?_, h1.trans ?_, h2.trans ?_, h3.trans ?_, h4.trans ?_, h5.trans ?_, hrest⟩
    · rw [Cert.PrepABRefIdeal.Read.val_main_v115_eq, a0, a1]
      exact LatentRef.reference_queryA _ _
    · rw [Cert.PrepABRefIdeal.Read.val_main_v116_eq, a0, a1]
      exact LatentRef.reference_keyA _ _
    · rw [Cert.PrepABRefIdeal.Read.val_main_v117_eq, a0, a1]
      exact LatentRef.reference_valueA _ _
    · rw [Cert.PrepABRefIdeal.Read.val_main_v118_eq, a0, a1, a2, a4]
      exact LatentRef.reference_queryB _ _ _ _
    · rw [Cert.PrepABRefIdeal.Read.val_main_v119_eq, a0, a1, a3, a5]
      exact LatentRef.reference_keyB _ _ _ _
    · rw [Cert.PrepABRefIdeal.Read.val_main_v120_eq, a0, a1, a3, a5]
      exact LatentRef.reference_valueB _ _ _ _

theorem claim : Cert.Claim := ⟨Cert.AttnA.Gen.facts, Cert.AttnAIdeal.Gen.facts, Cert.AttnARefIdeal.Gen.facts,
  Cert.Expert.Gen.facts, Cert.ExpertIdeal.Gen.facts, Cert.ExpertRefIdeal.Gen.facts,
  Cert.PrepC.Gen.facts, Cert.PrepCIdeal.Gen.facts, Cert.PrepCRefIdeal.Gen.facts,
  Cert.PostAB.Gen.facts, Cert.PostABIdeal.Gen.facts, Cert.PostABRefIdeal.Gen.facts,
  Cert.PostC.Gen.facts, Cert.PostCIdeal.Gen.facts, Cert.PostCRefIdeal.Gen.facts,
  Cert.PrepAB.Gen.facts, Cert.PrepABIdeal.Gen.facts, Cert.PrepABRefIdeal.Gen.facts,
  Cert.Pre_finite.Gen.facts, Cert.Pre_tables.Gen.facts, Cert.Pre_finite_projections.Gen.facts, Cert.On_filled_rows.Gen.facts,
  fun m g _ => Cert.AttnA.Gen.frame m g, fun m g _ => Cert.AttnAIdeal.Gen.frame m g, fun m g _ => Cert.AttnAIdeal.Gen.frame m g,
  fun m g _ => frame_reference m g, fun m g _ => frame_reference m g,
  frame_expert, frame_expert_ideal, frame_expert_reference, fun m g _ => frame_expert_reference m g trivial,
  fun m g _ => Cert.PrepC.Gen.frame m g, fun m g _ => Cert.PrepCIdeal.Gen.frame m g, frame_prep_reference,
  fun m g _ => Cert.PostAB.Gen.frame m g, fun m g _ => Cert.PostABIdeal.Gen.frame m g, frame_post_ab_reference,
  fun m g _ => Cert.PostC.Gen.frame m g, fun m g _ => Cert.PostCIdeal.Gen.frame m g, frame_post_c_reference,
  fun m g _ => Cert.PrepAB.Gen.frame m g, fun m g _ => Cert.PrepABIdeal.Gen.frame m g, fun m g _ => Cert.PrepABIdeal.Gen.frame m g,
  frame_prep_ab_reference, fun m g _ => frame_prep_ab_reference m g trivial,
  IdealRules.named_const.statement Cert.AttnAIdeal.κ "mask" .f32 0xF149F2CA#32 ⊥ rfl, algebraic_attn_a,
  trivial, algebraic_expert, trivial, algebraic_prep, trivial, algebraic_post_ab, trivial, algebraic_post_c,
  trivial, algebraic_prep_ab⟩

end Cert.Proof

end
